-- ==== Defs.lean ====
def Pre_Kernel [hPre_well_formed : Cert.Pre_well_formed.Facts] (m : (ℓ : Loc Cert.Kernel.nD Cert.Kernel.τ Cert.Kernel.sig) → Buf (Elt Bits) ℓ) : Prop :=
  ∀ c : Dev Cert.Kernel.nD,
    (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.1 = (fun _ => 1#1)
    ∧ (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2.1 = (fun _ => 1#1)
    ∧ (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2.2.1 = (fun _ => 1#1)
    ∧ (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2.2.2 = (fun _ => 1#1)

def Pre_KernelIdeal [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] [hPre_well_formed : Cert.Pre_well_formed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel) (hPre_well_formed := hPre_well_formed)
    ∧ quiescent_KernelIdeal (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal (hKernelIdeal := hKernelIdeal) (hReferenceIdeal := hReferenceIdeal) (hPre_well_formed := hPre_well_formed)
-- ==== Pre_well_formed.lean ====
abbrev S3x640x960 : Shape := ⟨3, ![3, 640, 960]⟩
abbrev S3x4480x8 : Shape := ⟨3, ![3, 4480, 8]⟩
abbrev S3x640 : Shape := ⟨2, ![3, 640]⟩
abbrev S3x81 : Shape := ⟨2, ![3, 81]⟩
abbrev S3x80 : Shape := ⟨2, ![3, 80]⟩
abbrev S3x5x128 : Shape := ⟨3, ![3, 5, 128]⟩
abbrev S5 : Shape := ⟨1, ![5]⟩
abbrev S1x5x1 : Shape := ⟨3, ![1, 5, 1]⟩
abbrev S_ : Shape := ⟨0, ![]⟩
abbrev S3x1 : Shape := ⟨2, ![3, 1]⟩
abbrev S3 : Shape := ⟨1, ![3]⟩
abbrev S3x80x8 : Shape := ⟨3, ![3, 80, 8]⟩
abbrev S3x80x1 : Shape := ⟨3, ![3, 80, 1]⟩

class Facts : Prop where
  slices_S3x81_S3x80_0_1 : S3x81.Slices ![0, 1] S3x80
  slices_S3x81_S3x80_0_0 : S3x81.Slices ![0, 0] S3x80
  shapeCasts_S3x640_S3x5x128 : S3x640.ShapeCasts S3x5x128
  bcast_S5_S1x5x1_1 : S5.BroadcastsInDim S1x5x1 (![1] : Fin 1 → Fin S1x5x1.rank)
  bcast_S_S1x5x1 : S_.BroadcastsInDim S1x5x1 (![] : Fin 0 → Fin S1x5x1.rank)
  bcast_S1x5x1_S3x5x128_0_1_2 : S1x5x1.BroadcastsInDim S3x5x128 (![0, 1, 2] : Fin 3 → Fin S3x5x128.rank)
  slices_S3x81_S3x1_0_0 : S3x81.Slices ![0, 0] S3x1
  shapeCasts_S3x1_S3 : S3x1.ShapeCasts S3
  bcast_S_S3 : S_.BroadcastsInDim S3 (![] : Fin 0 → Fin S3.rank)
  bcast_S_S3x80 : S_.BroadcastsInDim S3x80 (![] : Fin 0 → Fin S3x80.rank)
  shapeCasts_S3x640_S3x80x8 : S3x640.ShapeCasts S3x80x8
  bcast_S3x80_S3x80x1_0_1 : S3x80.BroadcastsInDim S3x80x1 (![0, 1] : Fin 2 → Fin S3x80x1.rank)
  bcast_S3x80x1_S3x80x8_0_1_2 : S3x80x1.BroadcastsInDim S3x80x8 (![0, 1, 2] : Fin 3 → Fin S3x80x8.rank)
  bcast_S_S3x5x128 : S_.BroadcastsInDim S3x5x128 (![] : Fin 0 → Fin S3x5x128.rank)
  natLt_8_32 : 8 < 32
  bcast_S_S3x4480x8 : S_.BroadcastsInDim S3x4480x8 (![] : Fin 0 → Fin S3x4480x8.rank)
  bcast_S_S3x640 : S_.BroadcastsInDim S3x640 (![] : Fin 0 → Fin S3x640.rank)

variable [Facts]

def fn_part1 {F : FTy → Type} [FloatOps F] (main_arg1 : IVec S3x4480x8 8) (main_arg3 : FVec F S3x640 .f32) (main_v2 : IVec S3x80 32) (main_v9 : IVec S3x5x128 32) (main_v13 : IVec S3 1) (main_v18 : IVec S3x80 1) (main_v19 : IVec S3x80x8 32) : IVec S3 1 × IVec S3x80 1 × IVec S3x80x8 1 × IVec S3x5x128 1 × IVec S3x4480x8 1 × IVec S3x640 1 :=
  let main_v20 : IVec S3x80x1 32 := broadcastInDim S3x80x1 ![0, 1] bcast_S3x80_S3x80x1_0_1 main_v2
  let main_v21 : IVec S3x80x8 32 := broadcastInDim S3x80x8 ![0, 1, 2] bcast_S3x80x1_S3x80x8_0_1_2 main_v20
  let main_v22 : IVec S3x80x8 1 := cmpi .sle main_v19 main_v21
  let main_c_3 : IVec S_ 32 := constantI S_ 32 0#32
  let main_v23 : IVec S3x5x128 32 := broadcastInDim S3x5x128 ![] bcast_S_S3x5x128 main_c_3
  let main_v24 : IVec S3x5x128 1 := cmpi .sge main_v9 main_v23
  let main_c_4 : IVec S_ 32 := constantI S_ 32 128#32
  let main_v25 : IVec S3x5x128 32 := broadcastInDim S3x5x128 ![] bcast_S_S3x5x128 main_c_4
  let main_v26 : IVec S3x5x128 1 := cmpi .slt main_v9 main_v25
  let main_v27 : IVec S3x5x128 1 := andi main_v24 main_v26
  let main_v28 : IVec S3x4480x8 32 := (extui 32 · natLt_8_32) main_arg1
  let main_c_5 : IVec S_ 32 := constantI S_ 32 127#32
  let main_v29 : IVec S3x4480x8 32 := broadcastInDim S3x4480x8 ![] bcast_S_S3x4480x8 main_c_5
  let main_v30 : IVec S3x4480x8 32 := andi main_v28 main_v29
  let main_c_6 : IVec S_ 32 := constantI S_ 32 127#32
  let main_v31 : IVec S3x4480x8 32 := broadcastInDim S3x4480x8 ![] bcast_S_S3x4480x8 main_c_6
  let main_v32 : IVec S3x4480x8 1 := cmpi .ne main_v30 main_v31
  let main_v33 : FVec F S3x640 .f32 := Host.absf main_arg3
  let main_cst : FVec F S_ .f32 := constant S_ .f32 0x7F800000#32
  let main_v34 : FVec F S3x640 .f32 := broadcastInDim S3x640 ![] bcast_S_S3x640 main_cst
  let main_v35 : IVec S3x640 1 := cmpf .olt main_v33 main_v34
  (main_v13, main_v18, main_v22, main_v27, main_v32, main_v35)

def fn {F : FTy → Type} [FloatOps F] (main_arg0 : FVec F S3x640x960 .bf16) (main_arg1 : IVec S3x4480x8 8) (main_arg2 : IVec S3x4480x8 32) (main_arg3 : FVec F S3x640 .f32) (main_arg4 : IVec S3x640 32) (main_arg5 : IVec S3x81 32) (main_arg6 : IVec S3x640 32) : IVec S3 1 × IVec S3x80 1 × IVec S3x80x8 1 × IVec S3x5x128 1 × IVec S3x4480x8 1 × IVec S3x640 1 :=
  let main_v0 : IVec S3x80 32 := (extractStridedSlice S3x80 ![0, 1] · slices_S3x81_S3x80_0_1) main_arg5
  let main_v1 : IVec S3x80 32 := (extractStridedSlice S3x80 ![0, 0] · slices_S3x81_S3x80_0_0) main_arg5
  let main_v2 : IVec S3x80 32 := subi main_v0 main_v1
  let main_v3 : IVec S3x5x128 32 := shapeCast S3x5x128 main_arg6 shapeCasts_S3x640_S3x5x128
  let main_v4 : IVec S5 32 := iotaInDim S5 32 0
  let main_v5 : IVec S1x5x1 32 := broadcastInDim S1x5x1 ![1] bcast_S5_S1x5x1_1 main_v4
  let main_c : IVec S_ 32 := constantI S_ 32 128#32
  let main_v6 : IVec S1x5x1 32 := broadcastInDim S1x5x1 ![] bcast_S_S1x5x1 main_c
  let main_v7 : IVec S1x5x1 32 := muli main_v5 main_v6
  let main_v8 : IVec S3x5x128 32 := broadcastInDim S3x5x128 ![0, 1, 2] bcast_S1x5x1_S3x5x128_0_1_2 main_v7
  let main_v9 : IVec S3x5x128 32 := subi main_v3 main_v8
  let main_v10 : IVec S3x1 32 := (extractStridedSlice S3x1 ![0, 0] · slices_S3x81_S3x1_0_0) main_arg5
  let main_v11 : IVec S3 32 := shapeCast S3 main_v10 shapeCasts_S3x1_S3
  let main_c_0 : IVec S_ 32 := constantI S_ 32 0#32
  let main_v12 : IVec S3 32 := broadcastInDim S3 ![] bcast_S_S3 main_c_0
  let main_v13 : IVec S3 1 := cmpi .eq main_v11 main_v12
  let main_c_1 : IVec S_ 32 := constantI S_ 32 0#32
  let main_v14 : IVec S3x80 32 := broadcastInDim S3x80 ![] bcast_S_S3x80 main_c_1
  let main_v15 : IVec S3x80 1 := cmpi .sge main_v2 main_v14
  let main_c_2 : IVec S_ 32 := constantI S_ 32 56#32
  let main_v16 : IVec S3x80 32 := broadcastInDim S3x80 ![] bcast_S_S3x80 main_c_2
  let main_v17 : IVec S3x80 1 := cmpi .sle main_v2 main_v16
  let main_v18 : IVec S3x80 1 := andi main_v15 main_v17
  let main_v19 : IVec S3x80x8 32 := shapeCast S3x80x8 main_arg4 shapeCasts_S3x640_S3x80x8
  fn_part1 (F := F) main_arg1 main_arg3 main_v2 main_v9 main_v13 main_v18 main_v19
-- ==== Kernel.lean ====
abbrev S3x640x960 : Shape := ⟨3, ![3, 640, 960]⟩
abbrev S3x4480x8 : Shape := ⟨3, ![3, 4480, 8]⟩
abbrev S3x640 : Shape := ⟨2, ![3, 640]⟩
abbrev S3x81 : Shape := ⟨2, ![3, 81]⟩
abbrev S1x640x960 : Shape := ⟨3, ![1, 640, 960]⟩
abbrev S1x4480x8 : Shape := ⟨3, ![1, 4480, 8]⟩
abbrev S8x4480 : Shape := ⟨2, ![8, 4480]⟩
abbrev S128x128 : Shape := ⟨2, ![128, 128]⟩
abbrev S640x960 : Shape := ⟨2, ![640, 960]⟩
abbrev S3x640x640 : Shape := ⟨3, ![3, 640, 640]⟩
abbrev S8x128 : Shape := ⟨2, ![8, 128]⟩
abbrev S1x128x8 : Shape := ⟨3, ![1, 128, 8]⟩
abbrev S128x8 : Shape := ⟨2, ![128, 8]⟩
abbrev S1x128 : Shape := ⟨2, ![1, 128]⟩
abbrev S1x128x960 : Shape := ⟨3, ![1, 128, 960]⟩
abbrev S128x960 : Shape := ⟨2, ![128, 960]⟩
abbrev S16x960 : Shape := ⟨2, ![16, 960]⟩
abbrev S1x16 : Shape := ⟨2, ![1, 16]⟩
abbrev S1x1 : Shape := ⟨2, ![1, 1]⟩
abbrev S56x128 : Shape := ⟨2, ![56, 128]⟩
abbrev S160x128 : Shape := ⟨2, ![160, 128]⟩
abbrev S20x8x128 : Shape := ⟨3, ![20, 8, 128]⟩
abbrev S1x160x128 : Shape := ⟨3, ![1, 160, 128]⟩
abbrev S1x640x640 : Shape := ⟨3, ![1, 640, 640]⟩
abbrev S640x640 : Shape := ⟨2, ![640, 640]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 8
  | .vmem => 21
  | .smem => 1
  | _ => 0

abbrev bufTy : (tb : Table) → Fin (tcTables nBuf tb) → BufTy
  | .hbm, ⟨0, _⟩ => ⟨S3x640x960, .bf16⟩
  | .hbm, ⟨1, _⟩ => ⟨S3x4480x8, .i8⟩
  | .hbm, ⟨2, _⟩ => ⟨S3x4480x8, .i32⟩
  | .hbm, ⟨3, _⟩ => ⟨S3x640, .f32⟩
  | .hbm, ⟨4, _⟩ => ⟨S3x640, .i32⟩
  | .hbm, ⟨5, _⟩ => ⟨S3x640, .i32⟩
  | .hbm, ⟨6, _⟩ => ⟨S3x4480x8, .fp8e4m3⟩
  | .hbm, ⟨7, _⟩ => ⟨S3x640x960, .bf16⟩
  | .local _ .vmem, ⟨0, _⟩ => ⟨S1x640x960, .bf16⟩
  | .local _ .vmem, ⟨1, _⟩ => ⟨S1x640x960, .bf16⟩
  | .local _ .vmem, ⟨2, _⟩ => ⟨S1x4480x8, .fp8e4m3⟩
  | .local _ .vmem, ⟨3, _⟩ => ⟨S1x4480x8, .fp8e4m3⟩
  | .local _ .vmem, ⟨4, _⟩ => ⟨S1x4480x8, .i32⟩
  | .local _ .vmem, ⟨5, _⟩ => ⟨S1x4480x8, .i32⟩
  | .local _ .vmem, ⟨6, _⟩ => ⟨S3x640, .f32⟩
  | .local _ .vmem, ⟨7, _⟩ => ⟨S3x640, .i32⟩
  | .local _ .vmem, ⟨8, _⟩ => ⟨S3x640, .i32⟩
  | .local _ .vmem, ⟨9, _⟩ => ⟨S1x640x960, .bf16⟩
  | .local _ .vmem, ⟨10, _⟩ => ⟨S1x640x960, .bf16⟩
  | .local _ .vmem, ⟨11, _⟩ => ⟨S8x4480, .f32⟩
  | .local _ .vmem, ⟨12, _⟩ => ⟨S8x4480, .i32⟩
  | .local _ .vmem, ⟨13, _⟩ => ⟨S128x128, .f32⟩
  | .local _ .vmem, ⟨14, _⟩ => ⟨S128x128, .i32⟩
  | .local _ .vmem, ⟨15, _⟩ => ⟨S128x128, .f32⟩
  | .local _ .vmem, ⟨16, _⟩ => ⟨S128x128, .i32⟩
  | .local _ .vmem, ⟨17, _⟩ => ⟨S640x960, .bf16⟩
  | .local _ .vmem, ⟨18, _⟩ => ⟨S3x640x640, .bf16⟩
  | .local _ .vmem, ⟨19, _⟩ => ⟨S640x960, .f32⟩
  | .local _ .vmem, ⟨20, _⟩ => ⟨S8x128, .f32⟩
  | .local _ .smem, ⟨0, _⟩ => ⟨S3x81, .i32⟩
  | _, _ => ⟨S3x640x960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![3], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c35_i32 : BitVec 32 := 35#32
  let v1 : BitVec 32 := Scalar.addi c0_i32 c35_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c128_i32 : BitVec 32 := 128#32
  let v683 : BitVec 32 := Scalar.muli arg19 c128_i32
  v683
def k0_off1 (k0_t1 : Fin k0_t1_loop.trips) : Fin 3 → Nat :=
  let c0_664 : Index := 0#32
  let c0_i32 : BitVec 32 := 0#32
  let c1_i32 : BitVec 32 := 1#32
  let arg19 : BitVec 32 := Scf.iv c0_i32 c1_i32 k0_t1
  let c128_i32 : BitVec 32 := 128#32
  let v683 : BitVec 32 := Scalar.muli arg19 c128_i32
  let v684 : BitVec 32 := v683
  let v685 : Index := Scalar.indexCast v684
  let c0_665 : Index := 0#32
  ![0, v685.toNat, 0]
def k0_off2 (k0_t1 : Fin k0_t1_loop.trips) : Fin 2 → Nat :=
  let c0_666 : Index := 0#32
  let c0_i32 : BitVec 32 := 0#32
  let c1_i32 : BitVec 32 := 1#32
  let arg19 : BitVec 32 := Scf.iv c0_i32 c1_i32 k0_t1
  let c128_i32 : BitVec 32 := 128#32
  let v683 : BitVec 32 := Scalar.muli arg19 c128_i32
  let v684 : BitVec 32 := v683
  let v690 : Index := Scalar.indexCast v684
  ![0, v690.toNat]
@[reducible] def k0_t2_loop : Scf.Loop 32 :=
  let c0_i32_1 : BitVec 32 := 0#32
  let c5_i32 : BitVec 32 := 5#32
  let v3 : BitVec 32 := Scalar.addi c0_i32_1 c5_i32
  let c1_i32_2 : BitVec 32 := 1#32
  ⟨c0_i32_1, v3, c1_i32_2⟩
def k0_mult2 (k0_t2 : Fin k0_t2_loop.trips) : BitVec 32 :=
  let c0_i32_1 : BitVec 32 := 0#32
  let c1_i32_2 : BitVec 32 := 1#32
  let arg19 : BitVec 32 := Scf.iv c0_i32_1 c1_i32_2 k0_t2
  let c128_i32 : BitVec 32 := 128#32
  let v683 : BitVec 32 := Scalar.muli arg19 c128_i32
  v683
def k0_off3 (k0_t2 : Fin k0_t2_loop.trips) : Fin 2 → Nat :=
  let c0_664 : Index := 0#32
  let c0_i32_1 : BitVec 32 := 0#32
  let c1_i32_2 : BitVec 32 := 1#32
  let arg19 : BitVec 32 := Scf.iv c0_i32_1 c1_i32_2 k0_t2
  let c128_i32 : BitVec 32 := 128#32
  let v683 : BitVec 32 := Scalar.muli arg19 c128_i32
  let v684 : BitVec 32 := v683
  let v685 : Index := Scalar.indexCast v684
  ![0, v685.toNat]
def k0_off4 (k0_t2 : Fin k0_t2_loop.trips) : Fin 2 → Nat :=
  let c1_666 : Index := 1#32
  let c0_i32_1 : BitVec 32 := 0#32
  let c1_i32_2 : BitVec 32 := 1#32
  let arg19 : BitVec 32 := Scf.iv c0_i32_1 c1_i32_2 k0_t2
  let c128_i32 : BitVec 32 := 128#32
  let v683 : BitVec 32 := Scalar.muli arg19 c128_i32
  let v684 : BitVec 32 := v683
  let v688 : Index := Scalar.indexCast v684
  ![1, v688.toNat]
def k0_off5 (k0_t2 : Fin k0_t2_loop.trips) : Fin 2 → Nat :=
  let c2_668 : Index := 2#32
  let c0_i32_1 : BitVec 32 := 0#32
  let c1_i32_2 : BitVec 32 := 1#32
  let arg19 : BitVec 32 := Scf.iv c0_i32_1 c1_i32_2 k0_t2
  let c128_i32 : BitVec 32 := 128#32
  let v683 : BitVec 32 := Scalar.muli arg19 c128_i32
  let v684 : BitVec 32 := v683
  let v692 : Index := Scalar.indexCast v684
  ![2, v692.toNat]
def k0_off6 (k0_t2 : Fin k0_t2_loop.trips) : Fin 3 → Nat :=
  let c0_669 : Index := 0#32
  let c0_i32_1 : BitVec 32 := 0#32
  let c1_i32_2 : BitVec 32 := 1#32
  let arg19 : BitVec 32 := Scf.iv c0_i32_1 c1_i32_2 k0_t2
  let c128_i32 : BitVec 32 := 128#32
  let v683 : BitVec 32 := Scalar.muli arg19 c128_i32
  let v684 : BitVec 32 := v683
  let v702 : Index := Scalar.indexCast v684
  let c0_670 : Index := 0#32
  ![0, v702.toNat, 0]
def k0_mult3 (k0_t2 : Fin k0_t2_loop.trips) : BitVec 32 :=
  let c0_i32_672 : BitVec 32 := 0#32
  let c0_i32_1 : BitVec 32 := 0#32
  let c1_i32_2 : BitVec 32 := 1#32
  let arg19 : BitVec 32 := Scf.iv c0_i32_1 c1_i32_2 k0_t2
  let v707 : BitVec 32 := Scalar.addi c0_i32_672 arg19
  let c16_i32 : BitVec 32 := 16#32
  let v709 : BitVec 32 := Scalar.muli v707 c16_i32
  v709
def k0_off7 (k0_t2 : Fin k0_t2_loop.trips) (c0_i32_672 : BitVec 32) : Fin 2 → Nat :=
  let c0_i32_1 : BitVec 32 := 0#32
  let c1_i32_2 : BitVec 32 := 1#32
  let arg19 : BitVec 32 := Scf.iv c0_i32_1 c1_i32_2 k0_t2
  let v707 : BitVec 32 := Scalar.addi c0_i32_672 arg19
  let c16_i32 : BitVec 32 := 16#32
  let v709 : BitVec 32 := Scalar.muli v707 c16_i32
  let v710 : BitVec 32 := v709
  let v711 : Index := Scalar.indexCast v710
  let c0_673 : Index := 0#32
  ![v711.toNat, 0]
def k0_mult4 (k0_t2 : Fin k0_t2_loop.trips) : BitVec 32 :=
  let c5_i32_674 : BitVec 32 := 5#32
  let c0_i32_1 : BitVec 32 := 0#32
  let c1_i32_2 : BitVec 32 := 1#32
  let arg19 : BitVec 32 := Scf.iv c0_i32_1 c1_i32_2 k0_t2
  let v715 : BitVec 32 := Scalar.addi c5_i32_674 arg19
  let c16_i32_675 : BitVec 32 := 16#32
  let v717 : BitVec 32 := Scalar.muli v715 c16_i32_675
  v717
def k0_mult5 (k0_t2 : Fin k0_t2_loop.trips) : BitVec 32 :=
  let c10_i32 : BitVec 32 := 10#32
  let c0_i32_1 : BitVec 32 := 0#32
  let c1_i32_2 : BitVec 32 := 1#32
  let arg19 : BitVec 32 := Scf.iv c0_i32_1 c1_i32_2 k0_t2
  let v723 : BitVec 32 := Scalar.addi c10_i32 arg19
  let c16_i32_677 : BitVec 32 := 16#32
  let v725 : BitVec 32 := Scalar.muli v723 c16_i32_677
  v725
def k0_mult6 (k0_t2 : Fin k0_t2_loop.trips) : BitVec 32 :=
  let c15_i32 : BitVec 32 := 15#32
  let c0_i32_1 : BitVec 32 := 0#32
  let c1_i32_2 : BitVec 32 := 1#32
  let arg19 : BitVec 32 := Scf.iv c0_i32_1 c1_i32_2 k0_t2
  let v731 : BitVec 32 := Scalar.addi c15_i32 arg19
  let c16_i32_679 : BitVec 32 := 16#32
  let v733 : BitVec 32 := Scalar.muli v731 c16_i32_679
  v733
def k0_mult7 (k0_t2 : Fin k0_t2_loop.trips) : BitVec 32 :=
  let c20_i32 : BitVec 32 := 20#32
  let c0_i32_1 : BitVec 32 := 0#32
  let c1_i32_2 : BitVec 32 := 1#32
  let arg19 : BitVec 32 := Scf.iv c0_i32_1 c1_i32_2 k0_t2
  let v739 : BitVec 32 := Scalar.addi c20_i32 arg19
  let c16_i32_681 : BitVec 32 := 16#32
  let v741 : BitVec 32 := Scalar.muli v739 c16_i32_681
  v741
def k0_mult8 (k0_t2 : Fin k0_t2_loop.trips) : BitVec 32 :=
  let c25_i32 : BitVec 32 := 25#32
  let c0_i32_1 : BitVec 32 := 0#32
  let c1_i32_2 : BitVec 32 := 1#32
  let arg19 : BitVec 32 := Scf.iv c0_i32_1 c1_i32_2 k0_t2
  let v747 : BitVec 32 := Scalar.addi c25_i32 arg19
  let c16_i32_683 : BitVec 32 := 16#32
  let v749 : BitVec 32 := Scalar.muli v747 c16_i32_683
  v749
def k0_mult9 (k0_t2 : Fin k0_t2_loop.trips) : BitVec 32 :=
  let c30_i32 : BitVec 32 := 30#32
  let c0_i32_1 : BitVec 32 := 0#32
  let c1_i32_2 : BitVec 32 := 1#32
  let arg19 : BitVec 32 := Scf.iv c0_i32_1 c1_i32_2 k0_t2
  let v755 : BitVec 32 := Scalar.addi c30_i32 arg19
  let c16_i32_685 : BitVec 32 := 16#32
  let v757 : BitVec 32 := Scalar.muli v755 c16_i32_685
  v757
def k0_mult10 (k0_t2 : Fin k0_t2_loop.trips) : BitVec 32 :=
  let c35_i32_687 : BitVec 32 := 35#32
  let c0_i32_1 : BitVec 32 := 0#32
  let c1_i32_2 : BitVec 32 := 1#32
  let arg19 : BitVec 32 := Scf.iv c0_i32_1 c1_i32_2 k0_t2
  let v763 : BitVec 32 := Scalar.addi c35_i32_687 arg19
  let c16_i32_688 : BitVec 32 := 16#32
  let v765 : BitVec 32 := Scalar.muli v763 c16_i32_688
  v765
@[reducible] def k0_t3_loop : Scf.Loop 32 :=
  let c0_i32_638 : BitVec 32 := 0#32
  let c5_i32_639 : BitVec 32 := 5#32
  let v658 : BitVec 32 := Scalar.addi c0_i32_638 c5_i32_639
  let c1_i32_640 : BitVec 32 := 1#32
  ⟨c0_i32_638, v658, c1_i32_640⟩
@[reducible] def k0_t4_loop : Scf.Loop 32 :=
  let c0_i32_665 : BitVec 32 := 0#32
  let c16_i32 : BitVec 32 := 16#32
  let v683 : BitVec 32 := Scalar.addi c0_i32_665 c16_i32
  let c1_i32_666 : BitVec 32 := 1#32
  ⟨c0_i32_665, v683, c1_i32_666⟩
def k0_off8 (i : grid0.Coords) (k0_t3 : Fin k0_t3_loop.trips) (k0_t4 : Fin k0_t4_loop.trips) : Fin 2 → Nat :=
  let arg0 : BitVec 32 := BitVec.ofNat 32 (i 0).val
  let v789 : Index := Scalar.indexCast arg0
  let c0_i32_638 : BitVec 32 := 0#32
  let c1_i32_640 : BitVec 32 := 1#32
  let arg19 : BitVec 32 := Scf.iv c0_i32_638 c1_i32_640 k0_t3
  let c8_i32 : BitVec 32 := 8#32
  let v729 : BitVec 32 := Scalar.muli arg19 c8_i32
  let c0_i32_665 : BitVec 32 := 0#32
  let c1_i32_666 : BitVec 32 := 1#32
  let arg20 : BitVec 32 := Scf.iv c0_i32_665 c1_i32_666 k0_t4
  let c0_i32_697 : BitVec 32 := 0#32
  let v731 : BitVec 1 := Scalar.cmpi .sgt arg20 c0_i32_697
  let v732 : BitVec 32 := Scalar.extui v731
  let c0_i32_698 : BitVec 32 := 0#32
  let v733 : BitVec 1 := Scalar.cmpi .slt arg20 c0_i32_698
  let v734 : BitVec 32 := Scalar.extui v733
  let v735 : BitVec 32 := Scalar.subi v732 v734
  let c2_i32_696 : BitVec 32 := 2#32
  let c0_i32_699 : BitVec 32 := 0#32
  let v736 : BitVec 1 := Scalar.cmpi .sgt c2_i32_696 c0_i32_699
  let v737 : BitVec 32 := Scalar.extui v736
  let c0_i32_700 : BitVec 32 := 0#32
  let v738 : BitVec 1 := Scalar.cmpi .slt c2_i32_696 c0_i32_700
  let v739 : BitVec 32 := Scalar.extui v738
  let v740 : BitVec 32 := Scalar.subi v737 v739
  let v741 : BitVec 1 := Scalar.cmpi .ne v735 v740
  let v742 : BitVec 32 := Scalar.remsi arg20 c2_i32_696
  let c0_i32_701 : BitVec 32 := 0#32
  let v743 : BitVec 1 := Scalar.cmpi .ne v742 c0_i32_701
  let v744 : BitVec 1 := Scalar.andi v741 v743
  let v730 : BitVec 32 := Scalar.divsi arg20 c2_i32_696
  let c1_i32_702 : BitVec 32 := 1#32
  let v745 : BitVec 32 := Scalar.subi v730 c1_i32_702
  let v746 : BitVec 32 := Scalar.select v744 v745 v730
  let v747 : BitVec 32 := Scalar.addi v729 v746
  let c5_i32_703 : BitVec 32 := 5#32
  let c0_i32_704 : BitVec 32 := 0#32
  let v748 : BitVec 1 := Scalar.cmpi .eq c5_i32_703 c0_i32_704
  let c1_i32_705 : BitVec 32 := 1#32
  let v749 : BitVec 32 := Scalar.select v748 c1_i32_705 c5_i32_703
  let v750 : BitVec 32 := Scalar.remsi v747 v749
  let c0_i32_707 : BitVec 32 := 0#32
  let v752 : BitVec 1 := Scalar.cmpi .slt v750 c0_i32_707
  let c0_i32_708 : BitVec 32 := 0#32
  let v753 : BitVec 1 := Scalar.cmpi .slt v749 c0_i32_708
  let v754 : BitVec 1 := Scalar.xori v752 v753
  let c0_i32_706 : BitVec 32 := 0#32
  let v751 : BitVec 1 := Scalar.cmpi .ne v750 c0_i32_706
  let v755 : BitVec 1 := Scalar.andi v754 v751
  let v756 : BitVec 32 := Scalar.addi v750 v749
  let v757 : BitVec 32 := Scalar.select v755 v756 v750
  let c16_i32_716 : BitVec 32 := 16#32
  let v775 : BitVec 32 := Scalar.muli v757 c16_i32_716
  let c0_i32_710 : BitVec 32 := 0#32
  let v759 : BitVec 1 := Scalar.cmpi .sgt v747 c0_i32_710
  let v760 : BitVec 32 := Scalar.extui v759
  let c0_i32_711 : BitVec 32 := 0#32
  let v761 : BitVec 1 := Scalar.cmpi .slt v747 c0_i32_711
  let v762 : BitVec 32 := Scalar.extui v761
  let v763 : BitVec 32 := Scalar.subi v760 v762
  let c5_i32_709 : BitVec 32 := 5#32
  let c0_i32_712 : BitVec 32 := 0#32
  let v764 : BitVec 1 := Scalar.cmpi .sgt c5_i32_709 c0_i32_712
  let v765 : BitVec 32 := Scalar.extui v764
  let c0_i32_713 : BitVec 32 := 0#32
  let v766 : BitVec 1 := Scalar.cmpi .slt c5_i32_709 c0_i32_713
  let v767 : BitVec 32 := Scalar.extui v766
  let v768 : BitVec 32 := Scalar.subi v765 v767
  let v769 : BitVec 1 := Scalar.cmpi .ne v763 v768
  let v770 : BitVec 32 := Scalar.remsi v747 c5_i32_709
  let c0_i32_714 : BitVec 32 := 0#32
  let v771 : BitVec 1 := Scalar.cmpi .ne v770 c0_i32_714
  let v772 : BitVec 1 := Scalar.andi v769 v771
  let v758 : BitVec 32 := Scalar.divsi v747 c5_i32_709
  let c1_i32_715 : BitVec 32 := 1#32
  let v773 : BitVec 32 := Scalar.subi v758 c1_i32_715
  let v774 : BitVec 32 := Scalar.select v772 v773 v758
  let c2_i32_717 : BitVec 32 := 2#32
  let v776 : BitVec 32 := Scalar.muli v774 c2_i32_717
  let v777 : BitVec 32 := Scalar.addi v775 v776
  let c2_i32_718 : BitVec 32 := 2#32
  let c0_i32_719 : BitVec 32 := 0#32
  let v778 : BitVec 1 := Scalar.cmpi .eq c2_i32_718 c0_i32_719
  let c1_i32_720 : BitVec 32 := 1#32
  let v779 : BitVec 32 := Scalar.select v778 c1_i32_720 c2_i32_718
  let v780 : BitVec 32 := Scalar.remsi arg20 v779
  let c0_i32_722 : BitVec 32 := 0#32
  let v782 : BitVec 1 := Scalar.cmpi .slt v780 c0_i32_722
  let c0_i32_723 : BitVec 32 := 0#32
  let v783 : BitVec 1 := Scalar.cmpi .slt v779 c0_i32_723
  let v784 : BitVec 1 := Scalar.xori v782 v783
  let c0_i32_721 : BitVec 32 := 0#32
  let v781 : BitVec 1 := Scalar.cmpi .ne v780 c0_i32_721
  let v785 : BitVec 1 := Scalar.andi v784 v781
  let v786 : BitVec 32 := Scalar.addi v780 v779
  let v787 : BitVec 32 := Scalar.select v785 v786 v780
  let v788 : BitVec 32 := Scalar.addi v777 v787
  let v790 : Index := Scalar.indexCast v788
  ![v789.toNat, v790.toNat]
def k0_off9 (i : grid0.Coords) (k0_t3 : Fin k0_t3_loop.trips) (k0_t4 : Fin k0_t4_loop.trips) : Fin 2 → Nat :=
  let arg0 : BitVec 32 := BitVec.ofNat 32 (i 0).val
  let v793 : Index := Scalar.indexCast arg0
  let c0_i32_638 : BitVec 32 := 0#32
  let c1_i32_640 : BitVec 32 := 1#32
  let arg19 : BitVec 32 := Scf.iv c0_i32_638 c1_i32_640 k0_t3
  let c8_i32 : BitVec 32 := 8#32
  let v729 : BitVec 32 := Scalar.muli arg19 c8_i32
  let c0_i32_665 : BitVec 32 := 0#32
  let c1_i32_666 : BitVec 32 := 1#32
  let arg20 : BitVec 32 := Scf.iv c0_i32_665 c1_i32_666 k0_t4
  let c0_i32_697 : BitVec 32 := 0#32
  let v731 : BitVec 1 := Scalar.cmpi .sgt arg20 c0_i32_697
  let v732 : BitVec 32 := Scalar.extui v731
  let c0_i32_698 : BitVec 32 := 0#32
  let v733 : BitVec 1 := Scalar.cmpi .slt arg20 c0_i32_698
  let v734 : BitVec 32 := Scalar.extui v733
  let v735 : BitVec 32 := Scalar.subi v732 v734
  let c2_i32_696 : BitVec 32 := 2#32
  let c0_i32_699 : BitVec 32 := 0#32
  let v736 : BitVec 1 := Scalar.cmpi .sgt c2_i32_696 c0_i32_699
  let v737 : BitVec 32 := Scalar.extui v736
  let c0_i32_700 : BitVec 32 := 0#32
  let v738 : BitVec 1 := Scalar.cmpi .slt c2_i32_696 c0_i32_700
  let v739 : BitVec 32 := Scalar.extui v738
  let v740 : BitVec 32 := Scalar.subi v737 v739
  let v741 : BitVec 1 := Scalar.cmpi .ne v735 v740
  let v742 : BitVec 32 := Scalar.remsi arg20 c2_i32_696
  let c0_i32_701 : BitVec 32 := 0#32
  let v743 : BitVec 1 := Scalar.cmpi .ne v742 c0_i32_701
  let v744 : BitVec 1 := Scalar.andi v741 v743
  let v730 : BitVec 32 := Scalar.divsi arg20 c2_i32_696
  let c1_i32_702 : BitVec 32 := 1#32
  let v745 : BitVec 32 := Scalar.subi v730 c1_i32_702
  let v746 : BitVec 32 := Scalar.select v744 v745 v730
  let v747 : BitVec 32 := Scalar.addi v729 v746
  let c5_i32_703 : BitVec 32 := 5#32
  let c0_i32_704 : BitVec 32 := 0#32
  let v748 : BitVec 1 := Scalar.cmpi .eq c5_i32_703 c0_i32_704
  let c1_i32_705 : BitVec 32 := 1#32
  let v749 : BitVec 32 := Scalar.select v748 c1_i32_705 c5_i32_703
  let v750 : BitVec 32 := Scalar.remsi v747 v749
  let c0_i32_707 : BitVec 32 := 0#32
  let v752 : BitVec 1 := Scalar.cmpi .slt v750 c0_i32_707
  let c0_i32_708 : BitVec 32 := 0#32
  let v753 : BitVec 1 := Scalar.cmpi .slt v749 c0_i32_708
  let v754 : BitVec 1 := Scalar.xori v752 v753
  let c0_i32_706 : BitVec 32 := 0#32
  let v751 : BitVec 1 := Scalar.cmpi .ne v750 c0_i32_706
  let v755 : BitVec 1 := Scalar.andi v754 v751
  let v756 : BitVec 32 := Scalar.addi v750 v749
  let v757 : BitVec 32 := Scalar.select v755 v756 v750
  let c16_i32_716 : BitVec 32 := 16#32
  let v775 : BitVec 32 := Scalar.muli v757 c16_i32_716
  let c0_i32_710 : BitVec 32 := 0#32
  let v759 : BitVec 1 := Scalar.cmpi .sgt v747 c0_i32_710
  let v760 : BitVec 32 := Scalar.extui v759
  let c0_i32_711 : BitVec 32 := 0#32
  let v761 : BitVec 1 := Scalar.cmpi .slt v747 c0_i32_711
  let v762 : BitVec 32 := Scalar.extui v761
  let v763 : BitVec 32 := Scalar.subi v760 v762
  let c5_i32_709 : BitVec 32 := 5#32
  let c0_i32_712 : BitVec 32 := 0#32
  let v764 : BitVec 1 := Scalar.cmpi .sgt c5_i32_709 c0_i32_712
  let v765 : BitVec 32 := Scalar.extui v764
  let c0_i32_713 : BitVec 32 := 0#32
  let v766 : BitVec 1 := Scalar.cmpi .slt c5_i32_709 c0_i32_713
  let v767 : BitVec 32 := Scalar.extui v766
  let v768 : BitVec 32 := Scalar.subi v765 v767
  let v769 : BitVec 1 := Scalar.cmpi .ne v763 v768
  let v770 : BitVec 32 := Scalar.remsi v747 c5_i32_709
  let c0_i32_714 : BitVec 32 := 0#32
  let v771 : BitVec 1 := Scalar.cmpi .ne v770 c0_i32_714
  let v772 : BitVec 1 := Scalar.andi v769 v771
  let v758 : BitVec 32 := Scalar.divsi v747 c5_i32_709
  let c1_i32_715 : BitVec 32 := 1#32
  let v773 : BitVec 32 := Scalar.subi v758 c1_i32_715
  let v774 : BitVec 32 := Scalar.select v772 v773 v758
  let c2_i32_717 : BitVec 32 := 2#32
  let v776 : BitVec 32 := Scalar.muli v774 c2_i32_717
  let v777 : BitVec 32 := Scalar.addi v775 v776
  let c2_i32_718 : BitVec 32 := 2#32
  let c0_i32_719 : BitVec 32 := 0#32
  let v778 : BitVec 1 := Scalar.cmpi .eq c2_i32_718 c0_i32_719
  let c1_i32_720 : BitVec 32 := 1#32
  let v779 : BitVec 32 := Scalar.select v778 c1_i32_720 c2_i32_718
  let v780 : BitVec 32 := Scalar.remsi arg20 v779
  let c0_i32_722 : BitVec 32 := 0#32
  let v782 : BitVec 1 := Scalar.cmpi .slt v780 c0_i32_722
  let c0_i32_723 : BitVec 32 := 0#32
  let v783 : BitVec 1 := Scalar.cmpi .slt v779 c0_i32_723
  let v784 : BitVec 1 := Scalar.xori v782 v783
  let c0_i32_721 : BitVec 32 := 0#32
  let v781 : BitVec 1 := Scalar.cmpi .ne v780 c0_i32_721
  let v785 : BitVec 1 := Scalar.andi v784 v781
  let v786 : BitVec 32 := Scalar.addi v780 v779
  let v787 : BitVec 32 := Scalar.select v785 v786 v780
  let v788 : BitVec 32 := Scalar.addi v777 v787
  let c1_i32_724 : BitVec 32 := 1#32
  let v792 : BitVec 32 := Scalar.addi v788 c1_i32_724
  let v794 : Index := Scalar.indexCast v792
  ![v793.toNat, v794.toNat]
def k0_mult11 (v791 : BitVec 32) : BitVec 32 :=
  let c0_i32_725 : BitVec 32 := 0#32
  let v799 : BitVec 1 := Scalar.cmpi .sgt v791 c0_i32_725
  let v800 : BitVec 32 := Scalar.extui v799
  let c0_i32_726 : BitVec 32 := 0#32
  let v801 : BitVec 1 := Scalar.cmpi .slt v791 c0_i32_726
  let v802 : BitVec 32 := Scalar.extui v801
  let v803 : BitVec 32 := Scalar.subi v800 v802
  let c128_i32 : BitVec 32 := 128#32
  let c0_i32_727 : BitVec 32 := 0#32
  let v804 : BitVec 1 := Scalar.cmpi .sgt c128_i32 c0_i32_727
  let v805 : BitVec 32 := Scalar.extui v804
  let c0_i32_728 : BitVec 32 := 0#32
  let v806 : BitVec 1 := Scalar.cmpi .slt c128_i32 c0_i32_728
  let v807 : BitVec 32 := Scalar.extui v806
  let v808 : BitVec 32 := Scalar.subi v805 v807
  let v809 : BitVec 1 := Scalar.cmpi .ne v803 v808
  let v810 : BitVec 32 := Scalar.remsi v791 c128_i32
  let c0_i32_729 : BitVec 32 := 0#32
  let v811 : BitVec 1 := Scalar.cmpi .ne v810 c0_i32_729
  let v812 : BitVec 1 := Scalar.andi v809 v811
  let v798 : BitVec 32 := Scalar.divsi v791 c128_i32
  let c1_i32_730 : BitVec 32 := 1#32
  let v813 : BitVec 32 := Scalar.subi v798 c1_i32_730
  let v814 : BitVec 32 := Scalar.select v812 v813 v798
  let c128_i32_731 : BitVec 32 := 128#32
  let v815 : BitVec 32 := Scalar.muli v814 c128_i32_731
  v815

def k0_mult12 (v791 : BitVec 32) : BitVec 32 :=
  let c0_i32_725 : BitVec 32 := 0#32
  let v799 : BitVec 1 := Scalar.cmpi .sgt v791 c0_i32_725
  let v800 : BitVec 32 := Scalar.extui v799
  let c0_i32_726 : BitVec 32 := 0#32
  let v801 : BitVec 1 := Scalar.cmpi .slt v791 c0_i32_726
  let v802 : BitVec 32 := Scalar.extui v801
  let v803 : BitVec 32 := Scalar.subi v800 v802
  let c128_i32 : BitVec 32 := 128#32
  let c0_i32_727 : BitVec 32 := 0#32
  let v804 : BitVec 1 := Scalar.cmpi .sgt c128_i32 c0_i32_727
  let v805 : BitVec 32 := Scalar.extui v804
  let c0_i32_728 : BitVec 32 := 0#32
  let v806 : BitVec 1 := Scalar.cmpi .slt c128_i32 c0_i32_728
  let v807 : BitVec 32 := Scalar.extui v806
  let v808 : BitVec 32 := Scalar.subi v805 v807
  let v809 : BitVec 1 := Scalar.cmpi .ne v803 v808
  let v810 : BitVec 32 := Scalar.remsi v791 c128_i32
  let c0_i32_729 : BitVec 32 := 0#32
  let v811 : BitVec 1 := Scalar.cmpi .ne v810 c0_i32_729
  let v812 : BitVec 1 := Scalar.andi v809 v811
  let v798 : BitVec 32 := Scalar.divsi v791 c128_i32
  let c1_i32_730 : BitVec 32 := 1#32
  let v813 : BitVec 32 := Scalar.subi v798 c1_i32_730
  let v814 : BitVec 32 := Scalar.select v812 v813 v798
  let c128_i32_731 : BitVec 32 := 128#32
  let v815 : BitVec 32 := Scalar.muli v814 c128_i32_731
  let v816 : BitVec 32 := v815
  let c4352_i32 : BitVec 32 := 4352#32
  let v817 : BitVec 32 := Scalar.minsi v816 c4352_i32
  v817
def k0_mult13 (v791 : BitVec 32) : BitVec 32 :=
  let c0_i32_725 : BitVec 32 := 0#32
  let v799 : BitVec 1 := Scalar.cmpi .sgt v791 c0_i32_725
  let v800 : BitVec 32 := Scalar.extui v799
  let c0_i32_726 : BitVec 32 := 0#32
  let v801 : BitVec 1 := Scalar.cmpi .slt v791 c0_i32_726
  let v802 : BitVec 32 := Scalar.extui v801
  let v803 : BitVec 32 := Scalar.subi v800 v802
  let c128_i32 : BitVec 32 := 128#32
  let c0_i32_727 : BitVec 32 := 0#32
  let v804 : BitVec 1 := Scalar.cmpi .sgt c128_i32 c0_i32_727
  let v805 : BitVec 32 := Scalar.extui v804
  let c0_i32_728 : BitVec 32 := 0#32
  let v806 : BitVec 1 := Scalar.cmpi .slt c128_i32 c0_i32_728
  let v807 : BitVec 32 := Scalar.extui v806
  let v808 : BitVec 32 := Scalar.subi v805 v807
  let v809 : BitVec 1 := Scalar.cmpi .ne v803 v808
  let v810 : BitVec 32 := Scalar.remsi v791 c128_i32
  let c0_i32_729 : BitVec 32 := 0#32
  let v811 : BitVec 1 := Scalar.cmpi .ne v810 c0_i32_729
  let v812 : BitVec 1 := Scalar.andi v809 v811
  let v798 : BitVec 32 := Scalar.divsi v791 c128_i32
  let c1_i32_730 : BitVec 32 := 1#32
  let v813 : BitVec 32 := Scalar.subi v798 c1_i32_730
  let v814 : BitVec 32 := Scalar.select v812 v813 v798
  let c128_i32_731 : BitVec 32 := 128#32
  let v815 : BitVec 32 := Scalar.muli v814 c128_i32_731
  let v816 : BitVec 32 := v815
  let c4352_i32 : BitVec 32 := 4352#32
  let v817 : BitVec 32 := Scalar.minsi v816 c4352_i32
  let v818 : BitVec 32 := v817
  let c128_i32_732 : BitVec 32 := 128#32
  let v819 : BitVec 32 := Scalar.addi v818 c128_i32_732
  let c4352_i32_733 : BitVec 32 := 4352#32
  let v820 : BitVec 32 := Scalar.minsi v819 c4352_i32_733
  v820
def k0_mult14 (k0_t4 : Fin k0_t4_loop.trips) : BitVec 32 :=
  let c0_i32_665 : BitVec 32 := 0#32
  let c1_i32_666 : BitVec 32 := 1#32
  let arg20 : BitVec 32 := Scf.iv c0_i32_665 c1_i32_666 k0_t4
  let c8_i32_736 : BitVec 32 := 8#32
  let v825 : BitVec 32 := Scalar.muli arg20 c8_i32_736
  v825
def k0_off10 (v791 : BitVec 32) : Fin 2 → Nat :=
  let c0_737 : Index := 0#32
  let c0_i32_725 : BitVec 32 := 0#32
  let v799 : BitVec 1 := Scalar.cmpi .sgt v791 c0_i32_725
  let v800 : BitVec 32 := Scalar.extui v799
  let c0_i32_726 : BitVec 32 := 0#32
  let v801 : BitVec 1 := Scalar.cmpi .slt v791 c0_i32_726
  let v802 : BitVec 32 := Scalar.extui v801
  let v803 : BitVec 32 := Scalar.subi v800 v802
  let c128_i32 : BitVec 32 := 128#32
  let c0_i32_727 : BitVec 32 := 0#32
  let v804 : BitVec 1 := Scalar.cmpi .sgt c128_i32 c0_i32_727
  let v805 : BitVec 32 := Scalar.extui v804
  let c0_i32_728 : BitVec 32 := 0#32
  let v806 : BitVec 1 := Scalar.cmpi .slt c128_i32 c0_i32_728
  let v807 : BitVec 32 := Scalar.extui v806
  let v808 : BitVec 32 := Scalar.subi v805 v807
  let v809 : BitVec 1 := Scalar.cmpi .ne v803 v808
  let v810 : BitVec 32 := Scalar.remsi v791 c128_i32
  let c0_i32_729 : BitVec 32 := 0#32
  let v811 : BitVec 1 := Scalar.cmpi .ne v810 c0_i32_729
  let v812 : BitVec 1 := Scalar.andi v809 v811
  let v798 : BitVec 32 := Scalar.divsi v791 c128_i32
  let c1_i32_730 : BitVec 32 := 1#32
  let v813 : BitVec 32 := Scalar.subi v798 c1_i32_730
  let v814 : BitVec 32 := Scalar.select v812 v813 v798
  let c128_i32_731 : BitVec 32 := 128#32
  let v815 : BitVec 32 := Scalar.muli v814 c128_i32_731
  let v816 : BitVec 32 := v815
  let c4352_i32 : BitVec 32 := 4352#32
  let v817 : BitVec 32 := Scalar.minsi v816 c4352_i32
  let v818 : BitVec 32 := v817
  let v827 : Index := Scalar.indexCast v818
  ![0, v827.toNat]
def k0_off11 (v791 : BitVec 32) : Fin 2 → Nat :=
  let c0_738 : Index := 0#32
  let c0_i32_725 : BitVec 32 := 0#32
  let v799 : BitVec 1 := Scalar.cmpi .sgt v791 c0_i32_725
  let v800 : BitVec 32 := Scalar.extui v799
  let c0_i32_726 : BitVec 32 := 0#32
  let v801 : BitVec 1 := Scalar.cmpi .slt v791 c0_i32_726
  let v802 : BitVec 32 := Scalar.extui v801
  let v803 : BitVec 32 := Scalar.subi v800 v802
  let c128_i32 : BitVec 32 := 128#32
  let c0_i32_727 : BitVec 32 := 0#32
  let v804 : BitVec 1 := Scalar.cmpi .sgt c128_i32 c0_i32_727
  let v805 : BitVec 32 := Scalar.extui v804
  let c0_i32_728 : BitVec 32 := 0#32
  let v806 : BitVec 1 := Scalar.cmpi .slt c128_i32 c0_i32_728
  let v807 : BitVec 32 := Scalar.extui v806
  let v808 : BitVec 32 := Scalar.subi v805 v807
  let v809 : BitVec 1 := Scalar.cmpi .ne v803 v808
  let v810 : BitVec 32 := Scalar.remsi v791 c128_i32
  let c0_i32_729 : BitVec 32 := 0#32
  let v811 : BitVec 1 := Scalar.cmpi .ne v810 c0_i32_729
  let v812 : BitVec 1 := Scalar.andi v809 v811
  let v798 : BitVec 32 := Scalar.divsi v791 c128_i32
  let c1_i32_730 : BitVec 32 := 1#32
  let v813 : BitVec 32 := Scalar.subi v798 c1_i32_730
  let v814 : BitVec 32 := Scalar.select v812 v813 v798
  let c128_i32_731 : BitVec 32 := 128#32
  let v815 : BitVec 32 := Scalar.muli v814 c128_i32_731
  let v816 : BitVec 32 := v815
  let c4352_i32 : BitVec 32 := 4352#32
  let v817 : BitVec 32 := Scalar.minsi v816 c4352_i32
  let v818 : BitVec 32 := v817
  let c128_i32_732 : BitVec 32 := 128#32
  let v819 : BitVec 32 := Scalar.addi v818 c128_i32_732
  let c4352_i32_733 : BitVec 32 := 4352#32
  let v820 : BitVec 32 := Scalar.minsi v819 c4352_i32_733
  let v821 : BitVec 32 := v820
  let v830 : Index := Scalar.indexCast v821
  ![0, v830.toNat]

def k0_chk1 (v791 : BitVec 32) : Prop :=
  (128 ∣ (k0_mult11 v791).toNat) ∧
  (128 ∣ (k0_mult12 v791).toNat) ∧
  (128 ∣ (k0_mult13 v791).toNat) ∧
  (∀ a, (k0_off10 v791) a + S8x128.size a ≤ S8x4480.size a) ∧
  (∀ a, (k0_off11 v791) a + S8x128.size a ≤ S8x4480.size a)
theorem k0_mult11_dvd : ∀ (v791 : BitVec 32) (k0_hw1 : k0_chk1 v791), 128 ∣ (k0_mult11 v791).toNat := fun v791 k0_hw1 => k0_hw1.1
theorem k0_mult12_dvd : ∀ (v791 : BitVec 32) (k0_hw1 : k0_chk1 v791), 128 ∣ (k0_mult12 v791).toNat := fun v791 k0_hw1 => k0_hw1.2.1
theorem k0_mult13_dvd : ∀ (v791 : BitVec 32) (k0_hw1 : k0_chk1 v791), 128 ∣ (k0_mult13 v791).toNat := fun v791 k0_hw1 => k0_hw1.2.2.1
theorem k0_off10_inb : ∀ (v791 : BitVec 32) (k0_hw1 : k0_chk1 v791), ∀ a, (k0_off10 v791) a + S8x128.size a ≤ S8x4480.size a := fun v791 k0_hw1 => k0_hw1.2.2.2.1
theorem k0_off11_inb : ∀ (v791 : BitVec 32) (k0_hw1 : k0_chk1 v791), ∀ a, (k0_off11 v791) a + S8x128.size a ≤ S8x4480.size a := fun v791 k0_hw1 => k0_hw1.2.2.2.2

def k0_off12 (k0_t4 : Fin k0_t4_loop.trips) : Fin 2 → Nat :=
  let c0_i32_665 : BitVec 32 := 0#32
  let c1_i32_666 : BitVec 32 := 1#32
  let arg20 : BitVec 32 := Scf.iv c0_i32_665 c1_i32_666 k0_t4
  let c8_i32_736 : BitVec 32 := 8#32
  let v825 : BitVec 32 := Scalar.muli arg20 c8_i32_736
  let v826 : BitVec 32 := v825
  let v837 : Index := Scalar.indexCast v826
  let c0_740 : Index := 0#32
  ![v837.toNat, 0]
@[reducible] def k0_t5_loop : Scf.Loop 32 :=
  let c0_i32_692 : BitVec 32 := 0#32
  let c4_i32_693 : BitVec 32 := 4#32
  let v728 : BitVec 32 := Scalar.addi c0_i32_692 c4_i32_693
  let c1_i32_694 : BitVec 32 := 1#32
  ⟨c0_i32_692, v728, c1_i32_694⟩
@[reducible] def k0_t6_loop (v684 : BitVec 32) : Scf.Loop 32 :=
  let c0_i32_746 : BitVec 32 := 0#32
  let c8_i32_717 : BitVec 32 := 8#32
  let v829 : BitVec 32 := Scalar.addi v684 c8_i32_717
  let c1_i32_718 : BitVec 32 := 1#32
  let v830 : BitVec 32 := Scalar.subi v829 c1_i32_718
  let c0_i32_720 : BitVec 32 := 0#32
  let v832 : BitVec 1 := Scalar.cmpi .sgt v830 c0_i32_720
  let v833 : BitVec 32 := Scalar.extui v832
  let c0_i32_721 : BitVec 32 := 0#32
  let v834 : BitVec 1 := Scalar.cmpi .slt v830 c0_i32_721
  let v835 : BitVec 32 := Scalar.extui v834
  let v836 : BitVec 32 := Scalar.subi v833 v835
  let c8_i32_719 : BitVec 32 := 8#32
  let c0_i32_722 : BitVec 32 := 0#32
  let v837 : BitVec 1 := Scalar.cmpi .sgt c8_i32_719 c0_i32_722
  let v838 : BitVec 32 := Scalar.extui v837
  let c0_i32_723 : BitVec 32 := 0#32
  let v839 : BitVec 1 := Scalar.cmpi .slt c8_i32_719 c0_i32_723
  let v840 : BitVec 32 := Scalar.extui v839
  let v841 : BitVec 32 := Scalar.subi v838 v840
  let v842 : BitVec 1 := Scalar.cmpi .ne v836 v841
  let v843 : BitVec 32 := Scalar.remsi v830 c8_i32_719
  let c0_i32_724 : BitVec 32 := 0#32
  let v844 : BitVec 1 := Scalar.cmpi .ne v843 c0_i32_724
  let v845 : BitVec 1 := Scalar.andi v842 v844
  let v831 : BitVec 32 := Scalar.divsi v830 c8_i32_719
  let c1_i32_725 : BitVec 32 := 1#32
  let v846 : BitVec 32 := Scalar.subi v831 c1_i32_725
  let v847 : BitVec 32 := Scalar.select v845 v846 v831
  let v868 : BitVec 32 := Scalar.subi v847 c0_i32_746
  let c1_i32_747 : BitVec 32 := 1#32
  let v870 : BitVec 32 := Scalar.divsi v868 c1_i32_747
  let v871 : BitVec 32 := Scalar.muli v870 c1_i32_747
  let v872 : BitVec 32 := Scalar.addi c0_i32_746 v871
  let c1_i32_748 : BitVec 32 := 1#32
  ⟨c0_i32_746, v872, c1_i32_748⟩

def k0_mult15 (v684 : BitVec 32) (k0_t6 : Fin (k0_t6_loop v684).trips) : BitVec 32 :=
  let c0_i32_746 : BitVec 32 := 0#32
  let c1_i32_748 : BitVec 32 := 1#32
  let arg21 : BitVec 32 := Scf.iv c0_i32_746 c1_i32_748 k0_t6
  let c8_i32_760 : BitVec 32 := 8#32
  let v912 : BitVec 32 := Scalar.muli arg21 c8_i32_760
  v912
def k0_off13 (v684 : BitVec 32) (k0_t6 : Fin (k0_t6_loop v684).trips) : Fin 2 → Nat :=
  let c0_i32_746 : BitVec 32 := 0#32
  let c1_i32_748 : BitVec 32 := 1#32
  let arg21 : BitVec 32 := Scf.iv c0_i32_746 c1_i32_748 k0_t6
  let c8_i32_760 : BitVec 32 := 8#32
  let v912 : BitVec 32 := Scalar.muli arg21 c8_i32_760
  let v913 : BitVec 32 := v912
  let v914 : Index := Scalar.indexCast v913
  let c0_761 : Index := 0#32
  ![v914.toNat, 0]
@[reducible] def k0_t7_loop (v684 : BitVec 32) : Scf.Loop 32 :=
  let c0_i32_746 : BitVec 32 := 0#32
  let c8_i32_717 : BitVec 32 := 8#32
  let v829 : BitVec 32 := Scalar.addi v684 c8_i32_717
  let c1_i32_718 : BitVec 32 := 1#32
  let v830 : BitVec 32 := Scalar.subi v829 c1_i32_718
  let c0_i32_720 : BitVec 32 := 0#32
  let v832 : BitVec 1 := Scalar.cmpi .sgt v830 c0_i32_720
  let v833 : BitVec 32 := Scalar.extui v832
  let c0_i32_721 : BitVec 32 := 0#32
  let v834 : BitVec 1 := Scalar.cmpi .slt v830 c0_i32_721
  let v835 : BitVec 32 := Scalar.extui v834
  let v836 : BitVec 32 := Scalar.subi v833 v835
  let c8_i32_719 : BitVec 32 := 8#32
  let c0_i32_722 : BitVec 32 := 0#32
  let v837 : BitVec 1 := Scalar.cmpi .sgt c8_i32_719 c0_i32_722
  let v838 : BitVec 32 := Scalar.extui v837
  let c0_i32_723 : BitVec 32 := 0#32
  let v839 : BitVec 1 := Scalar.cmpi .slt c8_i32_719 c0_i32_723
  let v840 : BitVec 32 := Scalar.extui v839
  let v841 : BitVec 32 := Scalar.subi v838 v840
  let v842 : BitVec 1 := Scalar.cmpi .ne v836 v841
  let v843 : BitVec 32 := Scalar.remsi v830 c8_i32_719
  let c0_i32_724 : BitVec 32 := 0#32
  let v844 : BitVec 1 := Scalar.cmpi .ne v843 c0_i32_724
  let v845 : BitVec 1 := Scalar.andi v842 v844
  let v831 : BitVec 32 := Scalar.divsi v830 c8_i32_719
  let c1_i32_725 : BitVec 32 := 1#32
  let v846 : BitVec 32 := Scalar.subi v831 c1_i32_725
  let v847 : BitVec 32 := Scalar.select v845 v846 v831
  let v868 : BitVec 32 := Scalar.subi v847 c0_i32_746
  let c1_i32_747 : BitVec 32 := 1#32
  let v870 : BitVec 32 := Scalar.divsi v868 c1_i32_747
  let v871 : BitVec 32 := Scalar.muli v870 c1_i32_747
  let v872 : BitVec 32 := Scalar.addi c0_i32_746 v871
  let v869 : BitVec 32 := Scalar.addi c0_i32_746 v868
  let c1_i32_749 : BitVec 32 := 1#32
  ⟨v872, v869, c1_i32_749⟩
def k0_mult16 (v684 : BitVec 32) (k0_t7 : Fin (k0_t7_loop v684).trips) : BitVec 32 :=
  let c0_i32_746 : BitVec 32 := 0#32
  let c8_i32_717 : BitVec 32 := 8#32
  let v829 : BitVec 32 := Scalar.addi v684 c8_i32_717
  let c1_i32_718 : BitVec 32 := 1#32
  let v830 : BitVec 32 := Scalar.subi v829 c1_i32_718
  let c0_i32_720 : BitVec 32 := 0#32
  let v832 : BitVec 1 := Scalar.cmpi .sgt v830 c0_i32_720
  let v833 : BitVec 32 := Scalar.extui v832
  let c0_i32_721 : BitVec 32 := 0#32
  let v834 : BitVec 1 := Scalar.cmpi .slt v830 c0_i32_721
  let v835 : BitVec 32 := Scalar.extui v834
  let v836 : BitVec 32 := Scalar.subi v833 v835
  let c8_i32_719 : BitVec 32 := 8#32
  let c0_i32_722 : BitVec 32 := 0#32
  let v837 : BitVec 1 := Scalar.cmpi .sgt c8_i32_719 c0_i32_722
  let v838 : BitVec 32 := Scalar.extui v837
  let c0_i32_723 : BitVec 32 := 0#32
  let v839 : BitVec 1 := Scalar.cmpi .slt c8_i32_719 c0_i32_723
  let v840 : BitVec 32 := Scalar.extui v839
  let v841 : BitVec 32 := Scalar.subi v838 v840
  let v842 : BitVec 1 := Scalar.cmpi .ne v836 v841
  let v843 : BitVec 32 := Scalar.remsi v830 c8_i32_719
  let c0_i32_724 : BitVec 32 := 0#32
  let v844 : BitVec 1 := Scalar.cmpi .ne v843 c0_i32_724
  let v845 : BitVec 1 := Scalar.andi v842 v844
  let v831 : BitVec 32 := Scalar.divsi v830 c8_i32_719
  let c1_i32_725 : BitVec 32 := 1#32
  let v846 : BitVec 32 := Scalar.subi v831 c1_i32_725
  let v847 : BitVec 32 := Scalar.select v845 v846 v831
  let v868 : BitVec 32 := Scalar.subi v847 c0_i32_746
  let c1_i32_747 : BitVec 32 := 1#32
  let v870 : BitVec 32 := Scalar.divsi v868 c1_i32_747
  let v871 : BitVec 32 := Scalar.muli v870 c1_i32_747
  let v872 : BitVec 32 := Scalar.addi c0_i32_746 v871
  let c1_i32_749 : BitVec 32 := 1#32
  let arg21 : BitVec 32 := Scf.iv v872 c1_i32_749 k0_t7
  let c8_i32_760 : BitVec 32 := 8#32
  let v912 : BitVec 32 := Scalar.muli arg21 c8_i32_760
  v912
def k0_off14 (v684 : BitVec 32) (k0_t7 : Fin (k0_t7_loop v684).trips) : Fin 2 → Nat :=
  let c0_i32_746 : BitVec 32 := 0#32
  let c8_i32_717 : BitVec 32 := 8#32
  let v829 : BitVec 32 := Scalar.addi v684 c8_i32_717
  let c1_i32_718 : BitVec 32 := 1#32
  let v830 : BitVec 32 := Scalar.subi v829 c1_i32_718
  let c0_i32_720 : BitVec 32 := 0#32
  let v832 : BitVec 1 := Scalar.cmpi .sgt v830 c0_i32_720
  let v833 : BitVec 32 := Scalar.extui v832
  let c0_i32_721 : BitVec 32 := 0#32
  let v834 : BitVec 1 := Scalar.cmpi .slt v830 c0_i32_721
  let v835 : BitVec 32 := Scalar.extui v834
  let v836 : BitVec 32 := Scalar.subi v833 v835
  let c8_i32_719 : BitVec 32 := 8#32
  let c0_i32_722 : BitVec 32 := 0#32
  let v837 : BitVec 1 := Scalar.cmpi .sgt c8_i32_719 c0_i32_722
  let v838 : BitVec 32 := Scalar.extui v837
  let c0_i32_723 : BitVec 32 := 0#32
  let v839 : BitVec 1 := Scalar.cmpi .slt c8_i32_719 c0_i32_723
  let v840 : BitVec 32 := Scalar.extui v839
  let v841 : BitVec 32 := Scalar.subi v838 v840
  let v842 : BitVec 1 := Scalar.cmpi .ne v836 v841
  let v843 : BitVec 32 := Scalar.remsi v830 c8_i32_719
  let c0_i32_724 : BitVec 32 := 0#32
  let v844 : BitVec 1 := Scalar.cmpi .ne v843 c0_i32_724
  let v845 : BitVec 1 := Scalar.andi v842 v844
  let v831 : BitVec 32 := Scalar.divsi v830 c8_i32_719
  let c1_i32_725 : BitVec 32 := 1#32
  let v846 : BitVec 32 := Scalar.subi v831 c1_i32_725
  let v847 : BitVec 32 := Scalar.select v845 v846 v831
  let v868 : BitVec 32 := Scalar.subi v847 c0_i32_746
  let c1_i32_747 : BitVec 32 := 1#32
  let v870 : BitVec 32 := Scalar.divsi v868 c1_i32_747
  let v871 : BitVec 32 := Scalar.muli v870 c1_i32_747
  let v872 : BitVec 32 := Scalar.addi c0_i32_746 v871
  let c1_i32_749 : BitVec 32 := 1#32
  let arg21 : BitVec 32 := Scf.iv v872 c1_i32_749 k0_t7
  let c8_i32_760 : BitVec 32 := 8#32
  let v912 : BitVec 32 := Scalar.muli arg21 c8_i32_760
  let v913 : BitVec 32 := v912
  let v914 : Index := Scalar.indexCast v913
  let c0_761 : Index := 0#32
  ![v914.toNat, 0]

def k0_chk2 (v684 : BitVec 32) : Prop :=
  ((k0_t6_loop v684).OK) ∧
  (∀ k0_t6 : Fin (k0_t6_loop v684).trips, 8 ∣ (k0_mult15 v684 k0_t6).toNat) ∧
  (∀ k0_t6 : Fin (k0_t6_loop v684).trips, ∀ a, (k0_off13 v684 k0_t6) a + S8x128.size a ≤ S128x128.size a) ∧
  ((k0_t7_loop v684).OK) ∧
  (∀ k0_t7 : Fin (k0_t7_loop v684).trips, 8 ∣ (k0_mult16 v684 k0_t7).toNat) ∧
  (∀ k0_t7 : Fin (k0_t7_loop v684).trips, ∀ a, (k0_off14 v684 k0_t7) a + S8x128.size a ≤ S128x128.size a)
theorem k0_t6_ok : ∀ (v684 : BitVec 32) (k0_hw2 : k0_chk2 v684), (k0_t6_loop v684).OK := fun v684 k0_hw2 => k0_hw2.1
theorem k0_mult15_dvd : ∀ (v684 : BitVec 32) (k0_hw2 : k0_chk2 v684) (k0_t6 : Fin (k0_t6_loop v684).trips), 8 ∣ (k0_mult15 v684 k0_t6).toNat := fun v684 k0_hw2 k0_t6 => k0_hw2.2.1 k0_t6
theorem k0_off13_inb : ∀ (v684 : BitVec 32) (k0_hw2 : k0_chk2 v684) (k0_t6 : Fin (k0_t6_loop v684).trips), ∀ a, (k0_off13 v684 k0_t6) a + S8x128.size a ≤ S128x128.size a := fun v684 k0_hw2 k0_t6 => k0_hw2.2.2.1 k0_t6
theorem k0_t7_ok : ∀ (v684 : BitVec 32) (k0_hw2 : k0_chk2 v684), (k0_t7_loop v684).OK := fun v684 k0_hw2 => k0_hw2.2.2.2.1
theorem k0_mult16_dvd : ∀ (v684 : BitVec 32) (k0_hw2 : k0_chk2 v684) (k0_t7 : Fin (k0_t7_loop v684).trips), 8 ∣ (k0_mult16 v684 k0_t7).toNat := fun v684 k0_hw2 k0_t7 => k0_hw2.2.2.2.2.1 k0_t7
theorem k0_off14_inb : ∀ (v684 : BitVec 32) (k0_hw2 : k0_chk2 v684) (k0_t7 : Fin (k0_t7_loop v684).trips), ∀ a, (k0_off14 v684 k0_t7) a + S8x128.size a ≤ S128x128.size a := fun v684 k0_hw2 k0_t7 => k0_hw2.2.2.2.2.2 k0_t7

def k0_mult17 (k0_t5 : Fin k0_t5_loop.trips) : BitVec 32 :=
  let c0_i32_692 : BitVec 32 := 0#32
  let c1_i32_694 : BitVec 32 := 1#32
  let arg20 : BitVec 32 := Scf.iv c0_i32_692 c1_i32_694 k0_t5
  let c160_i32_755 : BitVec 32 := 160#32
  let v892 : BitVec 32 := Scalar.muli arg20 c160_i32_755
  v892
def k0_mult18 (k0_t3 : Fin k0_t3_loop.trips) : BitVec 32 :=
  let c0_i32_638 : BitVec 32 := 0#32
  let c1_i32_640 : BitVec 32 := 1#32
  let arg19 : BitVec 32 := Scf.iv c0_i32_638 c1_i32_640 k0_t3
  let c128_i32_756 : BitVec 32 := 128#32
  let v894 : BitVec 32 := Scalar.muli arg19 c128_i32_756
  v894
def k0_off15 (k0_t3 : Fin k0_t3_loop.trips) (k0_t5 : Fin k0_t5_loop.trips) : Fin 3 → Nat :=
  let c0_757 : Index := 0#32
  let c0_i32_692 : BitVec 32 := 0#32
  let c1_i32_694 : BitVec 32 := 1#32
  let arg20 : BitVec 32 := Scf.iv c0_i32_692 c1_i32_694 k0_t5
  let c160_i32_755 : BitVec 32 := 160#32
  let v892 : BitVec 32 := Scalar.muli arg20 c160_i32_755
  let v893 : BitVec 32 := v892
  let v896 : Index := Scalar.indexCast v893
  let c0_i32_638 : BitVec 32 := 0#32
  let c1_i32_640 : BitVec 32 := 1#32
  let arg19 : BitVec 32 := Scf.iv c0_i32_638 c1_i32_640 k0_t3
  let c128_i32_756 : BitVec 32 := 128#32
  let v894 : BitVec 32 := Scalar.muli arg19 c128_i32_756
  let v895 : BitVec 32 := v894
  let v897 : Index := Scalar.indexCast v895
  ![0, v896.toNat, v897.toNat]
def k0_off16 (k0_t3 : Fin k0_t3_loop.trips) (k0_t5 : Fin k0_t5_loop.trips) : Fin 3 → Nat :=
  let c1_758 : Index := 1#32
  let c0_i32_692 : BitVec 32 := 0#32
  let c1_i32_694 : BitVec 32 := 1#32
  let arg20 : BitVec 32 := Scf.iv c0_i32_692 c1_i32_694 k0_t5
  let c160_i32_755 : BitVec 32 := 160#32
  let v892 : BitVec 32 := Scalar.muli arg20 c160_i32_755
  let v893 : BitVec 32 := v892
  let v901 : Index := Scalar.indexCast v893
  let c0_i32_638 : BitVec 32 := 0#32
  let c1_i32_640 : BitVec 32 := 1#32
  let arg19 : BitVec 32 := Scf.iv c0_i32_638 c1_i32_640 k0_t3
  let c128_i32_756 : BitVec 32 := 128#32
  let v894 : BitVec 32 := Scalar.muli arg19 c128_i32_756
  let v895 : BitVec 32 := v894
  let v902 : Index := Scalar.indexCast v895
  ![1, v901.toNat, v902.toNat]
def k0_off17 (k0_t3 : Fin k0_t3_loop.trips) (k0_t5 : Fin k0_t5_loop.trips) : Fin 3 → Nat :=
  let c2_759 : Index := 2#32
  let c0_i32_692 : BitVec 32 := 0#32
  let c1_i32_694 : BitVec 32 := 1#32
  let arg20 : BitVec 32 := Scf.iv c0_i32_692 c1_i32_694 k0_t5
  let c160_i32_755 : BitVec 32 := 160#32
  let v892 : BitVec 32 := Scalar.muli arg20 c160_i32_755
  let v893 : BitVec 32 := v892
  let v907 : Index := Scalar.indexCast v893
  let c0_i32_638 : BitVec 32 := 0#32
  let c1_i32_640 : BitVec 32 := 1#32
  let arg19 : BitVec 32 := Scf.iv c0_i32_638 c1_i32_640 k0_t3
  let c128_i32_756 : BitVec 32 := 128#32
  let v894 : BitVec 32 := Scalar.muli arg19 c128_i32_756
  let v895 : BitVec 32 := v894
  let v908 : Index := Scalar.indexCast v895
  ![2, v907.toNat, v908.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x640x960 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4480x8 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4480x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x640 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x640 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x640x960 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3x640x960 : Shape := ⟨3, ![3, 640, 960]⟩
abbrev S3x4480x8 : Shape := ⟨3, ![3, 4480, 8]⟩
abbrev S3x640 : Shape := ⟨2, ![3, 640]⟩
abbrev S3x81 : Shape := ⟨2, ![3, 81]⟩
abbrev S56 : Shape := ⟨1, ![56]⟩
abbrev S3x80 : Shape := ⟨2, ![3, 80]⟩
abbrev S3x80x1 : Shape := ⟨3, ![3, 80, 1]⟩
abbrev S1x1x56 : Shape := ⟨3, ![1, 1, 56]⟩
abbrev S3x80x56 : Shape := ⟨3, ![3, 80, 56]⟩
abbrev S_ : Shape := ⟨0, ![]⟩
abbrev S3 : Shape := ⟨1, ![3]⟩
abbrev S3x1x1 : Shape := ⟨3, ![3, 1, 1]⟩
abbrev S13440 : Shape := ⟨1, ![13440]⟩
abbrev S13440x8 : Shape := ⟨2, ![13440, 8]⟩
abbrev S13440x1 : Shape := ⟨2, ![13440, 1]⟩
abbrev S3x80x56x8 : Shape := ⟨4, ![3, 80, 56, 8]⟩
abbrev S56x1 : Shape := ⟨2, ![56, 1]⟩
abbrev S3x80x1x8 : Shape := ⟨4, ![3, 80, 1, 8]⟩
abbrev S1x1x56x1 : Shape := ⟨4, ![1, 1, 56, 1]⟩
abbrev S3x1x80x56x8 : Shape := ⟨5, ![3, 1, 80, 56, 8]⟩
abbrev S640 : Shape := ⟨1, ![640]⟩
abbrev S640x1x1x1 : Shape := ⟨4, ![640, 1, 1, 1]⟩
abbrev S1x640x1x1x1 : Shape := ⟨5, ![1, 640, 1, 1, 1]⟩
abbrev S3x640x80x56x8 : Shape := ⟨5, ![3, 640, 80, 56, 8]⟩
abbrev S3x640x80x8 : Shape := ⟨4, ![3, 640, 80, 8]⟩
abbrev S3x640x640 : Shape := ⟨3, ![3, 640, 640]⟩
abbrev S3x1 : Shape := ⟨2, ![3, 1]⟩
abbrev S1920 : Shape := ⟨1, ![1920]⟩
abbrev S1920x960 : Shape := ⟨2, ![1920, 960]⟩
abbrev S1920x1 : Shape := ⟨2, ![1920, 1]⟩

abbrev nBuf : Space → Nat
  | .hbm => 87
  | .vmem => 2
  | .smem => 0
  | _ => 0

abbrev bufTy : (tb : Table) → Fin (tcTables nBuf tb) → BufTy
  | .hbm, ⟨0, _⟩ => ⟨S3x640x960, .bf16⟩
  | .hbm, ⟨1, _⟩ => ⟨S3x4480x8, .i8⟩
  | .hbm, ⟨2, _⟩ => ⟨S3x4480x8, .i32⟩
  | .hbm, ⟨3, _⟩ => ⟨S3x640, .f32⟩
  | .hbm, ⟨4, _⟩ => ⟨S3x640, .i32⟩
  | .hbm, ⟨5, _⟩ => ⟨S3x81, .i32⟩
  | .hbm, ⟨6, _⟩ => ⟨S3x640, .i32⟩
  | .hbm, ⟨7, _⟩ => ⟨S3x4480x8, .fp8e4m3⟩
  | .hbm, ⟨8, _⟩ => ⟨S3x4480x8, .f32⟩
  | .hbm, ⟨9, _⟩ => ⟨S56, .i32⟩
  | .hbm, ⟨10, _⟩ => ⟨S3x80, .i32⟩
  | .hbm, ⟨11, _⟩ => ⟨S3x80x1, .i32⟩
  | .hbm, ⟨12, _⟩ => ⟨S1x1x56, .i32⟩
  | .hbm, ⟨13, _⟩ => ⟨S3x80x56, .i32⟩
  | .hbm, ⟨14, _⟩ => ⟨S3x80x56, .i32⟩
  | .hbm, ⟨15, _⟩ => ⟨S3x80x56, .i32⟩
  | .hbm, ⟨16, _⟩ => ⟨S_, .i32⟩
  | .hbm, ⟨17, _⟩ => ⟨S3x80x56, .i32⟩
  | .hbm, ⟨18, _⟩ => ⟨S3x80x56, .i32⟩
  | .hbm, ⟨19, _⟩ => ⟨S3, .i32⟩
  | .hbm, ⟨20, _⟩ => ⟨S3x1x1, .i32⟩
  | .hbm, ⟨21, _⟩ => ⟨S_, .i32⟩
  | .hbm, ⟨22, _⟩ => ⟨S3x1x1, .i32⟩
  | .hbm, ⟨23, _⟩ => ⟨S3x1x1, .i32⟩
  | .hbm, ⟨24, _⟩ => ⟨S3x80x56, .i32⟩
  | .hbm, ⟨25, _⟩ => ⟨S3x80x56, .i32⟩
  | .hbm, ⟨26, _⟩ => ⟨S13440, .i32⟩
  | .hbm, ⟨27, _⟩ => ⟨S13440x8, .f32⟩
  | .hbm, ⟨28, _⟩ => ⟨S13440x1, .i32⟩
  | .hbm, ⟨29, _⟩ => ⟨S13440x8, .f32⟩
  | .hbm, ⟨30, _⟩ => ⟨S3x80x56x8, .f32⟩
  | .hbm, ⟨31, _⟩ => ⟨S3, .i32⟩
  | .hbm, ⟨32, _⟩ => ⟨S3x1x1, .i32⟩
  | .hbm, ⟨33, _⟩ => ⟨S_, .i32⟩
  | .hbm, ⟨34, _⟩ => ⟨S3x1x1, .i32⟩
  | .hbm, ⟨35, _⟩ => ⟨S3x1x1, .i32⟩
  | .hbm, ⟨36, _⟩ => ⟨S3x80x56, .i32⟩
  | .hbm, ⟨37, _⟩ => ⟨S3x80x56, .i32⟩
  | .hbm, ⟨38, _⟩ => ⟨S13440, .i32⟩
  | .hbm, ⟨39, _⟩ => ⟨S13440x8, .i32⟩
  | .hbm, ⟨40, _⟩ => ⟨S13440x1, .i32⟩
  | .hbm, ⟨41, _⟩ => ⟨S13440x8, .i32⟩
  | .hbm, ⟨42, _⟩ => ⟨S3x80x56x8, .i32⟩
  | .hbm, ⟨43, _⟩ => ⟨S56x1, .i32⟩
  | .hbm, ⟨44, _⟩ => ⟨S3x80x1x8, .i32⟩
  | .hbm, ⟨45, _⟩ => ⟨S1x1x56x1, .i32⟩
  | .hbm, ⟨46, _⟩ => ⟨S3x80x56x8, .i32⟩
  | .hbm, ⟨47, _⟩ => ⟨S3x80x56x8, .i32⟩
  | .hbm, ⟨48, _⟩ => ⟨S3x80x56x8, .i1⟩
  | .hbm, ⟨49, _⟩ => ⟨S3x80x1x8, .f32⟩
  | .hbm, ⟨50, _⟩ => ⟨S3x80x56x8, .f32⟩
  | .hbm, ⟨51, _⟩ => ⟨S3x80x56x8, .f32⟩
  | .hbm, ⟨52, _⟩ => ⟨S_, .f32⟩
  | .hbm, ⟨53, _⟩ => ⟨S_, .f32⟩
  | .hbm, ⟨54, _⟩ => ⟨S3x80x56x8, .f32⟩
  | .hbm, ⟨55, _⟩ => ⟨S3x80x56x8, .f32⟩
  | .hbm, ⟨56, _⟩ => ⟨S3x1x80x56x8, .i32⟩
  | .hbm, ⟨57, _⟩ => ⟨S640, .i32⟩
  | .hbm, ⟨58, _⟩ => ⟨S640x1x1x1, .i32⟩
  | .hbm, ⟨59, _⟩ => ⟨S1x640x1x1x1, .i32⟩
  | .hbm, ⟨60, _⟩ => ⟨S3x640x80x56x8, .i32⟩
  | .hbm, ⟨61, _⟩ => ⟨S3x640x80x56x8, .i32⟩
  | .hbm, ⟨62, _⟩ => ⟨S3x640x80x56x8, .i1⟩
  | .hbm, ⟨63, _⟩ => ⟨S3x1x80x56x8, .f32⟩
  | .hbm, ⟨64, _⟩ => ⟨S_, .f32⟩
  | .hbm, ⟨65, _⟩ => ⟨S_, .f32⟩
  | .hbm, ⟨66, _⟩ => ⟨S3x640x80x56x8, .f32⟩
  | .hbm, ⟨67, _⟩ => ⟨S3x640x80x56x8, .f32⟩
  | .hbm, ⟨68, _⟩ => ⟨S3x640x80x56x8, .f32⟩
  | .hbm, ⟨69, _⟩ => ⟨S_, .f32⟩
  | .hbm, ⟨70, _⟩ => ⟨S3x640x80x8, .f32⟩
  | .hbm, ⟨71, _⟩ => ⟨S3x640x640, .f32⟩
  | .hbm, ⟨72, _⟩ => ⟨S3, .i32⟩
  | .hbm, ⟨73, _⟩ => ⟨S3x1, .i32⟩
  | .hbm, ⟨74, _⟩ => ⟨S_, .i32⟩
  | .hbm, ⟨75, _⟩ => ⟨S3x1, .i32⟩
  | .hbm, ⟨76, _⟩ => ⟨S3x1, .i32⟩
  | .hbm, ⟨77, _⟩ => ⟨S3x640, .i32⟩
  | .hbm, ⟨78, _⟩ => ⟨S3x640, .i32⟩
  | .hbm, ⟨79, _⟩ => ⟨S1920, .i32⟩
  | .hbm, ⟨80, _⟩ => ⟨S1920x960, .bf16⟩
  | .hbm, ⟨81, _⟩ => ⟨S1920x1, .i32⟩
  | .hbm, ⟨82, _⟩ => ⟨S1920x960, .bf16⟩
  | .hbm, ⟨83, _⟩ => ⟨S3x640x960, .bf16⟩
  | .hbm, ⟨84, _⟩ => ⟨S3x640x960, .f32⟩
  | .hbm, ⟨85, _⟩ => ⟨S3x640x960, .f32⟩
  | .hbm, ⟨86, _⟩ => ⟨S3x640x960, .bf16⟩
  | .local _ .vmem, ⟨0, _⟩ => ⟨S3x4480x8, .fp8e4m3⟩
  | .local _ .vmem, ⟨1, _⟩ => ⟨S3x4480x8, .f32⟩
  | _, _ => ⟨S3x640x960, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst : Ref sig .tc := ⟨.hbm, 52, rfl⟩
abbrev main_call0_v0 : Ref sig .tc := ⟨.hbm, 53, rfl⟩
abbrev main_call0_v1 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_2 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v51 : Ref sig .tc := ⟨.hbm, 68, rfl⟩
abbrev main_cst_3 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_4 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3x4480x8 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4480x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Pre.lean ====
/- What the precondition says of the pointer table: each row starts at zero and grows by at most 56 at a time. -/
module

public import proofs.«01_k».proof.Pre_well_formed
public import Idealize.ShloMosaic.Lib.StableHlo.Predicate
public import Idealize.ShloMosaic.Lib.Pipeline
public import Idealize.ShloMosaic.Lib.Pipeline.Value
public import Idealize.ShloMosaic.Lib.ValueIdx

@[expose] public section

noncomputable section

namespace Cert.Pre_well_formed.Hand

open Idealize.ShloMosaic Cert.Pre_well_formed

variable {F : FTy → Type} [FloatOps F] [Facts]

/-- The two bits of a conjunction of one-bit words. -/
theorem and_bits (a b : BitVec 1) (h : a &&& b = 1#1) : a = 1#1 ∧ b = 1#1 := by
  revert h; revert a b; decide

section
variable (a0 : FVec F S3x640x960 .bf16) (a1 : IVec S3x4480x8 8) (a2 : IVec S3x4480x8 32) (a3 : FVec F S3x640 .f32)
  (a4 : IVec S3x640 32) (a5 : IVec S3x81 32) (a6 : IVec S3x640 32)

/-- The first pointer of a row is zero. -/
theorem ptr_zero (h : (fn (F := F) a0 a1 a2 a3 a4 a5 a6).1 = fun _ => 1#1) (b : Fin 3) : a5 (ValueIdx.ix2 b 0) = 0#32 := by
  have e := congrFun h (Shape.Idx.ofFin b)
  simp only [fn, fn_part1, cmpi, StableHlo.Predicate.cmpi_eq_iff] at e
  have e' : shapeCast S3 (extractStridedSlice S3x1 ![0, 0] a5 Facts.slices_S3x81_S3x1_0_0) Facts.shapeCasts_S3x1_S3 (Shape.Idx.ofFin b) = 0#32 := e
  rw [shapeCast_apply _ _ (Shape.Idx.ofFin b) (ValueIdx.ix2 b (0 : Fin 1)) (by
    rw [Shape.rowMajor_val_two, Shape.rowMajor_val_one]
    show b.val * 1 + 0 = b.val
    omega)] at e'
  rw [extractStridedSlice_apply _ _ _ (ValueIdx.ix2 b (0 : Fin 1)) (ValueIdx.ix2 b (0 : Fin 81)) (Fin.forall_fin_two.mpr ⟨by show b.val = 0 + b.val; omega, by show 0 = 0 + 0; rfl⟩)] at e'
  exact e'

/-- The pointers of a row grow by 0 to 56. -/
theorem ptr_step (h : (fn (F := F) a0 a1 a2 a3 a4 a5 a6).2.1 = fun _ => 1#1) (b : Fin 3) (s : ℕ) (hs : s < 80) :
    IntOp.cmpi .sge (a5 (ValueIdx.ix2 b (⟨s + 1, by omega⟩ : Fin 81)) - a5 (ValueIdx.ix2 b (⟨s, by omega⟩ : Fin 81))) 0#32 = 1#1
    ∧ IntOp.cmpi .sle (a5 (ValueIdx.ix2 b (⟨s + 1, by omega⟩ : Fin 81)) - a5 (ValueIdx.ix2 b (⟨s, by omega⟩ : Fin 81))) 56#32 = 1#1 := by
  have e := congrFun h (ValueIdx.ix2 b (⟨s, hs⟩ : Fin 80))
  have e1 : extractStridedSlice S3x80 ![0, 1] a5 Facts.slices_S3x81_S3x80_0_1 (ValueIdx.ix2 b (⟨s, hs⟩ : Fin 80)) = a5 (ValueIdx.ix2 b (⟨s + 1, by omega⟩ : Fin 81)) :=
    extractStridedSlice_apply _ _ _ _ _ (Fin.forall_fin_two.mpr ⟨by show b.val = 0 + b.val; omega, by show s + 1 = 1 + s; omega⟩)
  have e2 : extractStridedSlice S3x80 ![0, 0] a5 Facts.slices_S3x81_S3x80_0_0 (ValueIdx.ix2 b (⟨s, hs⟩ : Fin 80)) = a5 (ValueIdx.ix2 b (⟨s, by omega⟩ : Fin 81)) :=
    extractStridedSlice_apply _ _ _ _ _ (Fin.forall_fin_two.mpr ⟨by show b.val = 0 + b.val; omega, by show s = 0 + s; omega⟩)
  rw [← e1, ← e2]
  exact and_bits _ _ e

/-- A word between 0 and 56, read signed, is a natural at most 56. -/
theorem small_word (d : BitVec 32) (h0 : IntOp.cmpi .sge d 0#32 = 1#1) (h1 : IntOp.cmpi .sle d 56#32 = 1#1) : d.toNat ≤ 56 := by
  simp only [IntOp.cmpi, StableHlo.Predicate.ofBool_eq_one_iff] at h0 h1
  have a : BitVec.sle 0#32 d = true := h0
  have b : BitVec.sle d 56#32 = true := h1
  simp only [BitVec.sle, decide_eq_true_eq, BitVec.toInt_eq_toNat_cond] at a b
  simp at a b
  omega

/-- The pointers of a row as naturals: from zero, growing by at most 56, so at most 4480. -/
theorem starts (h0 : (fn (F := F) a0 a1 a2 a3 a4 a5 a6).1 = fun _ => 1#1) (h : (fn (F := F) a0 a1 a2 a3 a4 a5 a6).2.1 = fun _ => 1#1) (b : Fin 3) :
    ∃ P : ℕ → ℕ, P 0 = 0 ∧ (∀ s, s ≤ 80 → P s ≤ 4480) ∧ (∀ s, s < 80 → P s ≤ P (s + 1)) ∧ (∀ s, s < 80 → P (s + 1) ≤ P s + 56)
      ∧ ∀ s : Fin 81, a5 (ValueIdx.ix2 b s) = BitVec.ofNat 32 (P s.val) := by
  let P : ℕ → ℕ := fun s => (a5 (ValueIdx.ix2 b (⟨min s 80, by omega⟩ : Fin 81))).toNat
  have hP0 : P 0 = 0 := by
    show (a5 (ValueIdx.ix2 b (0 : Fin 81))).toNat = 0
    rw [ptr_zero a0 a1 a2 a3 a4 a5 a6 h0 b]; rfl
  have hP : ∀ (s : ℕ) (hs : s ≤ 80), (a5 (ValueIdx.ix2 b (⟨s, by omega⟩ : Fin 81))).toNat = P s := fun s hs => by
    show _ = (a5 (ValueIdx.ix2 b (⟨min s 80, by omega⟩ : Fin 81))).toNat
    have : (⟨s, by omega⟩ : Fin 81) = ⟨min s 80, by omega⟩ := Fin.ext (by show s = min s 80; omega)
    rw [this]
  have step : ∀ s, s < 80 → P s ≤ 56 * s → P s ≤ P (s + 1) ∧ P (s + 1) ≤ P s + 56 := fun s hs hb => by
    obtain ⟨g0, g1⟩ := ptr_step a0 a1 a2 a3 a4 a5 a6 h b s hs
    have hd := small_word _ g0 g1
    rw [BitVec.toNat_sub, hP s (by omega), hP (s + 1) (by omega)] at hd
    have hlt : P (s + 1) < 2 ^ 32 := BitVec.isLt _
    omega
  have hle : ∀ s, s ≤ 80 → P s ≤ 56 * s := by
    intro s
    induction s with
    | zero => intro _; rw [hP0]
    | succ s ih =>
      intro hs
      have := step s (by omega) (ih (by omega))
      have := ih (by omega)
      omega
  refine ⟨P, hP0, fun s hs => ?_, fun s hs => (step s hs (hle s (by omega))).1, fun s hs => (step s hs (hle s (by omega))).2, fun s => ?_⟩
  · have := hle s hs; omega
  · rw [← hP s.val (by omega)]
    exact ((BitVec.ofNat_toNat _ _).trans (BitVec.setWidth_eq _)).symm

end

end Cert.Pre_well_formed.Hand

end
-- ==== Proof.Kernel.Words.lean ====
/- The words the kernel computes — where a slice starts, which two aligned lane blocks hold it, how many steps a group takes — as numbers. -/
module

public import proofs.«01_k».proof.Proof.Gen.Kernel.Skeleton
public import proofs.«01_k».proof.Proof.Gen.Kernel.Loops

@[expose] public section

set_option maxRecDepth 16384

noncomputable section

namespace Cert.Kernel.Hand

open Idealize.ShloMosaic Idealize.ShloMosaic.TcCoe
open Cert.Kernel Cert.Kernel.Gen

/-- The slice that piece `k` (8 lanes) of lane group `g` holds: pair `q = 8 g + k / 2` of rows lies in window `q % 5` at `q / 5`. -/
def sliceOf (g k : ℕ) : ℕ := (g * 8 + k / 2) % 5 * 16 + (g * 8 + k / 2) / 5 * 2 + k % 2

/-- The lane block a slice starting at slot `n` begins in. -/
def baseOf (n : ℕ) : ℕ := min (n / 128 * 128) 4352
/-- The lane block after it. -/
def nextOf (n : ℕ) : ℕ := min (baseOf n + 128) 4352

theorem off8_eq : ∀ (i : grid0.Coords) (g : Fin k0_t3_loop.trips) (k : Fin k0_t4_loop.trips),
    k0_off8 i g k = ![(i 0).val, sliceOf g.val k.val] := by decide +kernel
theorem off9_eq : ∀ (i : grid0.Coords) (g : Fin k0_t3_loop.trips) (k : Fin k0_t4_loop.trips),
    k0_off9 i g k = ![(i 0).val, sliceOf g.val k.val + 1] := by decide +kernel

theorem off10_eq : ∀ n : Fin 4481, k0_off10 (BitVec.ofNat 32 n.val) = ![0, baseOf n.val] := by decide +kernel
theorem off11_eq : ∀ n : Fin 4481, k0_off11 (BitVec.ofNat 32 n.val) = ![0, nextOf n.val] := by decide +kernel
theorem chk1_of : ∀ n : Fin 4481, k0_chk1 (BitVec.ofNat 32 n.val) := by decide +kernel
theorem chk2_of : ∀ n : Fin 57, k0_chk2 (BitVec.ofNat 32 n.val) := by decide +kernel
theorem trips6_eq : ∀ n : Fin 57, (k0_t6_loop (BitVec.ofNat 32 n.val)).trips = (n.val + 7) / 8 := by decide +kernel
theorem trips7_eq : ∀ n : Fin 57, (k0_t7_loop (BitVec.ofNat 32 n.val)).trips = 0 := by decide +kernel
theorem off13_eq : ∀ (n : Fin 57) (k : Fin (k0_t6_loop (BitVec.ofNat 32 n.val)).trips), k0_off13 (BitVec.ofNat 32 n.val) k = ![8 * k.val, 0] := by
  decide +kernel

end Cert.Kernel.Hand
end
-- ==== Proof.Kernel.Gather.lean ====
/- What the loop that gathers computes: it gathers one lane group's sixteen slices: the two aligned lane blocks a slice lies in are loaded, rotated and merged,
   so that lane `l` of the eight rows stored holds the slot `start + l` of the slice. -/
module

public import proofs.«01_k».proof.Proof.Kernel.Words
public import Idealize.ShloMosaic.Lib.Updates.Memory
public import Idealize.ShloMosaic.Lib.Updates.Own

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

/-- The resource algebra and the loop variants of the runs below. -/
abbrev UU (nD : Nat) (τ : Topo) : Type := UR sig nD τ
abbrev 𝒱₀ : Variants := Variants.none

variable {F : FTy → Type} [FloatOps F]

local notation "𝕄G" => MT nD τ sig Unit (Elt F) ℕ (UR sig nD τ) ℕ
/-- A table held for reading: the pipeline keeps the other half. -/
abbrev tablePt (c : Dev nD) {S : Shape} {e : EltTy} (M : Memref sig .tc .smem S e) (f : Buf (Elt F) (M.view.loc (c : Thread nD τ))) : sProp 𝕄G :=
  M.view.loc (c : Thread nD τ) ↦{fullShare.right} f

/-- The offset of a slice's start in the lane block it begins in, as the kernel computes it. -/
abbrev shiftWord (n : BitVec 32) : BitVec 32 :=
  Scalar.subi n (Scalar.minsi (Scalar.muli (Scalar.select (Scalar.andi (Scalar.cmpi .ne
    (Scalar.subi (Scalar.extui (Scalar.cmpi .sgt n 0#32)) (Scalar.extui (Scalar.cmpi .slt n 0#32)))
    (Scalar.subi (Scalar.extui (Scalar.cmpi .sgt 128#32 0#32)) (Scalar.extui (Scalar.cmpi .slt 128#32 0#32))))
    (Scalar.cmpi .ne (Scalar.remsi n 128#32) 0#32)) (Scalar.subi (Scalar.divsi n 128#32) 1#32) (Scalar.divsi n 128#32)) 128#32) 4352#32)

theorem shiftWord_eq : ∀ n : Fin 4481, shiftWord (BitVec.ofNat 32 n.val) = BitVec.ofNat 32 (n.val - baseOf n.val) := by decide +kernel
theorem rot_eq : ∀ s : Fin 129, (Scalar.remsi (Scalar.subi 128#32 (BitVec.ofNat 32 s.val)) 128#32).toNat = (128 - s.val) % 128 := by decide +kernel
theorem before_eq : ∀ (s : Fin 129) (l : Fin 128),
    (Scalar.cmpi .slt (BitVec.ofNat 32 l.val) (Scalar.subi 128#32 (BitVec.ofNat 32 s.val)) = 1#1) = (l.val < 128 - s.val) := by decide +kernel

theorem baseOf_dvd (n : ℕ) : ∃ q, baseOf n = 128 * q ∧ q ≤ 34 := by
  refine ⟨min (n / 128) 34, ?_, by omega⟩
  unfold baseOf; omega

/-- The two blocks, rotated and merged, hold the slots from the slice's start on. -/
theorem merged_at {α : Type} (n : ℕ) (hn : n < 4481) (A B : S8x128.Idx → α) (W : ℕ → ℕ → α)
    (hA : ∀ ι, A ι = W (ι 0).val (baseOf n + (ι 1).val)) (hB : ∀ ι, B ι = W (ι 0).val (nextOf n + (ι 1).val))
    (v0 : IVec S8x128 32) (hv0 : ∀ ι, v0 ι = BitVec.ofNat 32 (ι 1).val) (ι : S8x128.Idx) (h : n + (ι 1).val < 4480) :
    select (cmpi .slt v0 (broadcast S8x128 (Scalar.subi 128#32 (shiftWord (BitVec.ofNat 32 n)))))
      (dynamicRotate 1 (Scalar.remsi (Scalar.subi 128#32 (shiftWord (BitVec.ofNat 32 n))) 128#32) none A rotates_S8x128_d1)
      (dynamicRotate 1 (Scalar.remsi (Scalar.subi 128#32 (shiftWord (BitVec.ofNat 32 n))) 128#32) none B rotates_S8x128_d1) ι
      = W (ι 0).val (n + (ι 1).val) := by
  have hl : (ι 1).val < 128 := (ι 1).isLt
  obtain ⟨q, hq, hq'⟩ := baseOf_dvd n
  have hb : baseOf n ≤ n := by unfold baseOf; omega
  have hs : n - baseOf n < 129 := by unfold baseOf; omega
  rw [shiftWord_eq ⟨n, hn⟩]
  have hr := rot_eq ⟨n - baseOf n, hs⟩
  have hc := before_eq ⟨n - baseOf n, hs⟩ ⟨(ι 1).val, hl⟩
  simp only at hr hc
  have e : ∀ C : S8x128.Idx → α, dynamicRotate 1 (Scalar.remsi (Scalar.subi 128#32 (BitVec.ofNat 32 (n - baseOf n))) 128#32) none C rotates_S8x128_d1 ι
      = C (fun b => if b = 1 then ⟨((ι b).val + S8x128.size b - ((128 - (n - baseOf n)) % 128) % S8x128.size b) % S8x128.size b, Nat.mod_lt _ (Fin.pos (ι b))⟩ else ι b) := by
    intro C
    unfold dynamicRotate
    simp only [hr, Nat.add_zero]
  show (if (Scalar.cmpi .slt (v0 ι) (Scalar.subi 128#32 (BitVec.ofNat 32 (n - baseOf n)))) = 1#1 then _ else _) = _
  rw [hv0]
  have ev : ((ι 1).val + S8x128.size 1 - ((128 - (n - baseOf n)) % 128) % S8x128.size 1) % S8x128.size 1 = ((ι 1).val + (n - baseOf n)) % 128 := by
    show ((ι 1).val + 128 - ((128 - (n - baseOf n)) % 128) % 128) % 128 = _
    omega
  split
  · rename_i hlt
    rw [hc] at hlt
    rw [e, hA]
    show W (ι 0).val (baseOf n + _) = _
    simp only [if_true, ev]
    congr 1; omega
  · rename_i hge
    rw [hc] at hge
    rw [e, hB]
    show W (ι 0).val (nextOf n + _) = _
    simp only [if_true, ev]
    congr 1; unfold nextOf; omega

/-- The slices' starts: each slice at most 56 slots wide, all within the 4480 slots. -/
structure Starts (P : ℕ → ℕ) : Prop where
  le : ∀ s, s ≤ 80 → P s ≤ 4480
  mono : ∀ s, s < 80 → P s ≤ P (s + 1)
  width : ∀ s, s < 80 → P (s + 1) ≤ P s + 56

/-- The widest of the first `k` slices of lane group `g`. -/
def widest (P : ℕ → ℕ) (g : ℕ) : ℕ → ℕ
  | 0 => 0
  | k + 1 => max (widest P g k) (P (sliceOf g k + 1) - P (sliceOf g k))

/-- The rows of the first `k` slices hold their slots of `W`, as far as there are slots. -/
def Gathered {α : Type} (P : ℕ → ℕ) (W : ℕ → ℕ → α) (g k : ℕ) (X : S128x128.Idx → α) : Prop :=
  ∀ ι : S128x128.Idx, (ι 0).val < 8 * k → P (sliceOf g ((ι 0).val / 8)) + (ι 1).val < 4480 →
    X ι = W ((ι 0).val % 8) (P (sliceOf g ((ι 0).val / 8)) + (ι 1).val)

@[simp] theorem gathered_zero {α : Type} (P : ℕ → ℕ) (W : ℕ → ℕ → α) (g : ℕ) (X : S128x128.Idx → α) : Gathered P W g 0 X :=
  fun _ h => absurd h (by omega)

theorem sliceOf_lt {g k : ℕ} (hg : g < 5) (hk : k < 16) : sliceOf g k < 80 := by unfold sliceOf; omega

theorem widest_le {P : ℕ → ℕ} (hP : Starts P) {g : ℕ} (hg : g < 5) : ∀ k, k ≤ 16 → widest P g k ≤ 56
  | 0, _ => by simp [widest]
  | k + 1, h => by
      have := widest_le hP hg k (by omega)
      have := hP.width _ (sliceOf_lt hg (show k < 16 by omega))
      simp only [widest]; omega

section
variable (v0 : IVec S8x128 32) (W : ℕ → ℕ → Elt F .f32) (WC : ℕ → ℕ → BitVec 32)

/-- A rotated, merged pair of blocks (as the float payload) holds the slice. -/
theorem pay10_at (n : ℕ) (hn : n < 4481) (r : BitVec 32) (hr : r = BitVec.ofNat 32 n) (A B : Vec F S8x128 .f32) (hA : ∀ ι, A ι = W (ι 0).val (baseOf n + (ι 1).val))
    (hB : ∀ ι, B ι = W (ι 0).val (nextOf n + (ι 1).val)) (hv0 : ∀ ι, v0 ι = BitVec.ofNat 32 (ι 1).val) (ι : S8x128.Idx) (h : n + (ι 1).val < 4480) :
    k0_pay10 v0 r (Scalar.divsi r 128#32) (Scalar.cmpi .ne
    (Scalar.subi (Scalar.extui (Scalar.cmpi .sgt r 0#32)) (Scalar.extui (Scalar.cmpi .slt r 0#32)))
    (Scalar.subi (Scalar.extui (Scalar.cmpi .sgt 128#32 0#32)) (Scalar.extui (Scalar.cmpi .slt 128#32 0#32))))
      (Scalar.remsi r 128#32) 0#32 A B ι = W (ι 0).val (n + (ι 1).val) := by
  subst hr
  unfold k0_pay10
  rw [shapeCast_self]
  exact merged_at n hn A B W hA hB v0 hv0 ι h

/-- The same of the columns' payload. -/
theorem pay11_at (n : ℕ) (hn : n < 4481) (r : BitVec 32) (hr : r = BitVec.ofNat 32 n) (A B : Vec F S8x128 .i32) (hA : ∀ ι, A ι = WC (ι 0).val (baseOf n + (ι 1).val))
    (hB : ∀ ι, B ι = WC (ι 0).val (nextOf n + (ι 1).val)) (hv0 : ∀ ι, v0 ι = BitVec.ofNat 32 (ι 1).val) (ι : S8x128.Idx) (h : n + (ι 1).val < 4480) :
    k0_pay438 (k0_pay11 (F := F) v0 r (Scalar.divsi r 128#32) (Scalar.cmpi .ne
    (Scalar.subi (Scalar.extui (Scalar.cmpi .sgt r 0#32)) (Scalar.extui (Scalar.cmpi .slt r 0#32)))
    (Scalar.subi (Scalar.extui (Scalar.cmpi .sgt 128#32 0#32)) (Scalar.extui (Scalar.cmpi .slt 128#32 0#32))))
      (Scalar.remsi r 128#32) 0#32 A B) ι = WC (ι 0).val (n + (ι 1).val) := by
  subst hr
  unfold k0_pay438 k0_pay11
  rw [shapeCast_self]
  exact merged_at n hn A B WC hA hB v0 hv0 ι h

/-- A block of eight rows written at `8 k` extends what was gathered. -/
theorem Gathered.step {α : Type} {P : ℕ → ℕ} {W : ℕ → ℕ → α} {g k : ℕ} {X X' : S128x128.Idx → α} (h : Gathered P W g k X)
    (hin : ∀ (ι : S128x128.Idx) (x : S8x128.Idx), (ι 0).val = 8 * k + (x 0).val → (ι 1).val = (x 1).val → P (sliceOf g k) + (x 1).val < 4480 →
      X' ι = W (x 0).val (P (sliceOf g k) + (x 1).val))
    (hout : ∀ ι, (ι 0).val < 8 * k → X' ι = X ι) : Gathered P W g (k + 1) X' := by
  intro ι h0 h1
  by_cases hlt : (ι 0).val < 8 * k
  · rw [hout ι hlt]; exact h ι hlt h1
  · have e : (ι 0).val / 8 = k := by omega
    rw [e] at h1 ⊢
    rw [hin ι (ValueIdx.ix2 ⟨(ι 0).val % 8, by omega⟩ ⟨(ι 1).val, (ι 1).isLt⟩) (by show _ = _ + (ι 0).val % 8; omega) rfl h1]

end

/-- The running maximum of the widths, in words. -/
theorem maxWord : ∀ a b : Fin 57, Scalar.maxsi (BitVec.ofNat 32 a.val) (BitVec.ofNat 32 b.val) = BitVec.ofNat 32 (max a.val b.val) := by decide +kernel
theorem widestWord (a p q : ℕ) (ha : a ≤ 56) (hpq : p ≤ q) (hq : q ≤ p + 56) :
    Scalar.maxsi (BitVec.ofNat 32 a) (Scalar.subi (BitVec.ofNat 32 q) (BitVec.ofNat 32 p)) = BitVec.ofNat 32 (max a (q - p)) := by
  have e : Scalar.subi (BitVec.ofNat 32 q) (BitVec.ofNat 32 p) = BitVec.ofNat 32 (q - p) := by
    obtain ⟨d, rfl⟩ := Nat.exists_eq_add_of_le hpq
    show BitVec.ofNat 32 (p + d) - BitVec.ofNat 32 p = _
    rw [Nat.add_sub_cancel_left, BitVec.ofNat_add, BitVec.add_comm, BitVec.add_sub_cancel]
  rw [e]; exact maxWord ⟨a, by omega⟩ ⟨q - p, by omega⟩

end Cert.Kernel.Hand
end
-- ==== Proof.Kernel.Slice.lean ====
/- The loop that gathers one lane group's sixteen slices: the two aligned lane blocks a slice lies in are loaded, rotated and merged,
   so that lane `l` of the eight rows stored holds the slot `start + l` of the slice. -/
module

public import proofs.«01_k».proof.Proof.Kernel.Gather
public import Idealize.ShloMosaic.Lib.Updates.Memory
public import Idealize.ShloMosaic.Lib.Updates.Own

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄G" => MT nD τ sig Unit (Elt F) ℕ (UR sig nD τ) ℕ
/-- What a trip leaves: the rows gathered so far, in both blocks. -/
abbrev SliceInv (c : Dev nD) (arg1 : Memref sig .tc .smem S3x81 .i32) (arg9 : Memref sig .tc .vmem S8x4480 .f32) (arg10 : Memref sig .tc .vmem S8x4480 .i32)
    (arg11 : Memref sig .tc .vmem S128x128 .f32) (arg12 : Memref sig .tc .vmem S128x128 .i32)
    (X1 : BufTy.Contents (Elt F) arg1.view.ty) (X9 : BufTy.Contents (Elt F) arg9.view.ty) (X10 : BufTy.Contents (Elt F) arg10.view.ty)
    (P : ℕ → ℕ) (W : ℕ → ℕ → Elt F .f32) (WC : ℕ → ℕ → BitVec 32) (g k : ℕ) (acc : BitVec 32) : sProp 𝕄G :=
  iprop(tablePt c arg1 X1 ∗ (arg9.view.loc (c : Thread nD τ) ↦[arg9.view.set]{fullShare} X9)
    ∗ (arg10.view.loc (c : Thread nD τ) ↦[arg10.view.set]{fullShare} X10)
    ∗ (∃ f11, (arg11.view.loc (c : Thread nD τ) ↦[arg11.view.set]{fullShare} f11) ∗ ⌜Gathered P W g k (arg11.view.read (Elt F) f11)⌝)
    ∗ (∃ f12, (arg12.view.loc (c : Thread nD τ) ↦[arg12.view.set]{fullShare} f12) ∗ ⌜Gathered P WC g k (arg12.view.read (Elt F) f12)⌝)
    ∗ ⌜acc = BitVec.ofNat 32 (widest P g k)⌝)

section
variable (i : grid0.Coords) (arg1 : Memref sig .tc .smem S3x81 .i32) (harg1 : arg1.IsWhole) (arg2 : Memref sig .tc .vmem S1x640x960 .bf16) (harg2 : arg2.IsWhole) (arg3 : Memref sig .tc .vmem S1x4480x8 .fp8e4m3) (harg3 : arg3.IsWhole) (arg4 : Memref sig .tc .vmem S1x4480x8 .i32) (harg4 : arg4.IsWhole) (arg5 : Memref sig .tc .vmem S3x640 .f32) (harg5 : arg5.IsWhole) (arg6 : Memref sig .tc .vmem S3x640 .i32) (harg6 : arg6.IsWhole) (arg7 : Memref sig .tc .vmem S3x640 .i32) (harg7 : arg7.IsWhole) (arg8 : Memref sig .tc .vmem S1x640x960 .bf16) (harg8 : arg8.IsWhole) (arg9 : Memref sig .tc .vmem S8x4480 .f32) (harg9 : arg9.IsWhole) (arg10 : Memref sig .tc .vmem S8x4480 .i32) (harg10 : arg10.IsWhole) (arg11 : Memref sig .tc .vmem S128x128 .f32) (harg11 : arg11.IsWhole) (arg12 : Memref sig .tc .vmem S128x128 .i32) (harg12 : arg12.IsWhole) (arg13 : Memref sig .tc .vmem S128x128 .f32) (harg13 : arg13.IsWhole) (arg14 : Memref sig .tc .vmem S128x128 .i32) (harg14 : arg14.IsWhole) (arg15 : Memref sig .tc .vmem S640x960 .bf16) (harg15 : arg15.IsWhole) (arg16 : Memref sig .tc .vmem S3x640x640 .bf16) (harg16 : arg16.IsWhole) (arg17 : Memref sig .tc .vmem S640x960 .f32) (harg17 : arg17.IsWhole) (arg18 : Memref sig .tc .vmem S8x128 .f32) (harg18 : arg18.IsWhole) (arg0 : BitVec 32) (v0 : IVec S8x128 32) (v68 : FVec F S1x128 .f32) (v133 : FVec F S1x128 .f32) (v198 : FVec F S1x128 .f32) (v263 : FVec F S1x128 .f32) (v328 : FVec F S1x128 .f32) (v393 : IVec S1x128 32) (v458 : IVec S1x128 32) (v523 : IVec S1x128 32) (v588 : IVec S1x128 32) (v653 : IVec S1x128 32) (c0_i32_638 : BitVec 32) (c1_i32_640 : BitVec 32) (k0_t3 : Fin k0_t3_loop.trips) (arg19 : BitVec 32)
  (X1 : BufTy.Contents (Elt F) arg1.view.ty) (X9 : BufTy.Contents (Elt F) arg9.view.ty) (X10 : BufTy.Contents (Elt F) arg10.view.ty)
  (P : ℕ → ℕ) (W : ℕ → ℕ → Elt F .f32) (WC : ℕ → ℕ → BitVec 32) (c : Dev nD)

theorem trip4 (hP : Starts P) (hv0 : ∀ ι, v0 ι = BitVec.ofNat 32 (ι 1).val)
    (h1 : ∀ ι : S3x81.Idx, (ι 0).val = (i 0).val → arg1.view.read (Elt F) X1 ι = BitVec.ofNat 32 (P (ι 1).val))
    (h9 : ∀ ι : S8x4480.Idx, arg9.view.read (Elt F) X9 ι = W (ι 0).val (ι 1).val)
    (h10 : ∀ ι : S8x4480.Idx, arg10.view.read (Elt F) X10 ι = WC (ι 0).val (ι 1).val)
    (k : Fin k0_t4_loop.trips) (acc : BitVec 32) :
    SliceInv (F := F) c arg1 arg9 arg10 arg11 arg12 X1 X9 X10 P W WC k0_t3.val k.val acc
      ⊢ wp frame (wpE (defs₀ (F := F)) 𝒱₀ (c : Thread nD τ) none) Set.univ (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v653 c0_i32_638 c1_i32_640 k0_t3 arg19 k acc)
        (SliceInv (F := F) c arg1 arg9 arg10 arg11 arg12 X1 X9 X10 P W WC k0_t3.val (k.val + 1)) := by
  have hk : k.val < 16 := Nat.lt_of_lt_of_le k.isLt k0_t4_abs.2.1
  have hg : k0_t3.val < 5 := Nat.lt_of_lt_of_le k0_t3.isLt k0_t3_abs.2.1
  have hs := sliceOf_lt hg hk
  unfold SliceInv k0_t4_body
  iintro ⟨H1, H9, H10, ⟨%f11, H11, %hf11⟩, ⟨%f12, H12, %hf12⟩, %hacc⟩
  sl_exec
  have hn : P (sliceOf k0_t3.val k.val) < 4481 := Nat.lt_succ_of_le (hP.le _ (by omega))
  have e0 : trip4.sl.r i arg1 k0_t3 X1 k = BitVec.ofNat 32 (P (sliceOf k0_t3.val k.val)) := by
    unfold trip4.sl.r
    rw [View.readAt_unit _ _ _ (off8_eq i k0_t3 k) (by rw [← off8_eq i k0_t3 k]; exact k0_off8_inb i k0_t3 k)]
    exact (h1 _ rfl)
  have hw : k0_chk1 (trip4.sl.r i arg1 k0_t3 X1 k) := by
    rw [e0]; exact chk1_of ⟨_, hn⟩
  sl_exec
  sl_step
  isplitl [H1]; · iexact H1
  isplitl [H9]; · iexact H9
  isplitl [H10]; · iexact H10
  have rA : ∀ (n : ℕ) (hn : n < 4481) off (hoff : off = ![0, n]) (inb) (hin : n + 128 ≤ 4480) ι, (View.readAt (Elt F) arg9.view (Rect.unit (s := S8x4480) off S8x128.size inb).toLoadRect X9) ι = W (ι 0).val (n + (ι 1).val) := by
    intro n hn off hoff inb hin ι
    subst hoff
    rw [View.readAt_unit _ _ _ rfl inb]
    refine (h9 _).trans ?_
    show W (0 + 1 * (ι 0).val) (n + 1 * (ι 1).val) = _
    rw [Nat.zero_add, Nat.one_mul, Nat.one_mul]
  have rB : ∀ (n : ℕ) (hn : n < 4481) off (hoff : off = ![0, n]) (inb) (hin : n + 128 ≤ 4480) ι, (View.readAt (Elt F) arg10.view (Rect.unit (s := S8x4480) off S8x128.size inb).toLoadRect X10) ι = WC (ι 0).val (n + (ι 1).val) := by
    intro n hn off hoff inb hin ι
    subst hoff
    rw [View.readAt_unit _ _ _ rfl inb]
    refine (h10 _).trans ?_
    show WC (0 + 1 * (ι 0).val) (n + 1 * (ι 1).val) = _
    rw [Nat.zero_add, Nat.one_mul, Nat.one_mul]
  have hb : baseOf (P (sliceOf k0_t3.val k.val)) + 128 ≤ 4480 := by unfold baseOf; omega
  have hx : nextOf (P (sliceOf k0_t3.val k.val)) + 128 ≤ 4480 := by unfold nextOf; omega
  have o10 : k0_off10 (trip4.sl.r i arg1 k0_t3 X1 k) = ![0, baseOf (P (sliceOf k0_t3.val k.val))] := by
    rw [e0]; exact off10_eq ⟨P (sliceOf k0_t3.val k.val), hn⟩
  have o11 : k0_off11 (trip4.sl.r i arg1 k0_t3 X1 k) = ![0, nextOf (P (sliceOf k0_t3.val k.val))] := by
    rw [e0]; exact off11_eq ⟨P (sliceOf k0_t3.val k.val), hn⟩
  isplitl [H11]
  · iexists _
    isplitl [H11]; · iexact H11
    ipureintro
    refine hf11.step ?_ ?_
    · intro ι x h0 hx1 h4
      rw [View.read_writes_cons_unit_of_mem arg11.view f11 (k0_off12_inb k) _ _ ι x (k0_off12_eq k)
        (Fin.forall_fin_two.mpr ⟨h0, by rw [hx1]; exact (Nat.zero_add _).symm⟩)]
      unfold trip4.sl.v840
      exact pay10_at v0 W _ hn _ e0 _ _ (rA _ (by omega) _ o10 _ hb) (rA _ (by omega) _ o11 _ hx) hv0 x h4
    · intro ι h0
      exact View.read_writes_cons_unit_of_not_mem arg11.view f11 (k0_off12_inb k) _ _ ι (k0_off12_eq k) (0 : Fin 2) (Or.inl h0)
  isplitl [H12]
  · iexists _
    isplitl [H12]; · iexact H12
    ipureintro
    refine hf12.step ?_ ?_
    · intro ι x h0 hx1 h4
      rw [View.read_writes_cons_unit_of_mem arg12.view f12 (k0_off12_inb k) _ _ ι x (k0_off12_eq k)
        (Fin.forall_fin_two.mpr ⟨h0, by rw [hx1]; exact (Nat.zero_add _).symm⟩)]
      unfold trip4.sl.v850
      exact pay11_at v0 WC _ hn _ e0 _ _ (rB _ (by omega) _ o10 _ hb) (rB _ (by omega) _ o11 _ hx) hv0 x h4
    · intro ι h0
      exact View.read_writes_cons_unit_of_not_mem arg12.view f12 (k0_off12_inb k) _ _ ι (k0_off12_eq k) (0 : Fin 2) (Or.inl h0)
  ipureintro
  have e1 : ∀ h, (View.readAt (Elt F) arg1.view (Rect.unit (s := S3x81) (k0_off9 i k0_t3 k) S1x1.size (k0_off9_inb i k0_t3 k)).toLoadRect X1 (Shape.Idx.first h)) = BitVec.ofNat 32 (P (sliceOf k0_t3.val k.val + 1)) := by
    intro h
    rw [View.readAt_unit _ _ _ (off9_eq i k0_t3 k) (by rw [← off9_eq i k0_t3 k]; exact k0_off9_inb i k0_t3 k)]
    exact (h1 _ rfl)
  have e2 : trip4.sl.v796 i arg1 k0_t3 X1 k = Scalar.subi (BitVec.ofNat 32 (P (sliceOf k0_t3.val k.val + 1))) (BitVec.ofNat 32 (P (sliceOf k0_t3.val k.val))) :=
    congrArg₂ Scalar.subi (e1 _) e0
  unfold trip4.sl.v797
  rw [e2, hacc]
  exact widestWord _ _ _ (widest_le hP hg _ (by omega)) (hP.mono _ hs) (hP.width _ hs)

set_option warn.classDefReducibility false in
/-- The gathering loop's invariant: the rows gathered so far, and the widest slice so far. -/
@[sl_loop] def loopInv4 (hP : Starts P) (hv0 : ∀ ι, v0 ι = BitVec.ofNat 32 (ι 1).val)
    (h1 : ∀ ι : S3x81.Idx, (ι 0).val = (i 0).val → arg1.view.read (Elt F) X1 ι = BitVec.ofNat 32 (P (ι 1).val))
    (h9 : ∀ ι : S8x4480.Idx, arg9.view.read (Elt F) X9 ι = W (ι 0).val (ι 1).val)
    (h10 : ∀ ι : S8x4480.Idx, arg10.view.read (Elt F) X10 ι = WC (ι 0).val (ι 1).val) :
    Gen.LoopInvTy_k0_t4 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v653 c0_i32_638 c1_i32_640 k0_t3 arg19 0#32 where
  inv k acc := SliceInv (F := F) c arg1 arg9 arg10 arg11 arg12 X1 X9 X10 P W WC k0_t3.val k acc
  step k acc := trip4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v653 c0_i32_638 c1_i32_640 k0_t3 arg19 X1 X9 X10 P W WC c hP hv0 h1 h9 h10 k acc
end

end Cert.Kernel.Hand
end
-- ==== Proof.Kernel.Accum.lean ====
/- The loop that accumulates a block's columns: twenty accumulators of eight columns by 128 rows, eight slots at a trip. Entry `(s, l)` of an
   accumulator sums, over the slots met so far, the slot's value in lane `l` where its column is the entry's. -/
module

public import proofs.«01_k».proof.Proof.Kernel.Gather
public import Idealize.ShloMosaic.Lib.Updates.Memory
public import Idealize.ShloMosaic.Lib.Updates.Own

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄G" => MT nD τ sig Unit (Elt F) ℕ (UR sig nD τ) ℕ

/-- The slots below `n` of lane `l` whose column is `w`, their values added in order. -/
def colAcc (T : ℕ → ℕ → F .f32) (TC : ℕ → ℕ → BitVec 32) (w : BitVec 32) (l : ℕ) : ℕ → F .f32
  | 0 => Scalar.ofBits .f32 0x00000000#32
  | n + 1 => FloatOps.addf (colAcc T TC w l n) (if (Scalar.cmpi .eq w (TC n l)) = 1#1 then T n l else Scalar.ofBits .f32 0x00000000#32)

/-- One accumulator after `n` slots. -/
def blkAcc (T : ℕ → ℕ → F .f32) (TC : ℕ → ℕ → BitVec 32) (io : IVec S8x128 32) (n : ℕ) : FVec F S8x128 .f32 :=
  fun ι => colAcc T TC (io ι) (ι 1).val n

theorem row_at {α : Type} (t : ℕ) (ht : t < 8) (h : S8x128.Slices ![t, 0] S1x128) (A : S8x128.Idx → α) (ι : S8x128.Idx) :
    broadcastTo S8x128 (shapeCast S1x128 (extractStridedSlice S1x128 ![t, 0] A h) shapeCasts_S1x128_S1x128) broadcasts_S1x128_S8x128 ι
      = A (ValueIdx.ix2 ⟨t, ht⟩ ⟨(ι 1).val, (ι 1).isLt⟩) := by
  rw [shapeCast_self]
  refine (broadcastTo_apply _ _ ι (ValueIdx.ix2 (0 : Fin 1) ⟨(ι 1).val, (ι 1).isLt⟩) (Fin.forall_fin_two.mpr ⟨rfl, rfl⟩)).trans ?_
  exact extractStridedSlice_apply _ A h _ _ (Fin.forall_fin_two.mpr ⟨rfl, (Nat.zero_add _).symm⟩)

/-- One slot's step of an accumulator. -/
abbrev stepRow (io : IVec S8x128 32) (A : Vec F S8x128 .f32) (C : Vec F S8x128 .i32) (t : ℕ) (h : S8x128.Slices ![t, 0] S1x128) (a : FVec F S8x128 .f32) :
    FVec F S8x128 .f32 :=
  addf a (select (cmpi .eq io (broadcastTo S8x128 (shapeCast S1x128 (extractStridedSlice S1x128 ![t, 0] C h) shapeCasts_S1x128_S1x128) broadcasts_S1x128_S8x128))
    (broadcastTo S8x128 (shapeCast S1x128 (extractStridedSlice S1x128 ![t, 0] A h) shapeCasts_S1x128_S1x128) broadcasts_S1x128_S8x128)
    (broadcast S8x128 (Scalar.ofBits .f32 0x00000000#32)))

theorem stepRow_eq (T : ℕ → ℕ → F .f32) (TC : ℕ → ℕ → BitVec 32) (io : IVec S8x128 32) (A : Vec F S8x128 .f32) (C : Vec F S8x128 .i32) (n t : ℕ) (ht : t < 8)
    (hA : ∀ ι : S8x128.Idx, A ι = T (n + (ι 0).val) (ι 1).val) (hC : ∀ ι : S8x128.Idx, C ι = TC (n + (ι 0).val) (ι 1).val) (h : S8x128.Slices ![t, 0] S1x128) :
    stepRow io A C t h (blkAcc T TC io (n + t)) = blkAcc T TC io (n + (t + 1)) := by
  funext ι
  show FloatOps.addf (blkAcc T TC io (n + t) ι) (if (Scalar.cmpi .eq (io ι) _) = 1#1 then _ else _) = _
  rw [row_at t ht, row_at t ht, hA, hC]
  rfl

/-- Eight slots' steps. -/
theorem eight (T : ℕ → ℕ → F .f32) (TC : ℕ → ℕ → BitVec 32) (io : IVec S8x128 32) (A : Vec F S8x128 .f32) (C : Vec F S8x128 .i32) (n : ℕ)
    (hA : ∀ ι : S8x128.Idx, A ι = T (n + (ι 0).val) (ι 1).val) (hC : ∀ ι : S8x128.Idx, C ι = TC (n + (ι 0).val) (ι 1).val) :
    stepRow io A C 7 slices_S8x128_o7_0_S1x128 (stepRow io A C 6 slices_S8x128_o6_0_S1x128 (stepRow io A C 5 slices_S8x128_o5_0_S1x128
      (stepRow io A C 4 slices_S8x128_o4_0_S1x128 (stepRow io A C 3 slices_S8x128_o3_0_S1x128 (stepRow io A C 2 slices_S8x128_o2_0_S1x128
        (stepRow io A C 1 slices_S8x128_o1_0_S1x128 (stepRow io A C 0 slices_S8x128_o0_0_S1x128 (blkAcc T TC io n)))))))) = blkAcc T TC io (n + 8) := by
  have e0 := stepRow_eq T TC io A C n 0 (by omega) hA hC slices_S8x128_o0_0_S1x128
  rw [Nat.add_zero] at e0
  rw [e0, stepRow_eq T TC io A C n 1 (by omega) hA hC, stepRow_eq T TC io A C n 2 (by omega) hA hC, stepRow_eq T TC io A C n 3 (by omega) hA hC,
    stepRow_eq T TC io A C n 4 (by omega) hA hC, stepRow_eq T TC io A C n 5 (by omega) hA hC, stepRow_eq T TC io A C n 6 (by omega) hA hC,
    stepRow_eq T TC io A C n 7 (by omega) hA hC]

section
variable (i : grid0.Coords) (arg1 : Memref sig .tc .smem S3x81 .i32) (harg1 : arg1.IsWhole) (arg2 : Memref sig .tc .vmem S1x640x960 .bf16) (harg2 : arg2.IsWhole) (arg3 : Memref sig .tc .vmem S1x4480x8 .fp8e4m3) (harg3 : arg3.IsWhole) (arg4 : Memref sig .tc .vmem S1x4480x8 .i32) (harg4 : arg4.IsWhole) (arg5 : Memref sig .tc .vmem S3x640 .f32) (harg5 : arg5.IsWhole) (arg6 : Memref sig .tc .vmem S3x640 .i32) (harg6 : arg6.IsWhole) (arg7 : Memref sig .tc .vmem S3x640 .i32) (harg7 : arg7.IsWhole) (arg8 : Memref sig .tc .vmem S1x640x960 .bf16) (harg8 : arg8.IsWhole) (arg9 : Memref sig .tc .vmem S8x4480 .f32) (harg9 : arg9.IsWhole) (arg10 : Memref sig .tc .vmem S8x4480 .i32) (harg10 : arg10.IsWhole) (arg11 : Memref sig .tc .vmem S128x128 .f32) (harg11 : arg11.IsWhole) (arg12 : Memref sig .tc .vmem S128x128 .i32) (harg12 : arg12.IsWhole) (arg13 : Memref sig .tc .vmem S128x128 .f32) (harg13 : arg13.IsWhole) (arg14 : Memref sig .tc .vmem S128x128 .i32) (harg14 : arg14.IsWhole) (arg15 : Memref sig .tc .vmem S640x960 .bf16) (harg15 : arg15.IsWhole) (arg16 : Memref sig .tc .vmem S3x640x640 .bf16) (harg16 : arg16.IsWhole) (arg17 : Memref sig .tc .vmem S640x960 .f32) (harg17 : arg17.IsWhole) (arg18 : Memref sig .tc .vmem S8x128 .f32) (harg18 : arg18.IsWhole) (v684 : BitVec 32) (k0_hw2 : k0_chk2 v684) (v711 : FVec F S1x128 .f32) (v733 : IVec S8x128 32) (v738 : IVec S8x128 32) (v743 : IVec S8x128 32) (v748 : IVec S8x128 32) (v753 : IVec S8x128 32) (v758 : IVec S8x128 32) (v763 : IVec S8x128 32) (v768 : IVec S8x128 32) (v773 : IVec S8x128 32) (v778 : IVec S8x128 32) (v783 : IVec S8x128 32) (v788 : IVec S8x128 32) (v793 : IVec S8x128 32) (v798 : IVec S8x128 32) (v803 : IVec S8x128 32) (v808 : IVec S8x128 32) (v813 : IVec S8x128 32) (v818 : IVec S8x128 32) (v823 : IVec S8x128 32) (v828 : IVec S8x128 32) (v847 : BitVec 32) (v848 : FVec F S8x128 .f32) (v849 : FVec F S8x128 .f32) (v850 : FVec F S8x128 .f32) (v851 : FVec F S8x128 .f32) (v852 : FVec F S8x128 .f32) (cst_731 : F .f32)
  (f13 : BufTy.Contents (Elt F) arg13.view.ty) (f14 : BufTy.Contents (Elt F) arg14.view.ty)
  (T : ℕ → ℕ → Elt F .f32) (TC : ℕ → ℕ → BitVec 32) (n : ℕ) (c : Dev nD)

theorem trip6 (hn : n < 57) (hv : v684 = BitVec.ofNat 32 n)
    (h13 : ∀ ι : S128x128.Idx, arg13.view.read (Elt F) f13 ι = T (ι 0).val (ι 1).val)
    (h14 : ∀ ι : S128x128.Idx, arg14.view.read (Elt F) f14 ι = TC (ι 0).val (ι 1).val)
    (k : Fin (k0_t6_loop v684).trips) :
    (iprop((arg13.view.loc (c : Thread nD τ) ↦[arg13.view.set]{fullShare} f13) ∗ (arg14.view.loc (c : Thread nD τ) ↦[arg14.view.set]{fullShare} f14)) : sProp 𝕄G)
      ⊢ wp frame (wpE (defs₀ (F := F)) 𝒱₀ (c : Thread nD τ) none) Set.univ (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v684 k0_hw2 v711 v733 v738 v743 v748 v753 v758 v763 v768 v773 v778 v783 v788 v793 v798 v803 v808 v813 v818 v823 v828 v847 v848 v849 v850 v851 v852 cst_731 k (blkAcc (F := F) T TC v733 (8 * k.val), blkAcc (F := F) T TC v738 (8 * k.val), blkAcc (F := F) T TC v743 (8 * k.val), blkAcc (F := F) T TC v748 (8 * k.val), blkAcc (F := F) T TC v753 (8 * k.val), blkAcc (F := F) T TC v758 (8 * k.val), blkAcc (F := F) T TC v763 (8 * k.val), blkAcc (F := F) T TC v768 (8 * k.val), blkAcc (F := F) T TC v773 (8 * k.val), blkAcc (F := F) T TC v778 (8 * k.val), blkAcc (F := F) T TC v783 (8 * k.val), blkAcc (F := F) T TC v788 (8 * k.val), blkAcc (F := F) T TC v793 (8 * k.val), blkAcc (F := F) T TC v798 (8 * k.val), blkAcc (F := F) T TC v803 (8 * k.val), blkAcc (F := F) T TC v808 (8 * k.val), blkAcc (F := F) T TC v813 (8 * k.val), blkAcc (F := F) T TC v818 (8 * k.val), blkAcc (F := F) T TC v823 (8 * k.val), blkAcc (F := F) T TC v828 (8 * k.val)))
        (fun acc => iprop((arg13.view.loc (c : Thread nD τ) ↦[arg13.view.set]{fullShare} f13) ∗ (arg14.view.loc (c : Thread nD τ) ↦[arg14.view.set]{fullShare} f14)
          ∗ ⌜acc = (blkAcc (F := F) T TC v733 (8 * (k.val + 1)), blkAcc (F := F) T TC v738 (8 * (k.val + 1)), blkAcc (F := F) T TC v743 (8 * (k.val + 1)), blkAcc (F := F) T TC v748 (8 * (k.val + 1)), blkAcc (F := F) T TC v753 (8 * (k.val + 1)), blkAcc (F := F) T TC v758 (8 * (k.val + 1)), blkAcc (F := F) T TC v763 (8 * (k.val + 1)), blkAcc (F := F) T TC v768 (8 * (k.val + 1)), blkAcc (F := F) T TC v773 (8 * (k.val + 1)), blkAcc (F := F) T TC v778 (8 * (k.val + 1)), blkAcc (F := F) T TC v783 (8 * (k.val + 1)), blkAcc (F := F) T TC v788 (8 * (k.val + 1)), blkAcc (F := F) T TC v793 (8 * (k.val + 1)), blkAcc (F := F) T TC v798 (8 * (k.val + 1)), blkAcc (F := F) T TC v803 (8 * (k.val + 1)), blkAcc (F := F) T TC v808 (8 * (k.val + 1)), blkAcc (F := F) T TC v813 (8 * (k.val + 1)), blkAcc (F := F) T TC v818 (8 * (k.val + 1)), blkAcc (F := F) T TC v823 (8 * (k.val + 1)), blkAcc (F := F) T TC v828 (8 * (k.val + 1)))⌝)) := by
  unfold k0_t6_body
  iintro ⟨H13, H14⟩
  sl_exec
  sl_step
  isplitl [H13]; · iexact H13
  isplitl [H14]; · iexact H14
  ipureintro
  have ho : k0_off13 v684 k = ![8 * k.val, 0] := by subst hv; exact off13_eq ⟨n, hn⟩ k
  have hA : ∀ ι : S8x128.Idx, View.readAt (Elt F) arg13.view (Rect.unit (s := S128x128) (k0_off13 v684 k) S8x128.size (k0_off13_inb v684 k0_hw2 k)).toLoadRect f13 ι = T (8 * k.val + (ι 0).val) (ι 1).val := by
    intro ι
    rw [View.readAt_unit _ _ _ ho (by rw [← ho]; exact k0_off13_inb v684 k0_hw2 k)]
    refine (h13 _).trans ?_
    show T (8 * k.val + 1 * (ι 0).val) (0 + 1 * (ι 1).val) = _
    rw [Nat.zero_add, Nat.one_mul, Nat.one_mul]
  have hC : ∀ ι : S8x128.Idx, View.readAt (Elt F) arg14.view (Rect.unit (s := S128x128) (k0_off13 v684 k) S8x128.size (k0_off13_inb v684 k0_hw2 k)).toLoadRect f14 ι = TC (8 * k.val + (ι 0).val) (ι 1).val := by
    intro ι
    rw [View.readAt_unit _ _ _ ho (by rw [← ho]; exact k0_off13_inb v684 k0_hw2 k)]
    refine (h14 _).trans ?_
    show TC (8 * k.val + 1 * (ι 0).val) (0 + 1 * (ι 1).val) = _
    rw [Nat.zero_add, Nat.one_mul, Nat.one_mul]
  have hE := fun io => eight T TC io _ _ (8 * k.val) hA hC
  simp only [Prod.mk.injEq]
  exact ⟨hE v733, hE v738, hE v743, hE v748, hE v753, hE v758, hE v763, hE v768, hE v773, hE v778, hE v783, hE v788, hE v793, hE v798, hE v803, hE v808, hE v813, hE v818, hE v823, hE v828⟩

set_option warn.classDefReducibility false in
/-- The accumulating loop's invariant. -/
@[sl_loop] def loopInv6 (hn : n < 57) (hv : v684 = BitVec.ofNat 32 n)
    (h13 : ∀ ι : S128x128.Idx, arg13.view.read (Elt F) f13 ι = T (ι 0).val (ι 1).val)
    (h14 : ∀ ι : S128x128.Idx, arg14.view.read (Elt F) f14 ι = TC (ι 0).val (ι 1).val) :
    Gen.LoopInvTy_k0_t6 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v684 k0_hw2 v711 v733 v738 v743 v748 v753 v758 v763 v768 v773 v778 v783 v788 v793 v798 v803 v808 v813 v818 v823 v828 v847 v848 v849 v850 v851 v852 cst_731 (v848, v849, v850, v851, v852, k0_pay411 cst_731, k0_pay412 (F := F), k0_pay413 (F := F), k0_pay414 (F := F), k0_pay415 (F := F), k0_pay416 (F := F), k0_pay417 (F := F), k0_pay418 (F := F), k0_pay419 (F := F), k0_pay420 (F := F), k0_pay421 (F := F), k0_pay422 (F := F), k0_pay423 (F := F), k0_pay424 (F := F), k0_pay425 (F := F)) where
  inv k acc := iprop((arg13.view.loc (c : Thread nD τ) ↦[arg13.view.set]{fullShare} f13) ∗ (arg14.view.loc (c : Thread nD τ) ↦[arg14.view.set]{fullShare} f14)
    ∗ ⌜acc = (blkAcc (F := F) T TC v733 (8 * k), blkAcc (F := F) T TC v738 (8 * k), blkAcc (F := F) T TC v743 (8 * k), blkAcc (F := F) T TC v748 (8 * k), blkAcc (F := F) T TC v753 (8 * k), blkAcc (F := F) T TC v758 (8 * k), blkAcc (F := F) T TC v763 (8 * k), blkAcc (F := F) T TC v768 (8 * k), blkAcc (F := F) T TC v773 (8 * k), blkAcc (F := F) T TC v778 (8 * k), blkAcc (F := F) T TC v783 (8 * k), blkAcc (F := F) T TC v788 (8 * k), blkAcc (F := F) T TC v793 (8 * k), blkAcc (F := F) T TC v798 (8 * k), blkAcc (F := F) T TC v803 (8 * k), blkAcc (F := F) T TC v808 (8 * k), blkAcc (F := F) T TC v813 (8 * k), blkAcc (F := F) T TC v818 (8 * k), blkAcc (F := F) T TC v823 (8 * k), blkAcc (F := F) T TC v828 (8 * k))⌝)
  step k acc := by
    iintro ⟨H13, H14, %hacc⟩
    subst hacc
    iapply (trip6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v684 k0_hw2 v711 v733 v738 v743 v748 v753 v758 v763 v768 v773 v778 v783 v788 v793 v798 v803 v808 v813 v818 v823 v828 v847 v848 v849 v850 v851 v852 cst_731 f13 f14 T TC n c hn hv h13 h14 k)
    isplitl [H13]; · iexact H13
    iexact H14
end

end Cert.Kernel.Hand
end
-- ==== Proof.Kernel.Chunk.lean ====
/- One chunk of 160 columns of a lane group: accumulated, scaled, split into three bf16 parts, and stored, with the running maximum
   of the third part's magnitude. -/
module

public import proofs.«01_k».proof.Proof.Kernel.Slice
public import proofs.«01_k».proof.Proof.Kernel.Accum
public import Idealize.ShloMosaic.Lib.Updates.Memory
public import Idealize.ShloMosaic.Lib.Updates.Own

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄G" => MT nD τ sig Unit (Elt F) ℕ (UR sig nD τ) ℕ

/-- What the chunk loop carries. -/
abbrev ChunkInv (c : Dev nD) (arg13 : Memref sig .tc .vmem S128x128 .f32) (arg14 : Memref sig .tc .vmem S128x128 .i32)
    (arg16 : Memref sig .tc .vmem S3x640x640 .bf16) (arg18 : Memref sig .tc .vmem S8x128 .f32)
    (f13 : BufTy.Contents (Elt F) arg13.view.ty) (f14 : BufTy.Contents (Elt F) arg14.view.ty) (k : ℕ) : sProp 𝕄G :=
  iprop((arg13.view.loc (c : Thread nD τ) ↦[arg13.view.set]{fullShare} f13) ∗ (arg14.view.loc (c : Thread nD τ) ↦[arg14.view.set]{fullShare} f14)
    ∗ (∃ f16, (arg16.view.loc (c : Thread nD τ) ↦[arg16.view.set]{fullShare} f16))
    ∗ (∃ f18, (arg18.view.loc (c : Thread nD τ) ↦[arg18.view.set]{fullShare} f18)))

section
variable (i : grid0.Coords) (arg1 : Memref sig .tc .smem S3x81 .i32) (harg1 : arg1.IsWhole) (arg2 : Memref sig .tc .vmem S1x640x960 .bf16) (harg2 : arg2.IsWhole) (arg3 : Memref sig .tc .vmem S1x4480x8 .fp8e4m3) (harg3 : arg3.IsWhole) (arg4 : Memref sig .tc .vmem S1x4480x8 .i32) (harg4 : arg4.IsWhole) (arg5 : Memref sig .tc .vmem S3x640 .f32) (harg5 : arg5.IsWhole) (arg6 : Memref sig .tc .vmem S3x640 .i32) (harg6 : arg6.IsWhole) (arg7 : Memref sig .tc .vmem S3x640 .i32) (harg7 : arg7.IsWhole) (arg8 : Memref sig .tc .vmem S1x640x960 .bf16) (harg8 : arg8.IsWhole) (arg9 : Memref sig .tc .vmem S8x4480 .f32) (harg9 : arg9.IsWhole) (arg10 : Memref sig .tc .vmem S8x4480 .i32) (harg10 : arg10.IsWhole) (arg11 : Memref sig .tc .vmem S128x128 .f32) (harg11 : arg11.IsWhole) (arg12 : Memref sig .tc .vmem S128x128 .i32) (harg12 : arg12.IsWhole) (arg13 : Memref sig .tc .vmem S128x128 .f32) (harg13 : arg13.IsWhole) (arg14 : Memref sig .tc .vmem S128x128 .i32) (harg14 : arg14.IsWhole) (arg15 : Memref sig .tc .vmem S640x960 .bf16) (harg15 : arg15.IsWhole) (arg16 : Memref sig .tc .vmem S3x640x640 .bf16) (harg16 : arg16.IsWhole) (arg17 : Memref sig .tc .vmem S640x960 .f32) (harg17 : arg17.IsWhole) (arg18 : Memref sig .tc .vmem S8x128 .f32) (harg18 : arg18.IsWhole) (arg0 : BitVec 32) (v0 : IVec S8x128 32) (v68 : FVec F S1x128 .f32) (v133 : FVec F S1x128 .f32) (v198 : FVec F S1x128 .f32) (v263 : FVec F S1x128 .f32) (v328 : FVec F S1x128 .f32) (v393 : IVec S1x128 32) (v458 : IVec S1x128 32) (v523 : IVec S1x128 32) (v588 : IVec S1x128 32) (v596 : IVec S1x16 32) (v604 : IVec S1x16 32) (v612 : IVec S1x16 32) (v620 : IVec S1x16 32) (v628 : IVec S1x16 32) (v629 : Vec F S1x128 .i32) (c1_i32_614 : BitVec 32) (k0_t3 : Fin k0_t3_loop.trips) (v684 : BitVec 32) (k0_hw2 : k0_chk2 v684) (v711 : FVec F S1x128 .f32)
  (f13 : BufTy.Contents (Elt F) arg13.view.ty) (f14 : BufTy.Contents (Elt F) arg14.view.ty)
  (T : ℕ → ℕ → Elt F .f32) (TC : ℕ → ℕ → BitVec 32) (n : ℕ) (c : Dev nD)

theorem trip5 (hn : n < 57) (hv : v684 = BitVec.ofNat 32 n) (htr : (k0_t7_loop v684).trips = 0)
    (h13 : ∀ ι : S128x128.Idx, arg13.view.read (Elt F) f13 ι = T (ι 0).val (ι 1).val)
    (h14 : ∀ ι : S128x128.Idx, arg14.view.read (Elt F) f14 ι = TC (ι 0).val (ι 1).val)
    (k : Fin k0_t5_loop.trips) :
    ChunkInv (F := F) c arg13 arg14 arg16 arg18 f13 f14 k.val
      ⊢ wp frame (wpE (defs₀ (F := F)) 𝒱₀ (c : Thread nD τ) none) Set.univ (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v596 v604 v612 v620 v628 v629 c1_i32_614 k0_t3 v684 k0_hw2 v711 k ())
        (fun _ => ChunkInv (F := F) c arg13 arg14 arg16 arg18 f13 f14 (k.val + 1)) := by
  unfold ChunkInv k0_t5_body
  iintro ⟨H13, H14, ⟨%f16, H16⟩, ⟨%f18, H18⟩⟩
  sl_exec
  let L := loopInv6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v684 k0_hw2 v711 (trip5.sl.v733 k) (trip5.sl.v738 k) (trip5.sl.v743 k) (trip5.sl.v748 k) (trip5.sl.v753 k) (trip5.sl.v758 k) (trip5.sl.v763 k) (trip5.sl.v768 k) (trip5.sl.v773 k) (trip5.sl.v778 k) (trip5.sl.v783 k) (trip5.sl.v788 k) (trip5.sl.v793 k) (trip5.sl.v798 k) (trip5.sl.v803 k) (trip5.sl.v808 k) (trip5.sl.v813 k) (trip5.sl.r k) (trip5.sl.r_1 k) (trip5.sl.r_2 k) (trip5.sl.v847 v684) k0_pay406 k0_pay407 k0_pay408 k0_pay409 k0_pay410 trip5.sl.cst_731 f13 f14 T TC n c hn hv h13 h14
  sl_exec
  sl_step
  isplitl [H13]; · iexact H13
  isplitl [H14]; · iexact H14
  isplitl [H16]
  · iexists _; iexact H16
  iexists _; iexact H18

/-- The chunk loop carries the two masked blocks, and leaves the matrix and the flag rewritten. -/
@[instance_reducible] def loopInv5 (hn : n < 57) (hv : v684 = BitVec.ofNat 32 n) (htr : (k0_t7_loop v684).trips = 0)
    (h13 : ∀ ι : S128x128.Idx, arg13.view.read (Elt F) f13 ι = T (ι 0).val (ι 1).val)
    (h14 : ∀ ι : S128x128.Idx, arg14.view.read (Elt F) f14 ι = TC (ι 0).val (ι 1).val) :
    Gen.LoopInvTy_k0_t5 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v596 v604 v612 v620 v628 v629 c1_i32_614 k0_t3 v684 k0_hw2 v711 where
  inv k _ := ChunkInv (F := F) c arg13 arg14 arg16 arg18 f13 f14 k
  step k _ := trip5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v596 v604 v612 v620 v628 v629 c1_i32_614 k0_t3 v684 k0_hw2 v711 f13 f14 T TC n c hn hv htr h13 h14 k
end

end Cert.Kernel.Hand
end
-- ==== Proof.Kernel.Group.lean ====
/- One group of 128 lanes: its sixteen slices gathered, transposed and masked by the row lengths, then accumulated chunk by chunk. -/
module

public import proofs.«01_k».proof.Proof.Kernel.Chunk
public import Idealize.ShloMosaic.Lib.Updates.Memory
public import Idealize.ShloMosaic.Lib.Updates.Own

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄G" => MT nD τ sig Unit (Elt F) ℕ (UR sig nD τ) ℕ

/-- What a lane group's trip carries. -/
abbrev GroupInv (c : Dev nD) (arg1 : Memref sig .tc .smem S3x81 .i32) (arg9 : Memref sig .tc .vmem S8x4480 .f32) (arg10 : Memref sig .tc .vmem S8x4480 .i32) (arg11 : Memref sig .tc .vmem S128x128 .f32) (arg12 : Memref sig .tc .vmem S128x128 .i32) (arg13 : Memref sig .tc .vmem S128x128 .f32) (arg14 : Memref sig .tc .vmem S128x128 .i32) (arg16 : Memref sig .tc .vmem S3x640x640 .bf16) (arg18 : Memref sig .tc .vmem S8x128 .f32)
    (X1 : BufTy.Contents (Elt F) arg1.view.ty) (X9 : BufTy.Contents (Elt F) arg9.view.ty) (X10 : BufTy.Contents (Elt F) arg10.view.ty) (k : ℕ) : sProp 𝕄G :=
  iprop(tablePt c arg1 X1 ∗ (arg9.view.loc (c : Thread nD τ) ↦[arg9.view.set]{fullShare} X9) ∗ (arg10.view.loc (c : Thread nD τ) ↦[arg10.view.set]{fullShare} X10)
    ∗ (∃ f11, (arg11.view.loc (c : Thread nD τ) ↦[arg11.view.set]{fullShare} f11))
    ∗ (∃ f12, (arg12.view.loc (c : Thread nD τ) ↦[arg12.view.set]{fullShare} f12))
    ∗ (∃ f13, (arg13.view.loc (c : Thread nD τ) ↦[arg13.view.set]{fullShare} f13))
    ∗ (∃ f14, (arg14.view.loc (c : Thread nD τ) ↦[arg14.view.set]{fullShare} f14))
    ∗ (∃ f16, (arg16.view.loc (c : Thread nD τ) ↦[arg16.view.set]{fullShare} f16))
    ∗ (∃ f18, (arg18.view.loc (c : Thread nD τ) ↦[arg18.view.set]{fullShare} f18)))

/-- A block's cells by natural-number positions. -/
def atNat {α : Type} (X : S128x128.Idx → α) (j l : ℕ) : α := X (ValueIdx.ix2 (Fin.ofNat 128 j) (Fin.ofNat 128 l))
/-- A block read at natural-number positions. -/
theorem at_self {α : Type} (X : S128x128.Idx → α) (ι : S128x128.Idx) :
    X ι = atNat X (ι 0).val (ι 1).val := by
  refine congrArg X (funext ?_)
  refine Fin.forall_fin_two.mpr ⟨Fin.ext ?_, Fin.ext ?_⟩
  · exact (Nat.mod_eq_of_lt (ι 0).isLt).symm
  · exact (Nat.mod_eq_of_lt (ι 1).isLt).symm
/-- The unpacked slots by natural-number positions. -/
def atSlot {α : Type} (X : S8x4480.Idx → α) (j l : ℕ) : α := X (ValueIdx.ix2 (Fin.ofNat 8 j) (Fin.ofNat 4480 l))
theorem atSlot_self {α : Type} (X : S8x4480.Idx → α) (ι : S8x4480.Idx) : X ι = atSlot X (ι 0).val (ι 1).val := by
  refine congrArg X (funext ?_)
  refine Fin.forall_fin_two.mpr ⟨Fin.ext ?_, Fin.ext ?_⟩
  · exact (Nat.mod_eq_of_lt (ι 0).isLt).symm
  · exact (Nat.mod_eq_of_lt (ι 1).isLt).symm

section
variable (i : grid0.Coords) (arg1 : Memref sig .tc .smem S3x81 .i32) (harg1 : arg1.IsWhole) (arg2 : Memref sig .tc .vmem S1x640x960 .bf16) (harg2 : arg2.IsWhole) (arg3 : Memref sig .tc .vmem S1x4480x8 .fp8e4m3) (harg3 : arg3.IsWhole) (arg4 : Memref sig .tc .vmem S1x4480x8 .i32) (harg4 : arg4.IsWhole) (arg5 : Memref sig .tc .vmem S3x640 .f32) (harg5 : arg5.IsWhole) (arg6 : Memref sig .tc .vmem S3x640 .i32) (harg6 : arg6.IsWhole) (arg7 : Memref sig .tc .vmem S3x640 .i32) (harg7 : arg7.IsWhole) (arg8 : Memref sig .tc .vmem S1x640x960 .bf16) (harg8 : arg8.IsWhole) (arg9 : Memref sig .tc .vmem S8x4480 .f32) (harg9 : arg9.IsWhole) (arg10 : Memref sig .tc .vmem S8x4480 .i32) (harg10 : arg10.IsWhole) (arg11 : Memref sig .tc .vmem S128x128 .f32) (harg11 : arg11.IsWhole) (arg12 : Memref sig .tc .vmem S128x128 .i32) (harg12 : arg12.IsWhole) (arg13 : Memref sig .tc .vmem S128x128 .f32) (harg13 : arg13.IsWhole) (arg14 : Memref sig .tc .vmem S128x128 .i32) (harg14 : arg14.IsWhole) (arg15 : Memref sig .tc .vmem S640x960 .bf16) (harg15 : arg15.IsWhole) (arg16 : Memref sig .tc .vmem S3x640x640 .bf16) (harg16 : arg16.IsWhole) (arg17 : Memref sig .tc .vmem S640x960 .f32) (harg17 : arg17.IsWhole) (arg18 : Memref sig .tc .vmem S8x128 .f32) (harg18 : arg18.IsWhole) (arg0 : BitVec 32) (v0 : IVec S8x128 32) (v68 : FVec F S1x128 .f32) (v133 : FVec F S1x128 .f32) (v198 : FVec F S1x128 .f32) (v263 : FVec F S1x128 .f32) (v328 : FVec F S1x128 .f32) (v393 : IVec S1x128 32) (v458 : IVec S1x128 32) (v523 : IVec S1x128 32) (v588 : IVec S1x128 32) (v596 : IVec S1x16 32) (v604 : IVec S1x16 32) (v612 : IVec S1x16 32) (v620 : IVec S1x16 32) (v628 : IVec S1x16 32) (v629 : Vec F S1x128 .i32) (c1_i32_614 : BitVec 32) (v631 : Vec F S1x128 .i32) (v634 : Vec F S1x128 .i32) (v637 : Vec F S1x128 .i32) (v639 : Vec F S1x128 .i32) (v642 : Vec F S1x128 .i32) (v645 : Vec F S1x128 .i32) (v647 : Vec F S1x128 .i32) (v650 : Vec F S1x128 .i32)
  (X1 : BufTy.Contents (Elt F) arg1.view.ty) (X9 : BufTy.Contents (Elt F) arg9.view.ty) (X10 : BufTy.Contents (Elt F) arg10.view.ty)
  (P : ℕ → ℕ) (c : Dev nD)

theorem trip3 (hP : Starts P) (hv0 : ∀ ι, v0 ι = BitVec.ofNat 32 (ι 1).val)
    (h1 : ∀ ι : S3x81.Idx, (ι 0).val = (i 0).val → arg1.view.read (Elt F) X1 ι = BitVec.ofNat 32 (P (ι 1).val))
    (k : Fin k0_t3_loop.trips) :
    GroupInv (F := F) c arg1 arg9 arg10 arg11 arg12 arg13 arg14 arg16 arg18 X1 X9 X10 k.val
      ⊢ wp frame (wpE (defs₀ (F := F)) 𝒱₀ (c : Thread nD τ) none) Set.univ (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v596 v604 v612 v620 v628 v629 c1_i32_614 v631 v634 v637 v639 v642 v645 v647 v650 k ())
        (fun _ => GroupInv (F := F) c arg1 arg9 arg10 arg11 arg12 arg13 arg14 arg16 arg18 X1 X9 X10 (k.val + 1)) := by
  unfold GroupInv k0_t3_body
  iintro ⟨H1, H9, H10, ⟨%f11, H11⟩, ⟨%f12, H12⟩, ⟨%f13, H13⟩, ⟨%f14, H14⟩, ⟨%f16, H16⟩, ⟨%f18, H18⟩⟩
  sl_exec
  let W := atSlot (arg9.view.read (Elt F) X9)
  let WC := atSlot (arg10.view.read (Elt F) X10)
  have h9 : ∀ ι : S8x4480.Idx, arg9.view.read (Elt F) X9 ι = W (ι 0).val (ι 1).val := atSlot_self _
  have h10 : ∀ ι : S8x4480.Idx, arg10.view.read (Elt F) X10 ι = WC (ι 0).val (ι 1).val := atSlot_self _
  have g11 := gathered_zero P W k.val (arg11.view.read (Elt F) f11)
  have g12 := gathered_zero P WC k.val (arg12.view.read (Elt F) f12)
  let L4 := loopInv4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 (k0_pay519 arg0 v596 v604 v612 v620 v628 v629 c1_i32_614 v631 v634 v637 v639 v642 v645 v647 v650) (0#32) (1#32) k (trip3.sl.arg19 k) X1 X9 X10 P W WC c hP hv0 h1 h9 h10
  have hk : k.val < 5 := Nat.lt_of_lt_of_le k.isLt k0_t3_abs.2.1
  have hw := Nat.lt_succ_of_le (widest_le hP hk (Scf.trips k0_t4_loop.lb k0_t4_loop.ub k0_t4_loop.st) k0_t4_abs.2.1)
  have hchk := chk2_of ⟨_, hw⟩
  have htr := trips7_eq ⟨_, hw⟩
  sl_exec
  let L5 := loopInv5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v596 v604 v612 v620 v628 v629 c1_i32_614 k (BitVec.ofNat 32 (widest P k.val (Scf.trips k0_t4_loop.lb k0_t4_loop.ub k0_t4_loop.st))) hchk (trip3.sl.r_1 v68 v133 v198 v263 v328 k)
    (arg13.view.writes (Elt F) arg13.view.junk (trip3.sl.H13_2 arg11 arg13 arg0 v393 v458 v523 v588 v596 v604 v612 v620 v628 v629 c1_i32_614 v631 v634 v637 v639 v642 v645 v647 v650 c k f11L0))
    (arg14.view.writes (Elt F) arg14.view.junk (trip3.sl.H14_2 arg12 arg14 arg0 v393 v458 v523 v588 v596 v604 v612 v620 v628 v629 c1_i32_614 v631 v634 v637 v639 v642 v645 v647 v650 c k f12L1))
    (atNat (arg13.view.read (Elt F) _)) (atNat (arg14.view.read (Elt F) _)) _ c hw rfl htr (fun ι => at_self _ ι) (fun ι => at_self _ ι)
  sl_exec
  sl_step
  isplitl [H1]; · iexact H1
  isplitl [H9]; · iexact H9
  isplitl [H10]; · iexact H10
  isplitl [H11]
  · iexists _; iexact H11
  isplitl [H12]
  · iexists _; iexact H12
  isplitl [H13]
  · iexists _; iexact H13
  isplitl [H14]
  · iexists _; iexact H14
  isplitl [H16]
  · iexists _; iexact H16
  iexists _; iexact H18

/-- The group loop. -/
@[sl_loop, instance_reducible] def loopInv3 (hP : Starts P) (hv0 : ∀ ι, v0 ι = BitVec.ofNat 32 (ι 1).val)
    (h1 : ∀ ι : S3x81.Idx, (ι 0).val = (i 0).val → arg1.view.read (Elt F) X1 ι = BitVec.ofNat 32 (P (ι 1).val)) :
    Gen.LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v596 v604 v612 v620 v628 v629 c1_i32_614 v631 v634 v637 v639 v642 v645 v647 v650 where
  inv k _ := GroupInv (F := F) c arg1 arg9 arg10 arg11 arg12 arg13 arg14 arg16 arg18 X1 X9 X10 k
  step k _ := trip3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v596 v604 v612 v620 v628 v629 c1_i32_614 v631 v634 v637 v639 v642 v645 v647 v650 X1 X9 X10 P c hP hv0 h1 k
end

end Cert.Kernel.Hand
end
-- ==== Proof.Kernel.Points.lean ====
/- The schedule of the pallas_call on its grid: when each window is fetched and written back, and the body as the pipeline calls it. -/
module

public import proofs.«01_k».proof.Proof.Gen.Kernel
public import Idealize.ShloMosaic.Lib.Pipeline.Kit

@[expose] public section

noncomputable section

namespace Cert.Kernel.Hand

open Idealize.ShloMosaic Idealize.ShloMosaic.TcCoe
open Cert.Kernel Cert.Kernel.Gen
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%0)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg3)) is fetched at the first point only, at any contents of the tables (its index map reads none). -/
theorem fetch0_3 (a : (pcfg0 (F := F)).Adm) : ∀ t : Fin (cfg0 a).N, ((cfg0 a).win 3).fetch t = true ↔ t.val % 3 = 0 :=
  (fun t => Pipeline.Window.fetchOf_const cc0_transform_3 (fun _ _ => rfl) (n := 3) (by decide) t : ∀ t : Fin grid0.N, Pipeline.Window.fetchOf grid0 false cc0_transform_3 t = true ↔ t.val % 3 = 0)
/-- Window 4 (operand 5 (%arg4)) is fetched at the first point only, at any contents of the tables (its index map reads none). -/
theorem fetch0_4 (a : (pcfg0 (F := F)).Adm) : ∀ t : Fin (cfg0 a).N, ((cfg0 a).win 4).fetch t = true ↔ t.val % 3 = 0 :=
  (fun t => Pipeline.Window.fetchOf_const cc0_transform_4 (fun _ _ => rfl) (n := 3) (by decide) t : ∀ t : Fin grid0.N, Pipeline.Window.fetchOf grid0 false cc0_transform_4 t = true ↔ t.val % 3 = 0)
/-- Window 5 (operand 6 (%arg6)) is fetched at the first point only, at any contents of the tables (its index map reads none). -/
theorem fetch0_5 (a : (pcfg0 (F := F)).Adm) : ∀ t : Fin (cfg0 a).N, ((cfg0 a).win 5).fetch t = true ↔ t.val % 3 = 0 :=
  (fun t => Pipeline.Window.fetchOf_const cc0_transform_5 (fun _ _ => rfl) (n := 3) (by decide) t : ∀ t : Fin grid0.N, Pipeline.Window.fetchOf grid0 false cc0_transform_5 t = true ↔ t.val % 3 = 0)
/-- Window 6 (result 0 (%1)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_spmm_t (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)

end Cert.Kernel.Hand

end
-- ==== Proof.Kernel.Runs.lean ====
/- What the launch is stated over: the buffers at the entry of the pallas_call, the table, the windows' blocks, the memrefs the body is handed. -/
module

public import proofs.«01_k».proof.Proof.Gen.Kernel.Launch
public import proofs.«01_k».proof.Proof.Gen.Kernel.Skeleton
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3x81 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (by decide : main_arg5 ∈ Pipeline.restRefs sig spec0)).trans (V_main_arg5 m c),
      ((h c).1 5).trans (((dats 0 c).arrAt_in 5 rfl _).trans ((hA c 5).trans (V_main_arg6 m c)))⟩) h

/-! ## The kernel body on any staging memrefs: a subtype the run finds -/

/-- One staging buffer of output window 6, through which its contents are stated (`View.read_writes_of_cover`: the
    choice does not matter). -/
abbrev VO0_6 : View sig .tc .vmem S1x640x960 .bf16 := (Memref.whole cc0_stg6_0 : Memref sig .tc .vmem S1x640x960 .bf16).view
/-- Each window's current staging memref at point `t`, spelled as the pipeline passes it (`bodyAt0`), and its wholeness. -/
abbrev ms0_0 (hO : Ok m) (t : Fin (cfgM m hO).N) : Memref sig .tc .vmem S1x640x960 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4480x8 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4480x8 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S3x640 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S3x640 .i32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S3x640 .i32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x640x960 .bf16 := spec0_6.stage ((cfgM m hO).slots t 6)
abbrev hs0_6 (hO : Ok m) (t : Fin (cfgM m hO).N) : (ms0_6 m hO t).IsWhole := hstage0_6 (((cfgM m hO).slots t 6).cast nbuf0_6)
/-- The scratch operands: whole scoped buffers of the kernel's own, passed beside the windows. -/
abbrev scM0_0 : Memref sig .tc .vmem S8x4480 .f32 := Memref.whole cc0_scratch0
abbrev scM0_1 : Memref sig .tc .vmem S8x4480 .i32 := Memref.whole cc0_scratch1
abbrev scM0_2 : Memref sig .tc .vmem S128x128 .f32 := Memref.whole cc0_scratch2
abbrev scM0_3 : Memref sig .tc .vmem S128x128 .i32 := Memref.whole cc0_scratch3
abbrev scM0_4 : Memref sig .tc .vmem S128x128 .f32 := Memref.whole cc0_scratch4
abbrev scM0_5 : Memref sig .tc .vmem S128x128 .i32 := Memref.whole cc0_scratch5
abbrev scM0_6 : Memref sig .tc .vmem S640x960 .bf16 := Memref.whole cc0_scratch6
abbrev scM0_7 : Memref sig .tc .vmem S3x640x640 .bf16 := Memref.whole cc0_scratch7
abbrev scM0_8 : Memref sig .tc .vmem S640x960 .f32 := Memref.whole cc0_scratch8
abbrev scM0_9 : Memref sig .tc .vmem S8x128 .f32 := Memref.whole cc0_scratch9

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.Kernel.Hand

end
-- ==== Proof.Kernel.Body.lean ====
/- The body of the kernel at one grid point, on any staging buffers. -/
module

public import proofs.«01_k».proof.Proof.Kernel.Group
public import proofs.«01_k».proof.Proof.Kernel.Runs
public import Idealize.ShloMosaic.Lib.Updates.Memory
public import Idealize.ShloMosaic.Lib.Updates.Own

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄G" => MT nD τ sig Unit (Elt F) ℕ (UR sig nD τ) ℕ

section
variable (c : Dev nD) (i : grid0.Coords) (arg2 : Memref sig .tc .vmem S1x640x960 .bf16) (harg2 : arg2.IsWhole) (arg3 : Memref sig .tc .vmem S1x4480x8 .fp8e4m3) (harg3 : arg3.IsWhole) (arg4 : Memref sig .tc .vmem S1x4480x8 .i32) (harg4 : arg4.IsWhole) (arg5 : Memref sig .tc .vmem S3x640 .f32) (harg5 : arg5.IsWhole) (arg6 : Memref sig .tc .vmem S3x640 .i32) (harg6 : arg6.IsWhole) (arg7 : Memref sig .tc .vmem S3x640 .i32) (harg7 : arg7.IsWhole) (arg8 : Memref sig .tc .vmem S1x640x960 .bf16) (harg8 : arg8.IsWhole) (arg9 : Memref sig .tc .vmem S8x4480 .f32) (harg9 : arg9.IsWhole) (arg10 : Memref sig .tc .vmem S8x4480 .i32) (harg10 : arg10.IsWhole) (arg11 : Memref sig .tc .vmem S128x128 .f32) (harg11 : arg11.IsWhole) (arg12 : Memref sig .tc .vmem S128x128 .i32) (harg12 : arg12.IsWhole) (arg13 : Memref sig .tc .vmem S128x128 .f32) (harg13 : arg13.IsWhole) (arg14 : Memref sig .tc .vmem S128x128 .i32) (harg14 : arg14.IsWhole) (arg15 : Memref sig .tc .vmem S640x960 .bf16) (harg15 : arg15.IsWhole) (arg16 : Memref sig .tc .vmem S3x640x640 .bf16) (harg16 : arg16.IsWhole) (arg17 : Memref sig .tc .vmem S640x960 .f32) (harg17 : arg17.IsWhole) (arg18 : Memref sig .tc .vmem S8x128 .f32) (harg18 : arg18.IsWhole)
  (x0 : Vec F S1x640x960 .bf16) (x1 : Vec F S1x4480x8 .fp8e4m3) (x2 : Vec F S1x4480x8 .i32) (x3 : Vec F S3x640 .f32) (x4 : Vec F S3x640 .i32) (x5 : Vec F S3x640 .i32) (xt0 : TbBuf0 (F := F) c tbM0_0)
  (P : ℕ → ℕ)

/-- The body terminates without a fault from any contents, whenever the table's row for this point lists the starts of well-formed
    slices; the inputs and the table are kept. -/
theorem run (hP : Starts P)
    (h1 : ∀ ι : S3x81.Idx, (ι 0).val = (i 0).val → tbM0_0.view.read (Elt F) xt0 ι = BitVec.ofNat 32 (P (ι 1).val)) (K : PUnit → sProp 𝕄G) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0) -∗ K ⟨⟩))
      ⊢ wp frame (wpE (defs₀ (F := F)) 𝒱₀ c none) Set.univ (cc0_spmm_t i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_spmm_t_eq_skeleton]; unfold cc0_spmm_t_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, HT0, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  have hv0 : ∀ ι, run.sl.v0 ι = BitVec.ofNat 32 (ι 1).val := fun ι => congrArg (BitVec.ofNat 32) (by show 0 * 128 + (ι 1).val = (ι 1).val; omega)
  let L3 := loopInv3 (F := F) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) run.sl.v0 (run.sl.v68 c i arg5 harg5 x3) (run.sl.v133 c i arg5 harg5 x3) (run.sl.v198 c i arg5 harg5 x3) (run.sl.v263 c i arg5 harg5 x3) (run.sl.v328 c i arg5 harg5 x3) (run.sl.v393 c i arg6 harg6 x4) (run.sl.v458 c i arg6 harg6 x4) (run.sl.v523 c i arg6 harg6 x4) (run.sl.v588 c i arg6 harg6 x4) (run.sl.v596 c i arg6 harg6 x4) (run.sl.v604 c i arg6 harg6 x4) (run.sl.v612 c i arg6 harg6 x4) (run.sl.v620 c i arg6 harg6 x4) (run.sl.v628 c i arg6 harg6 x4) (run.sl.r_6 c arg6 harg6 x4) (1#32) (View.readAt (Elt F) arg6.view (Rect.unit (s := S3x640) ![1, 256] S1x128.size inb_S3x640_S1x128_1_256).toLoadRect (harg6.unread x4)) (View.readAt (Elt F) arg6.view (Rect.unit (s := S3x640) ![2, 256] S1x128.size inb_S3x640_S1x128_2_256).toLoadRect (harg6.unread x4)) (View.readAt (Elt F) arg6.view (Rect.unit (s := S3x640) ![0, 384] S1x128.size inb_S3x640_S1x128_0_384).toLoadRect (harg6.unread x4)) (View.readAt (Elt F) arg6.view (Rect.unit (s := S3x640) ![1, 384] S1x128.size inb_S3x640_S1x128_1_384).toLoadRect (harg6.unread x4)) (View.readAt (Elt F) arg6.view (Rect.unit (s := S3x640) ![2, 384] S1x128.size inb_S3x640_S1x128_2_384).toLoadRect (harg6.unread x4)) (View.readAt (Elt F) arg6.view (Rect.unit (s := S3x640) ![0, 512] S1x128.size inb_S3x640_S1x128_0_512).toLoadRect (harg6.unread x4)) (View.readAt (Elt F) arg6.view (Rect.unit (s := S3x640) ![1, 512] S1x128.size inb_S3x640_S1x128_1_512).toLoadRect (harg6.unread x4)) (View.readAt (Elt F) arg6.view (Rect.unit (s := S3x640) ![2, 512] S1x128.size inb_S3x640_S1x128_2_512).toLoadRect (harg6.unread x4)) xt0 (arg9.view.writes (Elt F) fs0 (pb_k0_t1 (F := F) 𝒱₀ c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread x1) (harg4.unread x2) (Scf.trips k0_t1_loop.lb k0_t1_loop.ub k0_t1_loop.st)).1) (arg10.view.writes (Elt F) fs1 (pb_k0_t1 (F := F) 𝒱₀ c none i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg3.unread x1) (harg4.unread x2) (Scf.trips k0_t1_loop.lb k0_t1_loop.ub k0_t1_loop.st)).2) P c hP hv0 h1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _, _; isplitr; swap; · iexact HS9
    ipureintro; rfl
  iexact HT0
end

end Cert.Kernel.Hand
end
-- ==== Proof.Kernel.Frame.lean ====
/- The frame of the kernel: under a table whose rows list the starts of well-formed slices, every run terminates without a fault and
   keeps the arguments. Nothing is said of the output here. -/
module

public import proofs.«01_k».proof.Proof.Kernel.Body
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Cert.Kernel Cert.Kernel.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What is asked of the table: each row lists the starts of the slices of one batch. -/
def TableOk : Prop := ∀ b : Fin 3, ∃ P : ℕ → ℕ, Starts P ∧ ∀ ι : S3x81.Idx, (ι 0).val = b.val → tbM0_0.view.read (Elt F) (tbl m 0) ι = BitVec.ofNat 32 (P (ι 1).val)

/-! ## The pipeline's proof data -/

/-- The output is not described here. -/
def forgets : Fin 7 → Bool := fun w => w.val == 6

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => (fun _ => FloatOps.ofBits .bf16 0#16)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ (∃ d, owns (c : Thread nD τ) (ms0_6 m hO t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (hO : Ok m) (hT : TableOk m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2, HS3, HS4, HS5, HS6, HS7, HS8, HS9⟩, Hg⟩, HT0⟩, Ho, ⟨%d0, H0⟩, ⟨%d1, H1⟩, ⟨%d2, H2⟩, ⟨%d3, H3⟩, ⟨%d4, H4⟩, ⟨%d5, H5⟩, ⟨%d6, H6⟩⟩
  obtain ⟨P, hP, h1⟩ := hT (grid0.coords t 0)
  iapply (run c (grid0.coords t) _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) P hP h1 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HT0]; · iexact HT0
  iintro ⟨H0, H1, H2, H3, H4, H5, H6, HS0, HS1, HS2, HS3, HS4, HS5, HS6, HS7, HS8, HS9, HT0⟩
  isplitl [HS0 HS1 HS2 HS3 HS4 HS5 HS6 HS7 HS8 HS9 Hg HT0]
  · isplitl [HS0 HS1 HS2 HS3 HS4 HS5 HS6 HS7 HS8 HS9 Hg]
    · isplitl [HS0 HS1 HS2 HS3 HS4 HS5 HS6 HS7 HS8 HS9]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        isplitl [HS8]
        · iexact HS8
        iexact HS9
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hT : TableOk m) (c : Dev nD) : BodyObligation (dats (F := F) m hO 0 c) (defs₀ (F := F)) Variants.none () Set.univ forgets := fun t => by
  rw [bigSep_W0, bigSep_W0, defs₀_row m hO]
  exact triple_restated (sound_body m hO hT c t) rfl .rfl fun _ => .rfl

/-! ## The run and the frame -/

/-- The launch: every run terminates, every window's array but the output's is what it was, and every counter is zero. -/
theorem run_main_quiescent (hO : Ok m) (hT : TableOk m) : θ_run defs (onTc (τ := τ) (main (F := F))) (s₀ m ρ)
    (fun r => Pipeline.RDat.FramePost (cfgM m hO) (fun c => (dats m hO 0 c).toRForget forgets) (V m) r ∧ r.2.sem = fun _ => 0) :=
  Pipeline.θ_run_frameP_forget (Q' := _) pcfgs (fun _ => adm m hO) (dats m hO) (0 : Fin 1) launch0 defs₀ Variants.none forgets m ρ main
    (hbody := fun c => (body_obligation m hO hT c).loose) (hshare := fun c => (dats m hO 0 c).share_full fun _ => rfl)
    (howed := fun _ _ => rfl) (V := V m) (hmain := hmain m Variants.none) (hA := A_eq m hO) (hpf := V_pre m)
    (hΦ := fun _ _ => rfl) (hQ' := fun _ h => h)

set_option backward.isDefEq.respectTransparency.types false in
/-- The frame: the arguments end unchanged and every counter is zero. -/
theorem frame (hO : Ok m) (hT : TableOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(Pipeline.RDat.FramePost.arr_in h.1 c 0 rfl).trans ((A_eq m hO c 0).trans (V_main_arg0 m c)),
      ((h.1 c).2 main_arg1 (by decide : main_arg1 ∈ Pipeline.restRefs sig spec0)).trans (V_main_arg1 m c),
      (Pipeline.RDat.FramePost.arr_in h.1 c 2 rfl).trans ((A_eq m hO c 2).trans (V_main_arg2 m c)),
      (Pipeline.RDat.FramePost.arr_in h.1 c 3 rfl).trans ((A_eq m hO c 3).trans (V_main_arg3 m c)),
      (Pipeline.RDat.FramePost.arr_in h.1 c 4 rfl).trans ((A_eq m hO c 4).trans (V_main_arg4 m c)),
      ((h.1 c).2 main_arg5 (by decide : main_arg5 ∈ Pipeline.restRefs sig spec0)).trans (V_main_arg5 m c),
      (Pipeline.RDat.FramePost.arr_in h.1 c 5 rfl).trans ((A_eq m hO c 5).trans (V_main_arg6 m c))⟩, h.2⟩) (run_main_quiescent m ρ hO hT)

end Cert.Kernel.Hand

end
-- ==== Proof.Kernel.Table.lean ====
/- The precondition gives what the frame asks of the pointer table. -/
module

public import proofs.«01_k».proof.Proof.Pre
public import proofs.«01_k».proof.Proof.Kernel.Frame

@[expose] public section

noncomputable section

namespace Cert.Kernel.Hand

open Idealize.ShloMosaic Idealize.ShloMosaic.TcCoe Cert.Kernel Cert.Kernel.Gen

variable {F : FTy → Type} [FloatOps F] [Cert.Pre_well_formed.Facts]

/-- No index map reads the table, so nothing is asked of it there. -/
theorem ok_all (m : (ℓ : Loc nD τ sig) → Buf (Elt F) ℓ) : Ok m := trivial

/-- Under the first two conjuncts of the precondition each row of the table lists the starts of well-formed slices. -/
theorem tableOk_of (m : (ℓ : Loc nD τ sig) → Buf (Elt F) ℓ) (a0 a1 a2 a3 a4 a6)
    (h0 : (Cert.Pre_well_formed.fn (F := F) a0 a1 a2 a3 a4 (m (((0 : Dev nD).tc : Thread nD τ).loc main_arg5)) a6).1 = fun _ => 1#1)
    (h : (Cert.Pre_well_formed.fn (F := F) a0 a1 a2 a3 a4 (m (((0 : Dev nD).tc : Thread nD τ).loc main_arg5)) a6).2.1 = fun _ => 1#1) : TableOk m := by
  intro b
  obtain ⟨P, hz, hle, hmono, hwidth, hv⟩ := Cert.Pre_well_formed.Hand.starts a0 a1 a2 a3 a4 _ a6 h0 h b
  refine ⟨P, ⟨hle, hmono, hwidth⟩, fun ι hι => ?_⟩
  have e : tbl m 0 = m (((0 : Dev nD).tc : Thread nD τ).loc main_arg5) := V_main_arg5 m 0
  rw [e]
  refine Eq.trans ?_ (hv (ι 1))
  have hb : ι 0 = b := Fin.ext hι
  rw [← hb]
  exact congrArg _ (ValueIdx.eq_ix2 ι)

end Cert.Kernel.Hand

end
-- ==== Proof.PreValues.lean ====
/- What the precondition says of the row lengths, the permutation, the values and the scales. -/
module

public import proofs.«01_k».proof.Proof.Pre
public import Idealize.ShloMosaic.Lib.Pointwise

@[expose] public section

noncomputable section

namespace Cert.Pre_well_formed.Hand

open Idealize.ShloMosaic Cert.Pre_well_formed

variable [Facts]

/-- A length at most a small width, and a smaller number. -/
theorem below_width (w d : BitVec 32) (j : ℕ) (hj : j < 56) (hd : d.toNat ≤ 56) (h0 : IntOp.cmpi .sle w d = 1#1) (h1 : IntOp.cmpi .slt (BitVec.ofNat 32 j) w = 1#1) : j < d.toNat := by
  simp only [IntOp.cmpi, StableHlo.Predicate.ofBool_eq_one_iff] at h0 h1
  have a : BitVec.sle w d = true := h0
  have b : BitVec.slt (BitVec.ofNat 32 j) w = true := h1
  simp only [BitVec.sle, BitVec.slt, decide_eq_true_eq, BitVec.toInt_eq_toNat_cond, BitVec.toNat_ofNat] at a b
  have hw := w.isLt
  have hd' := d.isLt
  rw [Nat.mod_eq_of_lt (by omega : j < 2 ^ 32)] at b
  rw [if_pos (by omega : 2 * j < 2 ^ 32)] at b
  rw [if_pos (by omega : 2 * d.toNat < 2 ^ 32)] at a
  split at a
  · rename_i hh
    rw [if_pos hh] at b; omega
  · rename_i hh
    rw [if_neg hh] at b; omega

/-- A word between 0 and 127, read signed. -/
theorem window_word (d : BitVec 32) (h0 : IntOp.cmpi .sge d 0#32 = 1#1) (h1 : IntOp.cmpi .slt d 128#32 = 1#1) : d.toNat < 128 := by
  simp only [IntOp.cmpi, StableHlo.Predicate.ofBool_eq_one_iff] at h0 h1
  have a : BitVec.sle 0#32 d = true := h0
  have b : BitVec.slt d 128#32 = true := h1
  simp only [BitVec.sle, BitVec.slt, decide_eq_true_eq, BitVec.toInt_eq_toNat_cond] at a b
  simp at a b
  omega

section
variable {F : FTy → Type} [FloatOps F] (a0 : FVec F S3x640x960 .bf16) (a1 : IVec S3x4480x8 8) (a2 : IVec S3x4480x8 32) (a3 : FVec F S3x640 .f32)
  (a4 : IVec S3x640 32) (a5 : IVec S3x81 32) (a6 : IVec S3x640 32)

/-- An entry of a row lies in the row's slice. -/
theorem row_fits (h : (fn (F := F) a0 a1 a2 a3 a4 a5 a6).2.2.1 = fun _ => 1#1) (b : Fin 3) (P : ℕ → ℕ) (hle : ∀ s, s ≤ 80 → P s ≤ 4480) (hmono : ∀ s, s < 80 → P s ≤ P (s + 1)) (hw : ∀ s, s < 80 → P (s + 1) ≤ P s + 56)
    (hv : ∀ s : Fin 81, a5 (ValueIdx.ix2 b s) = BitVec.ofNat 32 (P s.val)) (r : Fin 640) (j : ℕ) (hj : j < 56)
    (hr : IntOp.cmpi .slt (BitVec.ofNat 32 j) (a4 (ValueIdx.ix2 b r)) = 1#1) : P (r.val / 8) + j < P (r.val / 8 + 1) := by
  have hs : r.val / 8 < 80 := by omega
  have e := congrFun h (ValueIdx.ix3 b (⟨r.val / 8, hs⟩ : Fin 80) (⟨r.val % 8, by omega⟩ : Fin 8))
  have e1 : shapeCast S3x80x8 a4 Facts.shapeCasts_S3x640_S3x80x8 (ValueIdx.ix3 b (⟨r.val / 8, hs⟩ : Fin 80) (⟨r.val % 8, by omega⟩ : Fin 8)) = a4 (ValueIdx.ix2 b r) := by
    refine shapeCast_apply _ _ _ _ ?_
    rw [Shape.rowMajor_val_two, Shape.rowMajor_val_three]
    show b.val * 640 + r.val = (b.val * 80 + r.val / 8) * 8 + r.val % 8
    omega
  have e2 : broadcastInDim S3x80x8 ![0, 1, 2] Facts.bcast_S3x80x1_S3x80x8_0_1_2 (broadcastInDim S3x80x1 ![0, 1] Facts.bcast_S3x80_S3x80x1_0_1
      (subi (extractStridedSlice S3x80 ![0, 1] a5 Facts.slices_S3x81_S3x80_0_1) (extractStridedSlice S3x80 ![0, 0] a5 Facts.slices_S3x81_S3x80_0_0))) (ValueIdx.ix3 b (⟨r.val / 8, hs⟩ : Fin 80) (⟨r.val % 8, by omega⟩ : Fin 8))
      = a5 (ValueIdx.ix2 b (⟨r.val / 8 + 1, by omega⟩ : Fin 81)) - a5 (ValueIdx.ix2 b (⟨r.val / 8, by omega⟩ : Fin 81)) := by
    rw [broadcastInDim_apply _ _ _ _ (ValueIdx.ix3 b (⟨r.val / 8, hs⟩ : Fin 80) (0 : Fin 1)) (by intro a; fin_cases a <;> rfl)]
    rw [broadcastInDim_apply _ _ _ _ (ValueIdx.ix2 b (⟨r.val / 8, hs⟩ : Fin 80)) (by intro a; fin_cases a <;> rfl)]
    refine congrArg₂ (· - ·) ?_ ?_
    · exact extractStridedSlice_apply _ _ _ _ _ (Fin.forall_fin_two.mpr ⟨by show b.val = 0 + b.val; omega, by show r.val / 8 + 1 = 1 + r.val / 8; omega⟩)
    · exact extractStridedSlice_apply _ _ _ _ _ (Fin.forall_fin_two.mpr ⟨by show b.val = 0 + b.val; omega, by show r.val / 8 = 0 + r.val / 8; omega⟩)
  have e3 : IntOp.cmpi .sle (a4 (ValueIdx.ix2 b r)) (a5 (ValueIdx.ix2 b (⟨r.val / 8 + 1, by omega⟩ : Fin 81)) - a5 (ValueIdx.ix2 b (⟨r.val / 8, by omega⟩ : Fin 81))) = 1#1 := by
    rw [← e1, ← e2]; exact e
  have hd : (a5 (ValueIdx.ix2 b (⟨r.val / 8 + 1, by omega⟩ : Fin 81)) - a5 (ValueIdx.ix2 b (⟨r.val / 8, by omega⟩ : Fin 81))).toNat = P (r.val / 8 + 1) - P (r.val / 8) := by
    have := hle (r.val / 8) (by omega); have := hle (r.val / 8 + 1) (by omega); have := hmono _ hs
    rw [hv, hv]
    simp only [BitVec.toNat_sub, BitVec.toNat_ofNat]
    omega
  have := hw _ hs
  have := below_width _ _ j hj (by rw [hd]; omega) e3 hr
  rw [hd] at this
  omega

/-- Row `q` of `x` is taken from the window of 128 rows that `q` lies in. -/
theorem perm_window (h : (fn (F := F) a0 a1 a2 a3 a4 a5 a6).2.2.2.1 = fun _ => 1#1) (b : Fin 3) (q : Fin 640) :
    ∃ p : ℕ, a6 (ValueIdx.ix2 b q) = BitVec.ofNat 32 p ∧ 128 * (q.val / 128) ≤ p ∧ p < 128 * (q.val / 128) + 128 := by
  have e := congrFun h (ValueIdx.ix3 b (⟨q.val / 128, by omega⟩ : Fin 5) (⟨q.val % 128, by omega⟩ : Fin 128))
  have e1 : shapeCast S3x5x128 a6 Facts.shapeCasts_S3x640_S3x5x128 (ValueIdx.ix3 b (⟨q.val / 128, by omega⟩ : Fin 5) (⟨q.val % 128, by omega⟩ : Fin 128)) = a6 (ValueIdx.ix2 b q) := by
    refine shapeCast_apply _ _ _ _ ?_
    rw [Shape.rowMajor_val_two, Shape.rowMajor_val_three]
    show b.val * 640 + q.val = (b.val * 5 + q.val / 128) * 128 + q.val % 128
    omega
  have e2 : broadcastInDim S3x5x128 ![0, 1, 2] Facts.bcast_S1x5x1_S3x5x128_0_1_2 (muli (broadcastInDim S1x5x1 ![1] Facts.bcast_S5_S1x5x1_1 (iotaInDim S5 32 0))
      (broadcastInDim S1x5x1 ![] Facts.bcast_S_S1x5x1 (constantI S_ 32 128#32))) (ValueIdx.ix3 b (⟨q.val / 128, by omega⟩ : Fin 5) (⟨q.val % 128, by omega⟩ : Fin 128)) = BitVec.ofNat 32 (q.val / 128) * 128#32 := by
    rw [broadcastInDim_apply _ _ _ _ (ValueIdx.ix3 (0 : Fin 1) (⟨q.val / 128, by omega⟩ : Fin 5) (0 : Fin 1)) (by intro a; fin_cases a <;> rfl)]
    refine congrArg₂ (· * ·) ?_ rfl
    exact (broadcastInDim_apply _ _ _ _ (Shape.Idx.ofFin (⟨q.val / 128, by omega⟩ : Fin 5)) (by intro a; fin_cases a; rfl)).trans rfl
  have e3 : IntOp.cmpi .sge (a6 (ValueIdx.ix2 b q) - BitVec.ofNat 32 (q.val / 128) * 128#32) 0#32 = 1#1 ∧ IntOp.cmpi .slt (a6 (ValueIdx.ix2 b q) - BitVec.ofNat 32 (q.val / 128) * 128#32) 128#32 = 1#1 := by
    rw [← e1, ← e2]; exact and_bits _ _ e
  have hd := window_word _ e3.1 e3.2
  have hq : q.val / 128 < 5 := by omega
  refine ⟨128 * (q.val / 128) + (a6 (ValueIdx.ix2 b q) - BitVec.ofNat 32 (q.val / 128) * 128#32).toNat, ?_, by omega, by omega⟩
  apply BitVec.eq_of_toNat_eq
  simp only [BitVec.toNat_sub, BitVec.toNat_ofNat, BitVec.toNat_mul] at hd ⊢
  have := (a6 (ValueIdx.ix2 b q)).isLt
  omega

/-- No value is the pattern that denotes no number. -/
theorem value_bits (h : (fn (F := F) a0 a1 a2 a3 a4 a5 a6).2.2.2.2.1 = fun _ => 1#1) (x : S3x4480x8.Idx) :
    IntOp.cmpi .ne (IntOp.andi ((a1 x).setWidth 32) 127#32) 127#32 = 1#1 := congrFun h x

end

/-- A pattern of eight bits other than the two that denote no number denotes a real. -/
theorem real_of_bits (b : BitVec 8) (h : IntOp.cmpi .ne (IntOp.andi (b.setWidth 32) 127#32) 127#32 = 1#1) : ∃ r : ℝ, (Scalar.ofBits .fp8e4m3 b : Ideal .fp8e4m3) = (r : EReal) := by
  have hb : ¬ ((b.extractLsb' 3 4).toNat = 15 ∧ (b.extractLsb' 0 3).toNat = 7) := by
    revert h; revert b; decide +kernel
  show ∃ r : ℝ, Ideal.e4m3fn b = (r : EReal)
  unfold Ideal.e4m3fn
  simp only [if_neg hb]
  split
  · exact ⟨_, rfl⟩
  · exact ⟨_, rfl⟩

/-- A scale is a real number. -/
theorem scale_real (a0 : FVec Ideal S3x640x960 .bf16) (a1 : IVec S3x4480x8 8) (a2 : IVec S3x4480x8 32) (a3 : FVec Ideal S3x640 .f32)
    (a4 : IVec S3x640 32) (a5 : IVec S3x81 32) (a6 : IVec S3x640 32)
    (h : (fn (F := Ideal) a0 a1 a2 a3 a4 a5 a6).2.2.2.2.2 = fun _ => 1#1) (x : S3x640.Idx) : ∃ r : ℝ, a3 x = (r : EReal) := by
  have e : BitVec.ofBool (decide (max (a3 x) (-(a3 x)) < Ideal.ieee 8 23 0x7F800000#32)) = 1#1 := congrFun h x
  have t : Ideal.ieee 8 23 0x7F800000#32 = ⊤ := by simp [Ideal.ieee]
  rw [t, StableHlo.Predicate.ofBool_eq_one_iff, decide_eq_true_eq, max_lt_iff] at e
  induction hx : (a3 x : EReal) using EReal.rec with
  | bot => rw [hx] at e; exact absurd e.2 (by simp)
  | top => rw [hx] at e; exact absurd e.1 (by simp)
  | coe r => exact ⟨r, rfl⟩

end Cert.Pre_well_formed.Hand

end
-- ==== Proof.KernelIdeal.Words.lean ====
/- The words the kernel computes — where a slice starts, which two aligned lane blocks hold it, how many steps a group takes — as numbers. -/
module

public import proofs.«01_k».proof.Proof.Gen.KernelIdeal.Skeleton
public import proofs.«01_k».proof.Proof.Gen.KernelIdeal.Loops

@[expose] public section

set_option maxRecDepth 16384

noncomputable section

namespace Cert.KernelIdeal.Hand

open Idealize.ShloMosaic Idealize.ShloMosaic.TcCoe
open Cert.KernelIdeal Cert.KernelIdeal.Gen

/-- The slice that piece `k` (8 lanes) of lane group `g` holds: pair `q = 8 g + k / 2` of rows lies in window `q % 5` at `q / 5`. -/
def sliceOf (g k : ℕ) : ℕ := (g * 8 + k / 2) % 5 * 16 + (g * 8 + k / 2) / 5 * 2 + k % 2

/-- The lane block a slice starting at slot `n` begins in. -/
def baseOf (n : ℕ) : ℕ := min (n / 128 * 128) 4352
/-- The lane block after it. -/
def nextOf (n : ℕ) : ℕ := min (baseOf n + 128) 4352

theorem off8_eq : ∀ (i : grid0.Coords) (g : Fin k0_t3_loop.trips) (k : Fin k0_t4_loop.trips),
    k0_off8 i g k = ![(i 0).val, sliceOf g.val k.val] := by decide +kernel
theorem off9_eq : ∀ (i : grid0.Coords) (g : Fin k0_t3_loop.trips) (k : Fin k0_t4_loop.trips),
    k0_off9 i g k = ![(i 0).val, sliceOf g.val k.val + 1] := by decide +kernel

theorem off10_eq : ∀ n : Fin 4481, k0_off10 (BitVec.ofNat 32 n.val) = ![0, baseOf n.val] := by decide +kernel
theorem off11_eq : ∀ n : Fin 4481, k0_off11 (BitVec.ofNat 32 n.val) = ![0, nextOf n.val] := by decide +kernel
theorem chk1_of : ∀ n : Fin 4481, k0_chk1 (BitVec.ofNat 32 n.val) := by decide +kernel
theorem chk2_of : ∀ n : Fin 57, k0_chk2 (BitVec.ofNat 32 n.val) := by decide +kernel
theorem trips6_eq : ∀ n : Fin 57, (k0_t6_loop (BitVec.ofNat 32 n.val)).trips = (n.val + 7) / 8 := by decide +kernel
theorem trips7_eq : ∀ n : Fin 57, (k0_t7_loop (BitVec.ofNat 32 n.val)).trips = 0 := by decide +kernel
theorem off13_eq : ∀ (n : Fin 57) (k : Fin (k0_t6_loop (BitVec.ofNat 32 n.val)).trips), k0_off13 (BitVec.ofNat 32 n.val) k = ![8 * k.val, 0] := by
  decide +kernel

end Cert.KernelIdeal.Hand
end
-- ==== Proof.KernelIdeal.Gather.lean ====
/- What the loop that gathers computes: it gathers one lane group's sixteen slices: the two aligned lane blocks a slice lies in are loaded, rotated and merged,
   so that lane `l` of the eight rows stored holds the slot `start + l` of the slice. -/
module

public import proofs.«01_k».proof.Proof.KernelIdeal.Words
public import Idealize.ShloMosaic.Lib.Updates.Memory
public import Idealize.ShloMosaic.Lib.Updates.Own

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- The resource algebra and the loop variants of the runs below. -/
abbrev UU (nD : Nat) (τ : Topo) : Type := UR sig nD τ
abbrev 𝒱₀ : Variants := Variants.none

variable {F : FTy → Type} [FloatOps F]

local notation "𝕄G" => MT nD τ sig Unit (Elt F) ℕ (UR sig nD τ) ℕ
/-- A table held for reading: the pipeline keeps the other half. -/
abbrev tablePt (c : Dev nD) {S : Shape} {e : EltTy} (M : Memref sig .tc .smem S e) (f : Buf (Elt F) (M.view.loc (c : Thread nD τ))) : sProp 𝕄G :=
  M.view.loc (c : Thread nD τ) ↦{fullShare.right} f

/-- The offset of a slice's start in the lane block it begins in, as the kernel computes it. -/
abbrev shiftWord (n : BitVec 32) : BitVec 32 :=
  Scalar.subi n (Scalar.minsi (Scalar.muli (Scalar.select (Scalar.andi (Scalar.cmpi .ne
    (Scalar.subi (Scalar.extui (Scalar.cmpi .sgt n 0#32)) (Scalar.extui (Scalar.cmpi .slt n 0#32)))
    (Scalar.subi (Scalar.extui (Scalar.cmpi .sgt 128#32 0#32)) (Scalar.extui (Scalar.cmpi .slt 128#32 0#32))))
    (Scalar.cmpi .ne (Scalar.remsi n 128#32) 0#32)) (Scalar.subi (Scalar.divsi n 128#32) 1#32) (Scalar.divsi n 128#32)) 128#32) 4352#32)

theorem shiftWord_eq : ∀ n : Fin 4481, shiftWord (BitVec.ofNat 32 n.val) = BitVec.ofNat 32 (n.val - baseOf n.val) := by decide +kernel
theorem rot_eq : ∀ s : Fin 129, (Scalar.remsi (Scalar.subi 128#32 (BitVec.ofNat 32 s.val)) 128#32).toNat = (128 - s.val) % 128 := by decide +kernel
theorem before_eq : ∀ (s : Fin 129) (l : Fin 128),
    (Scalar.cmpi .slt (BitVec.ofNat 32 l.val) (Scalar.subi 128#32 (BitVec.ofNat 32 s.val)) = 1#1) = (l.val < 128 - s.val) := by decide +kernel

theorem baseOf_dvd (n : ℕ) : ∃ q, baseOf n = 128 * q ∧ q ≤ 34 := by
  refine ⟨min (n / 128) 34, ?_, by omega⟩
  unfold baseOf; omega

/-- The two blocks, rotated and merged, hold the slots from the slice's start on. -/
theorem merged_at {α : Type} (n : ℕ) (hn : n < 4481) (A B : S8x128.Idx → α) (W : ℕ → ℕ → α)
    (hA : ∀ ι, A ι = W (ι 0).val (baseOf n + (ι 1).val)) (hB : ∀ ι, B ι = W (ι 0).val (nextOf n + (ι 1).val))
    (v0 : IVec S8x128 32) (hv0 : ∀ ι, v0 ι = BitVec.ofNat 32 (ι 1).val) (ι : S8x128.Idx) (h : n + (ι 1).val < 4480) :
    select (cmpi .slt v0 (broadcast S8x128 (Scalar.subi 128#32 (shiftWord (BitVec.ofNat 32 n)))))
      (dynamicRotate 1 (Scalar.remsi (Scalar.subi 128#32 (shiftWord (BitVec.ofNat 32 n))) 128#32) none A rotates_S8x128_d1)
      (dynamicRotate 1 (Scalar.remsi (Scalar.subi 128#32 (shiftWord (BitVec.ofNat 32 n))) 128#32) none B rotates_S8x128_d1) ι
      = W (ι 0).val (n + (ι 1).val) := by
  have hl : (ι 1).val < 128 := (ι 1).isLt
  obtain ⟨q, hq, hq'⟩ := baseOf_dvd n
  have hb : baseOf n ≤ n := by unfold baseOf; omega
  have hs : n - baseOf n < 129 := by unfold baseOf; omega
  rw [shiftWord_eq ⟨n, hn⟩]
  have hr := rot_eq ⟨n - baseOf n, hs⟩
  have hc := before_eq ⟨n - baseOf n, hs⟩ ⟨(ι 1).val, hl⟩
  simp only at hr hc
  have e : ∀ C : S8x128.Idx → α, dynamicRotate 1 (Scalar.remsi (Scalar.subi 128#32 (BitVec.ofNat 32 (n - baseOf n))) 128#32) none C rotates_S8x128_d1 ι
      = C (fun b => if b = 1 then ⟨((ι b).val + S8x128.size b - ((128 - (n - baseOf n)) % 128) % S8x128.size b) % S8x128.size b, Nat.mod_lt _ (Fin.pos (ι b))⟩ else ι b) := by
    intro C
    unfold dynamicRotate
    simp only [hr, Nat.add_zero]
  show (if (Scalar.cmpi .slt (v0 ι) (Scalar.subi 128#32 (BitVec.ofNat 32 (n - baseOf n)))) = 1#1 then _ else _) = _
  rw [hv0]
  have ev : ((ι 1).val + S8x128.size 1 - ((128 - (n - baseOf n)) % 128) % S8x128.size 1) % S8x128.size 1 = ((ι 1).val + (n - baseOf n)) % 128 := by
    show ((ι 1).val + 128 - ((128 - (n - baseOf n)) % 128) % 128) % 128 = _
    omega
  split
  · rename_i hlt
    rw [hc] at hlt
    rw [e, hA]
    show W (ι 0).val (baseOf n + _) = _
    simp only [if_true, ev]
    congr 1; omega
  · rename_i hge
    rw [hc] at hge
    rw [e, hB]
    show W (ι 0).val (nextOf n + _) = _
    simp only [if_true, ev]
    congr 1; unfold nextOf; omega

/-- The slices' starts: each slice at most 56 slots wide, all within the 4480 slots. -/
structure Starts (P : ℕ → ℕ) : Prop where
  le : ∀ s, s ≤ 80 → P s ≤ 4480
  mono : ∀ s, s < 80 → P s ≤ P (s + 1)
  width : ∀ s, s < 80 → P (s + 1) ≤ P s + 56

/-- The widest of the first `k` slices of lane group `g`. -/
def widest (P : ℕ → ℕ) (g : ℕ) : ℕ → ℕ
  | 0 => 0
  | k + 1 => max (widest P g k) (P (sliceOf g k + 1) - P (sliceOf g k))

/-- The rows of the first `k` slices hold their slots of `W`, as far as there are slots. -/
def Gathered {α : Type} (P : ℕ → ℕ) (W : ℕ → ℕ → α) (g k : ℕ) (X : S128x128.Idx → α) : Prop :=
  ∀ ι : S128x128.Idx, (ι 0).val < 8 * k → P (sliceOf g ((ι 0).val / 8)) + (ι 1).val < 4480 →
    X ι = W ((ι 0).val % 8) (P (sliceOf g ((ι 0).val / 8)) + (ι 1).val)

@[simp] theorem gathered_zero {α : Type} (P : ℕ → ℕ) (W : ℕ → ℕ → α) (g : ℕ) (X : S128x128.Idx → α) : Gathered P W g 0 X :=
  fun _ h => absurd h (by omega)

theorem sliceOf_lt {g k : ℕ} (hg : g < 5) (hk : k < 16) : sliceOf g k < 80 := by unfold sliceOf; omega

theorem widest_le {P : ℕ → ℕ} (hP : Starts P) {g : ℕ} (hg : g < 5) : ∀ k, k ≤ 16 → widest P g k ≤ 56
  | 0, _ => by simp [widest]
  | k + 1, h => by
      have := widest_le hP hg k (by omega)
      have := hP.width _ (sliceOf_lt hg (show k < 16 by omega))
      simp only [widest]; omega

section
variable (v0 : IVec S8x128 32) (W : ℕ → ℕ → Elt F .f32) (WC : ℕ → ℕ → BitVec 32)

/-- A rotated, merged pair of blocks (as the float payload) holds the slice. -/
theorem pay10_at (n : ℕ) (hn : n < 4481) (r : BitVec 32) (hr : r = BitVec.ofNat 32 n) (A B : Vec F S8x128 .f32) (hA : ∀ ι, A ι = W (ι 0).val (baseOf n + (ι 1).val))
    (hB : ∀ ι, B ι = W (ι 0).val (nextOf n + (ι 1).val)) (hv0 : ∀ ι, v0 ι = BitVec.ofNat 32 (ι 1).val) (ι : S8x128.Idx) (h : n + (ι 1).val < 4480) :
    k0_pay10 v0 r (Scalar.divsi r 128#32) (Scalar.cmpi .ne
    (Scalar.subi (Scalar.extui (Scalar.cmpi .sgt r 0#32)) (Scalar.extui (Scalar.cmpi .slt r 0#32)))
    (Scalar.subi (Scalar.extui (Scalar.cmpi .sgt 128#32 0#32)) (Scalar.extui (Scalar.cmpi .slt 128#32 0#32))))
      (Scalar.remsi r 128#32) 0#32 A B ι = W (ι 0).val (n + (ι 1).val) := by
  subst hr
  unfold k0_pay10
  rw [shapeCast_self]
  exact merged_at n hn A B W hA hB v0 hv0 ι h

/-- The same of the columns' payload. -/
theorem pay11_at (n : ℕ) (hn : n < 4481) (r : BitVec 32) (hr : r = BitVec.ofNat 32 n) (A B : Vec F S8x128 .i32) (hA : ∀ ι, A ι = WC (ι 0).val (baseOf n + (ι 1).val))
    (hB : ∀ ι, B ι = WC (ι 0).val (nextOf n + (ι 1).val)) (hv0 : ∀ ι, v0 ι = BitVec.ofNat 32 (ι 1).val) (ι : S8x128.Idx) (h : n + (ι 1).val < 4480) :
    k0_pay438 (k0_pay11 (F := F) v0 r (Scalar.divsi r 128#32) (Scalar.cmpi .ne
    (Scalar.subi (Scalar.extui (Scalar.cmpi .sgt r 0#32)) (Scalar.extui (Scalar.cmpi .slt r 0#32)))
    (Scalar.subi (Scalar.extui (Scalar.cmpi .sgt 128#32 0#32)) (Scalar.extui (Scalar.cmpi .slt 128#32 0#32))))
      (Scalar.remsi r 128#32) 0#32 A B) ι = WC (ι 0).val (n + (ι 1).val) := by
  subst hr
  unfold k0_pay438 k0_pay11
  rw [shapeCast_self]
  exact merged_at n hn A B WC hA hB v0 hv0 ι h

/-- A block of eight rows written at `8 k` extends what was gathered. -/
theorem Gathered.step {α : Type} {P : ℕ → ℕ} {W : ℕ → ℕ → α} {g k : ℕ} {X X' : S128x128.Idx → α} (h : Gathered P W g k X)
    (hin : ∀ (ι : S128x128.Idx) (x : S8x128.Idx), (ι 0).val = 8 * k + (x 0).val → (ι 1).val = (x 1).val → P (sliceOf g k) + (x 1).val < 4480 →
      X' ι = W (x 0).val (P (sliceOf g k) + (x 1).val))
    (hout : ∀ ι, (ι 0).val < 8 * k → X' ι = X ι) : Gathered P W g (k + 1) X' := by
  intro ι h0 h1
  by_cases hlt : (ι 0).val < 8 * k
  · rw [hout ι hlt]; exact h ι hlt h1
  · have e : (ι 0).val / 8 = k := by omega
    rw [e] at h1 ⊢
    rw [hin ι (ValueIdx.ix2 ⟨(ι 0).val % 8, by omega⟩ ⟨(ι 1).val, (ι 1).isLt⟩) (by show _ = _ + (ι 0).val % 8; omega) rfl h1]

end

/-- The running maximum of the widths, in words. -/
theorem maxWord : ∀ a b : Fin 57, Scalar.maxsi (BitVec.ofNat 32 a.val) (BitVec.ofNat 32 b.val) = BitVec.ofNat 32 (max a.val b.val) := by decide +kernel
theorem widestWord (a p q : ℕ) (ha : a ≤ 56) (hpq : p ≤ q) (hq : q ≤ p + 56) :
    Scalar.maxsi (BitVec.ofNat 32 a) (Scalar.subi (BitVec.ofNat 32 q) (BitVec.ofNat 32 p)) = BitVec.ofNat 32 (max a (q - p)) := by
  have e : Scalar.subi (BitVec.ofNat 32 q) (BitVec.ofNat 32 p) = BitVec.ofNat 32 (q - p) := by
    obtain ⟨d, rfl⟩ := Nat.exists_eq_add_of_le hpq
    show BitVec.ofNat 32 (p + d) - BitVec.ofNat 32 p = _
    rw [Nat.add_sub_cancel_left, BitVec.ofNat_add, BitVec.add_comm, BitVec.add_sub_cancel]
  rw [e]; exact maxWord ⟨a, by omega⟩ ⟨q - p, by omega⟩

end Cert.KernelIdeal.Hand
end
-- ==== Proof.KernelIdeal.Slice.lean ====
/- The loop that gathers one lane group's sixteen slices: the two aligned lane blocks a slice lies in are loaded, rotated and merged,
   so that lane `l` of the eight rows stored holds the slot `start + l` of the slice. -/
module

public import proofs.«01_k».proof.Proof.KernelIdeal.Gather
public import Idealize.ShloMosaic.Lib.Updates.Memory
public import Idealize.ShloMosaic.Lib.Updates.Own

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ
/-- What a trip leaves: the rows gathered so far, in both blocks. -/
abbrev SliceInv (c : Dev nD) (arg1 : Memref sig .tc .smem S3x81 .i32) (arg9 : Memref sig .tc .vmem S8x4480 .f32) (arg10 : Memref sig .tc .vmem S8x4480 .i32)
    (arg11 : Memref sig .tc .vmem S128x128 .f32) (arg12 : Memref sig .tc .vmem S128x128 .i32)
    (X1 : BufTy.Contents (Elt F) arg1.view.ty) (X9 : BufTy.Contents (Elt F) arg9.view.ty) (X10 : BufTy.Contents (Elt F) arg10.view.ty)
    (P : ℕ → ℕ) (W : ℕ → ℕ → Elt F .f32) (WC : ℕ → ℕ → BitVec 32) (g k : ℕ) (acc : BitVec 32) : sProp 𝕄G :=
  iprop(tablePt c arg1 X1 ∗ (arg9.view.loc (c : Thread nD τ) ↦[arg9.view.set]{fullShare} X9)
    ∗ (arg10.view.loc (c : Thread nD τ) ↦[arg10.view.set]{fullShare} X10)
    ∗ (∃ f11, (arg11.view.loc (c : Thread nD τ) ↦[arg11.view.set]{fullShare} f11) ∗ ⌜Gathered P W g k (arg11.view.read (Elt F) f11)⌝)
    ∗ (∃ f12, (arg12.view.loc (c : Thread nD τ) ↦[arg12.view.set]{fullShare} f12) ∗ ⌜Gathered P WC g k (arg12.view.read (Elt F) f12)⌝)
    ∗ ⌜acc = BitVec.ofNat 32 (widest P g k)⌝)

section
variable (i : grid0.Coords) (arg1 : Memref sig .tc .smem S3x81 .i32) (harg1 : arg1.IsWhole) (arg2 : Memref sig .tc .vmem S1x640x960 .bf16) (harg2 : arg2.IsWhole) (arg3 : Memref sig .tc .vmem S1x4480x8 .fp8e4m3) (harg3 : arg3.IsWhole) (arg4 : Memref sig .tc .vmem S1x4480x8 .i32) (harg4 : arg4.IsWhole) (arg5 : Memref sig .tc .vmem S3x640 .f32) (harg5 : arg5.IsWhole) (arg6 : Memref sig .tc .vmem S3x640 .i32) (harg6 : arg6.IsWhole) (arg7 : Memref sig .tc .vmem S3x640 .i32) (harg7 : arg7.IsWhole) (arg8 : Memref sig .tc .vmem S1x640x960 .bf16) (harg8 : arg8.IsWhole) (arg9 : Memref sig .tc .vmem S8x4480 .f32) (harg9 : arg9.IsWhole) (arg10 : Memref sig .tc .vmem S8x4480 .i32) (harg10 : arg10.IsWhole) (arg11 : Memref sig .tc .vmem S128x128 .f32) (harg11 : arg11.IsWhole) (arg12 : Memref sig .tc .vmem S128x128 .i32) (harg12 : arg12.IsWhole) (arg13 : Memref sig .tc .vmem S128x128 .f32) (harg13 : arg13.IsWhole) (arg14 : Memref sig .tc .vmem S128x128 .i32) (harg14 : arg14.IsWhole) (arg15 : Memref sig .tc .vmem S640x960 .bf16) (harg15 : arg15.IsWhole) (arg16 : Memref sig .tc .vmem S3x640x640 .bf16) (harg16 : arg16.IsWhole) (arg17 : Memref sig .tc .vmem S640x960 .f32) (harg17 : arg17.IsWhole) (arg18 : Memref sig .tc .vmem S8x128 .f32) (harg18 : arg18.IsWhole) (arg0 : BitVec 32) (v0 : IVec S8x128 32) (v68 : FVec F S1x128 .f32) (v133 : FVec F S1x128 .f32) (v198 : FVec F S1x128 .f32) (v263 : FVec F S1x128 .f32) (v328 : FVec F S1x128 .f32) (v393 : IVec S1x128 32) (v458 : IVec S1x128 32) (v523 : IVec S1x128 32) (v588 : IVec S1x128 32) (v653 : IVec S1x128 32) (c0_i32_638 : BitVec 32) (c1_i32_640 : BitVec 32) (k0_t3 : Fin k0_t3_loop.trips) (arg19 : BitVec 32)
  (X1 : BufTy.Contents (Elt F) arg1.view.ty) (X9 : BufTy.Contents (Elt F) arg9.view.ty) (X10 : BufTy.Contents (Elt F) arg10.view.ty)
  (P : ℕ → ℕ) (W : ℕ → ℕ → Elt F .f32) (WC : ℕ → ℕ → BitVec 32) (c : Dev nD)

theorem trip4 (hP : Starts P) (hv0 : ∀ ι, v0 ι = BitVec.ofNat 32 (ι 1).val)
    (h1 : ∀ ι : S3x81.Idx, (ι 0).val = (i 0).val → arg1.view.read (Elt F) X1 ι = BitVec.ofNat 32 (P (ι 1).val))
    (h9 : ∀ ι : S8x4480.Idx, arg9.view.read (Elt F) X9 ι = W (ι 0).val (ι 1).val)
    (h10 : ∀ ι : S8x4480.Idx, arg10.view.read (Elt F) X10 ι = WC (ι 0).val (ι 1).val)
    (k : Fin k0_t4_loop.trips) (acc : BitVec 32) :
    SliceInv (F := F) c arg1 arg9 arg10 arg11 arg12 X1 X9 X10 P W WC k0_t3.val k.val acc
      ⊢ wp frame (wpE (defs₀ (F := F)) 𝒱₀ (c : Thread nD τ) none) Set.univ (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v653 c0_i32_638 c1_i32_640 k0_t3 arg19 k acc)
        (SliceInv (F := F) c arg1 arg9 arg10 arg11 arg12 X1 X9 X10 P W WC k0_t3.val (k.val + 1)) := by
  have hk : k.val < 16 := Nat.lt_of_lt_of_le k.isLt k0_t4_abs.2.1
  have hg : k0_t3.val < 5 := Nat.lt_of_lt_of_le k0_t3.isLt k0_t3_abs.2.1
  have hs := sliceOf_lt hg hk
  unfold SliceInv k0_t4_body
  iintro ⟨H1, H9, H10, ⟨%f11, H11, %hf11⟩, ⟨%f12, H12, %hf12⟩, %hacc⟩
  sl_exec
  have hn : P (sliceOf k0_t3.val k.val) < 4481 := Nat.lt_succ_of_le (hP.le _ (by omega))
  have e0 : trip4.sl.r i arg1 k0_t3 X1 k = BitVec.ofNat 32 (P (sliceOf k0_t3.val k.val)) := by
    unfold trip4.sl.r
    rw [View.readAt_unit _ _ _ (off8_eq i k0_t3 k) (by rw [← off8_eq i k0_t3 k]; exact k0_off8_inb i k0_t3 k)]
    exact (h1 _ rfl)
  have hw : k0_chk1 (trip4.sl.r i arg1 k0_t3 X1 k) := by
    rw [e0]; exact chk1_of ⟨_, hn⟩
  sl_exec
  sl_step
  isplitl [H1]; · iexact H1
  isplitl [H9]; · iexact H9
  isplitl [H10]; · iexact H10
  have rA : ∀ (n : ℕ) (hn : n < 4481) off (hoff : off = ![0, n]) (inb) (hin : n + 128 ≤ 4480) ι, (View.readAt (Elt F) arg9.view (Rect.unit (s := S8x4480) off S8x128.size inb).toLoadRect X9) ι = W (ι 0).val (n + (ι 1).val) := by
    intro n hn off hoff inb hin ι
    subst hoff
    rw [View.readAt_unit _ _ _ rfl inb]
    refine (h9 _).trans ?_
    show W (0 + 1 * (ι 0).val) (n + 1 * (ι 1).val) = _
    rw [Nat.zero_add, Nat.one_mul, Nat.one_mul]
  have rB : ∀ (n : ℕ) (hn : n < 4481) off (hoff : off = ![0, n]) (inb) (hin : n + 128 ≤ 4480) ι, (View.readAt (Elt F) arg10.view (Rect.unit (s := S8x4480) off S8x128.size inb).toLoadRect X10) ι = WC (ι 0).val (n + (ι 1).val) := by
    intro n hn off hoff inb hin ι
    subst hoff
    rw [View.readAt_unit _ _ _ rfl inb]
    refine (h10 _).trans ?_
    show WC (0 + 1 * (ι 0).val) (n + 1 * (ι 1).val) = _
    rw [Nat.zero_add, Nat.one_mul, Nat.one_mul]
  have hb : baseOf (P (sliceOf k0_t3.val k.val)) + 128 ≤ 4480 := by unfold baseOf; omega
  have hx : nextOf (P (sliceOf k0_t3.val k.val)) + 128 ≤ 4480 := by unfold nextOf; omega
  have o10 : k0_off10 (trip4.sl.r i arg1 k0_t3 X1 k) = ![0, baseOf (P (sliceOf k0_t3.val k.val))] := by
    rw [e0]; exact off10_eq ⟨P (sliceOf k0_t3.val k.val), hn⟩
  have o11 : k0_off11 (trip4.sl.r i arg1 k0_t3 X1 k) = ![0, nextOf (P (sliceOf k0_t3.val k.val))] := by
    rw [e0]; exact off11_eq ⟨P (sliceOf k0_t3.val k.val), hn⟩
  isplitl [H11]
  · iexists _
    isplitl [H11]; · iexact H11
    ipureintro
    refine hf11.step ?_ ?_
    · intro ι x h0 hx1 h4
      rw [View.read_writes_cons_unit_of_mem arg11.view f11 (k0_off12_inb k) _ _ ι x (k0_off12_eq k)
        (Fin.forall_fin_two.mpr ⟨h0, by rw [hx1]; exact (Nat.zero_add _).symm⟩)]
      unfold trip4.sl.v840
      exact pay10_at v0 W _ hn _ e0 _ _ (rA _ (by omega) _ o10 _ hb) (rA _ (by omega) _ o11 _ hx) hv0 x h4
    · intro ι h0
      exact View.read_writes_cons_unit_of_not_mem arg11.view f11 (k0_off12_inb k) _ _ ι (k0_off12_eq k) (0 : Fin 2) (Or.inl h0)
  isplitl [H12]
  · iexists _
    isplitl [H12]; · iexact H12
    ipureintro
    refine hf12.step ?_ ?_
    · intro ι x h0 hx1 h4
      rw [View.read_writes_cons_unit_of_mem arg12.view f12 (k0_off12_inb k) _ _ ι x (k0_off12_eq k)
        (Fin.forall_fin_two.mpr ⟨h0, by rw [hx1]; exact (Nat.zero_add _).symm⟩)]
      unfold trip4.sl.v850
      exact pay11_at v0 WC _ hn _ e0 _ _ (rB _ (by omega) _ o10 _ hb) (rB _ (by omega) _ o11 _ hx) hv0 x h4
    · intro ι h0
      exact View.read_writes_cons_unit_of_not_mem arg12.view f12 (k0_off12_inb k) _ _ ι (k0_off12_eq k) (0 : Fin 2) (Or.inl h0)
  ipureintro
  have e1 : ∀ h, (View.readAt (Elt F) arg1.view (Rect.unit (s := S3x81) (k0_off9 i k0_t3 k) S1x1.size (k0_off9_inb i k0_t3 k)).toLoadRect X1 (Shape.Idx.first h)) = BitVec.ofNat 32 (P (sliceOf k0_t3.val k.val + 1)) := by
    intro h
    rw [View.readAt_unit _ _ _ (off9_eq i k0_t3 k) (by rw [← off9_eq i k0_t3 k]; exact k0_off9_inb i k0_t3 k)]
    exact (h1 _ rfl)
  have e2 : trip4.sl.v796 i arg1 k0_t3 X1 k = Scalar.subi (BitVec.ofNat 32 (P (sliceOf k0_t3.val k.val + 1))) (BitVec.ofNat 32 (P (sliceOf k0_t3.val k.val))) :=
    congrArg₂ Scalar.subi (e1 _) e0
  unfold trip4.sl.v797
  rw [e2, hacc]
  exact widestWord _ _ _ (widest_le hP hg _ (by omega)) (hP.mono _ hs) (hP.width _ hs)

set_option warn.classDefReducibility false in
/-- The gathering loop's invariant: the rows gathered so far, and the widest slice so far. -/
@[sl_loop] def loopInv4 (hP : Starts P) (hv0 : ∀ ι, v0 ι = BitVec.ofNat 32 (ι 1).val)
    (h1 : ∀ ι : S3x81.Idx, (ι 0).val = (i 0).val → arg1.view.read (Elt F) X1 ι = BitVec.ofNat 32 (P (ι 1).val))
    (h9 : ∀ ι : S8x4480.Idx, arg9.view.read (Elt F) X9 ι = W (ι 0).val (ι 1).val)
    (h10 : ∀ ι : S8x4480.Idx, arg10.view.read (Elt F) X10 ι = WC (ι 0).val (ι 1).val) :
    Gen.LoopInvTy_k0_t4 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v653 c0_i32_638 c1_i32_640 k0_t3 arg19 0#32 where
  inv k acc := SliceInv (F := F) c arg1 arg9 arg10 arg11 arg12 X1 X9 X10 P W WC k0_t3.val k acc
  step k acc := trip4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v653 c0_i32_638 c1_i32_640 k0_t3 arg19 X1 X9 X10 P W WC c hP hv0 h1 h9 h10 k acc
end

end Cert.KernelIdeal.Hand
end
-- ==== Proof.KernelIdeal.Accum.lean ====
/- The loop that accumulates a block's columns: twenty accumulators of eight columns by 128 rows, eight slots at a trip. Entry `(s, l)` of an
   accumulator sums, over the slots met so far, the slot's value in lane `l` where its column is the entry's. -/
module

public import proofs.«01_k».proof.Proof.KernelIdeal.Gather
public import Idealize.ShloMosaic.Lib.Updates.Memory
public import Idealize.ShloMosaic.Lib.Updates.Own

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- The slots below `n` of lane `l` whose column is `w`, their values added in order. -/
def colAcc (T : ℕ → ℕ → F .f32) (TC : ℕ → ℕ → BitVec 32) (w : BitVec 32) (l : ℕ) : ℕ → F .f32
  | 0 => Scalar.ofBits .f32 0x00000000#32
  | n + 1 => FloatOps.addf (colAcc T TC w l n) (if (Scalar.cmpi .eq w (TC n l)) = 1#1 then T n l else Scalar.ofBits .f32 0x00000000#32)

/-- One accumulator after `n` slots. -/
def blkAcc (T : ℕ → ℕ → F .f32) (TC : ℕ → ℕ → BitVec 32) (io : IVec S8x128 32) (n : ℕ) : FVec F S8x128 .f32 :=
  fun ι => colAcc T TC (io ι) (ι 1).val n

theorem row_at {α : Type} (t : ℕ) (ht : t < 8) (h : S8x128.Slices ![t, 0] S1x128) (A : S8x128.Idx → α) (ι : S8x128.Idx) :
    broadcastTo S8x128 (shapeCast S1x128 (extractStridedSlice S1x128 ![t, 0] A h) shapeCasts_S1x128_S1x128) broadcasts_S1x128_S8x128 ι
      = A (ValueIdx.ix2 ⟨t, ht⟩ ⟨(ι 1).val, (ι 1).isLt⟩) := by
  rw [shapeCast_self]
  refine (broadcastTo_apply _ _ ι (ValueIdx.ix2 (0 : Fin 1) ⟨(ι 1).val, (ι 1).isLt⟩) (Fin.forall_fin_two.mpr ⟨rfl, rfl⟩)).trans ?_
  exact extractStridedSlice_apply _ A h _ _ (Fin.forall_fin_two.mpr ⟨rfl, (Nat.zero_add _).symm⟩)

/-- One slot's step of an accumulator. -/
abbrev stepRow (io : IVec S8x128 32) (A : Vec F S8x128 .f32) (C : Vec F S8x128 .i32) (t : ℕ) (h : S8x128.Slices ![t, 0] S1x128) (a : FVec F S8x128 .f32) :
    FVec F S8x128 .f32 :=
  addf a (select (cmpi .eq io (broadcastTo S8x128 (shapeCast S1x128 (extractStridedSlice S1x128 ![t, 0] C h) shapeCasts_S1x128_S1x128) broadcasts_S1x128_S8x128))
    (broadcastTo S8x128 (shapeCast S1x128 (extractStridedSlice S1x128 ![t, 0] A h) shapeCasts_S1x128_S1x128) broadcasts_S1x128_S8x128)
    (broadcast S8x128 (Scalar.ofBits .f32 0x00000000#32)))

theorem stepRow_eq (T : ℕ → ℕ → F .f32) (TC : ℕ → ℕ → BitVec 32) (io : IVec S8x128 32) (A : Vec F S8x128 .f32) (C : Vec F S8x128 .i32) (n t : ℕ) (ht : t < 8)
    (hA : ∀ ι : S8x128.Idx, A ι = T (n + (ι 0).val) (ι 1).val) (hC : ∀ ι : S8x128.Idx, C ι = TC (n + (ι 0).val) (ι 1).val) (h : S8x128.Slices ![t, 0] S1x128) :
    stepRow io A C t h (blkAcc T TC io (n + t)) = blkAcc T TC io (n + (t + 1)) := by
  funext ι
  show FloatOps.addf (blkAcc T TC io (n + t) ι) (if (Scalar.cmpi .eq (io ι) _) = 1#1 then _ else _) = _
  rw [row_at t ht, row_at t ht, hA, hC]
  rfl

/-- Eight slots' steps. -/
theorem eight (T : ℕ → ℕ → F .f32) (TC : ℕ → ℕ → BitVec 32) (io : IVec S8x128 32) (A : Vec F S8x128 .f32) (C : Vec F S8x128 .i32) (n : ℕ)
    (hA : ∀ ι : S8x128.Idx, A ι = T (n + (ι 0).val) (ι 1).val) (hC : ∀ ι : S8x128.Idx, C ι = TC (n + (ι 0).val) (ι 1).val) :
    stepRow io A C 7 slices_S8x128_o7_0_S1x128 (stepRow io A C 6 slices_S8x128_o6_0_S1x128 (stepRow io A C 5 slices_S8x128_o5_0_S1x128
      (stepRow io A C 4 slices_S8x128_o4_0_S1x128 (stepRow io A C 3 slices_S8x128_o3_0_S1x128 (stepRow io A C 2 slices_S8x128_o2_0_S1x128
        (stepRow io A C 1 slices_S8x128_o1_0_S1x128 (stepRow io A C 0 slices_S8x128_o0_0_S1x128 (blkAcc T TC io n)))))))) = blkAcc T TC io (n + 8) := by
  have e0 := stepRow_eq T TC io A C n 0 (by omega) hA hC slices_S8x128_o0_0_S1x128
  rw [Nat.add_zero] at e0
  rw [e0, stepRow_eq T TC io A C n 1 (by omega) hA hC, stepRow_eq T TC io A C n 2 (by omega) hA hC, stepRow_eq T TC io A C n 3 (by omega) hA hC,
    stepRow_eq T TC io A C n 4 (by omega) hA hC, stepRow_eq T TC io A C n 5 (by omega) hA hC, stepRow_eq T TC io A C n 6 (by omega) hA hC,
    stepRow_eq T TC io A C n 7 (by omega) hA hC]

section
variable (i : grid0.Coords) (arg1 : Memref sig .tc .smem S3x81 .i32) (harg1 : arg1.IsWhole) (arg2 : Memref sig .tc .vmem S1x640x960 .bf16) (harg2 : arg2.IsWhole) (arg3 : Memref sig .tc .vmem S1x4480x8 .fp8e4m3) (harg3 : arg3.IsWhole) (arg4 : Memref sig .tc .vmem S1x4480x8 .i32) (harg4 : arg4.IsWhole) (arg5 : Memref sig .tc .vmem S3x640 .f32) (harg5 : arg5.IsWhole) (arg6 : Memref sig .tc .vmem S3x640 .i32) (harg6 : arg6.IsWhole) (arg7 : Memref sig .tc .vmem S3x640 .i32) (harg7 : arg7.IsWhole) (arg8 : Memref sig .tc .vmem S1x640x960 .bf16) (harg8 : arg8.IsWhole) (arg9 : Memref sig .tc .vmem S8x4480 .f32) (harg9 : arg9.IsWhole) (arg10 : Memref sig .tc .vmem S8x4480 .i32) (harg10 : arg10.IsWhole) (arg11 : Memref sig .tc .vmem S128x128 .f32) (harg11 : arg11.IsWhole) (arg12 : Memref sig .tc .vmem S128x128 .i32) (harg12 : arg12.IsWhole) (arg13 : Memref sig .tc .vmem S128x128 .f32) (harg13 : arg13.IsWhole) (arg14 : Memref sig .tc .vmem S128x128 .i32) (harg14 : arg14.IsWhole) (arg15 : Memref sig .tc .vmem S640x960 .bf16) (harg15 : arg15.IsWhole) (arg16 : Memref sig .tc .vmem S3x640x640 .bf16) (harg16 : arg16.IsWhole) (arg17 : Memref sig .tc .vmem S640x960 .f32) (harg17 : arg17.IsWhole) (arg18 : Memref sig .tc .vmem S8x128 .f32) (harg18 : arg18.IsWhole) (v684 : BitVec 32) (k0_hw2 : k0_chk2 v684) (v711 : FVec F S1x128 .f32) (v733 : IVec S8x128 32) (v738 : IVec S8x128 32) (v743 : IVec S8x128 32) (v748 : IVec S8x128 32) (v753 : IVec S8x128 32) (v758 : IVec S8x128 32) (v763 : IVec S8x128 32) (v768 : IVec S8x128 32) (v773 : IVec S8x128 32) (v778 : IVec S8x128 32) (v783 : IVec S8x128 32) (v788 : IVec S8x128 32) (v793 : IVec S8x128 32) (v798 : IVec S8x128 32) (v803 : IVec S8x128 32) (v808 : IVec S8x128 32) (v813 : IVec S8x128 32) (v818 : IVec S8x128 32) (v823 : IVec S8x128 32) (v828 : IVec S8x128 32) (v847 : BitVec 32) (v848 : FVec F S8x128 .f32) (v849 : FVec F S8x128 .f32) (v850 : FVec F S8x128 .f32) (v851 : FVec F S8x128 .f32) (v852 : FVec F S8x128 .f32) (cst_731 : F .f32)
  (f13 : BufTy.Contents (Elt F) arg13.view.ty) (f14 : BufTy.Contents (Elt F) arg14.view.ty)
  (T : ℕ → ℕ → Elt F .f32) (TC : ℕ → ℕ → BitVec 32) (n : ℕ) (c : Dev nD)

theorem trip6 (hn : n < 57) (hv : v684 = BitVec.ofNat 32 n)
    (h13 : ∀ ι : S128x128.Idx, arg13.view.read (Elt F) f13 ι = T (ι 0).val (ι 1).val)
    (h14 : ∀ ι : S128x128.Idx, arg14.view.read (Elt F) f14 ι = TC (ι 0).val (ι 1).val)
    (k : Fin (k0_t6_loop v684).trips) :
    (iprop((arg13.view.loc (c : Thread nD τ) ↦[arg13.view.set]{fullShare} f13) ∗ (arg14.view.loc (c : Thread nD τ) ↦[arg14.view.set]{fullShare} f14)) : sProp 𝕄G)
      ⊢ wp frame (wpE (defs₀ (F := F)) 𝒱₀ (c : Thread nD τ) none) Set.univ (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v684 k0_hw2 v711 v733 v738 v743 v748 v753 v758 v763 v768 v773 v778 v783 v788 v793 v798 v803 v808 v813 v818 v823 v828 v847 v848 v849 v850 v851 v852 cst_731 k (blkAcc (F := F) T TC v733 (8 * k.val), blkAcc (F := F) T TC v738 (8 * k.val), blkAcc (F := F) T TC v743 (8 * k.val), blkAcc (F := F) T TC v748 (8 * k.val), blkAcc (F := F) T TC v753 (8 * k.val), blkAcc (F := F) T TC v758 (8 * k.val), blkAcc (F := F) T TC v763 (8 * k.val), blkAcc (F := F) T TC v768 (8 * k.val), blkAcc (F := F) T TC v773 (8 * k.val), blkAcc (F := F) T TC v778 (8 * k.val), blkAcc (F := F) T TC v783 (8 * k.val), blkAcc (F := F) T TC v788 (8 * k.val), blkAcc (F := F) T TC v793 (8 * k.val), blkAcc (F := F) T TC v798 (8 * k.val), blkAcc (F := F) T TC v803 (8 * k.val), blkAcc (F := F) T TC v808 (8 * k.val), blkAcc (F := F) T TC v813 (8 * k.val), blkAcc (F := F) T TC v818 (8 * k.val), blkAcc (F := F) T TC v823 (8 * k.val), blkAcc (F := F) T TC v828 (8 * k.val)))
        (fun acc => iprop((arg13.view.loc (c : Thread nD τ) ↦[arg13.view.set]{fullShare} f13) ∗ (arg14.view.loc (c : Thread nD τ) ↦[arg14.view.set]{fullShare} f14)
          ∗ ⌜acc = (blkAcc (F := F) T TC v733 (8 * (k.val + 1)), blkAcc (F := F) T TC v738 (8 * (k.val + 1)), blkAcc (F := F) T TC v743 (8 * (k.val + 1)), blkAcc (F := F) T TC v748 (8 * (k.val + 1)), blkAcc (F := F) T TC v753 (8 * (k.val + 1)), blkAcc (F := F) T TC v758 (8 * (k.val + 1)), blkAcc (F := F) T TC v763 (8 * (k.val + 1)), blkAcc (F := F) T TC v768 (8 * (k.val + 1)), blkAcc (F := F) T TC v773 (8 * (k.val + 1)), blkAcc (F := F) T TC v778 (8 * (k.val + 1)), blkAcc (F := F) T TC v783 (8 * (k.val + 1)), blkAcc (F := F) T TC v788 (8 * (k.val + 1)), blkAcc (F := F) T TC v793 (8 * (k.val + 1)), blkAcc (F := F) T TC v798 (8 * (k.val + 1)), blkAcc (F := F) T TC v803 (8 * (k.val + 1)), blkAcc (F := F) T TC v808 (8 * (k.val + 1)), blkAcc (F := F) T TC v813 (8 * (k.val + 1)), blkAcc (F := F) T TC v818 (8 * (k.val + 1)), blkAcc (F := F) T TC v823 (8 * (k.val + 1)), blkAcc (F := F) T TC v828 (8 * (k.val + 1)))⌝)) := by
  unfold k0_t6_body
  iintro ⟨H13, H14⟩
  sl_exec
  sl_step
  isplitl [H13]; · iexact H13
  isplitl [H14]; · iexact H14
  ipureintro
  have ho : k0_off13 v684 k = ![8 * k.val, 0] := by subst hv; exact off13_eq ⟨n, hn⟩ k
  have hA : ∀ ι : S8x128.Idx, View.readAt (Elt F) arg13.view (Rect.unit (s := S128x128) (k0_off13 v684 k) S8x128.size (k0_off13_inb v684 k0_hw2 k)).toLoadRect f13 ι = T (8 * k.val + (ι 0).val) (ι 1).val := by
    intro ι
    rw [View.readAt_unit _ _ _ ho (by rw [← ho]; exact k0_off13_inb v684 k0_hw2 k)]
    refine (h13 _).trans ?_
    show T (8 * k.val + 1 * (ι 0).val) (0 + 1 * (ι 1).val) = _
    rw [Nat.zero_add, Nat.one_mul, Nat.one_mul]
  have hC : ∀ ι : S8x128.Idx, View.readAt (Elt F) arg14.view (Rect.unit (s := S128x128) (k0_off13 v684 k) S8x128.size (k0_off13_inb v684 k0_hw2 k)).toLoadRect f14 ι = TC (8 * k.val + (ι 0).val) (ι 1).val := by
    intro ι
    rw [View.readAt_unit _ _ _ ho (by rw [← ho]; exact k0_off13_inb v684 k0_hw2 k)]
    refine (h14 _).trans ?_
    show TC (8 * k.val + 1 * (ι 0).val) (0 + 1 * (ι 1).val) = _
    rw [Nat.zero_add, Nat.one_mul, Nat.one_mul]
  have hE := fun io => eight T TC io _ _ (8 * k.val) hA hC
  simp only [Prod.mk.injEq]
  exact ⟨hE v733, hE v738, hE v743, hE v748, hE v753, hE v758, hE v763, hE v768, hE v773, hE v778, hE v783, hE v788, hE v793, hE v798, hE v803, hE v808, hE v813, hE v818, hE v823, hE v828⟩

set_option warn.classDefReducibility false in
/-- The accumulating loop's invariant. -/
@[sl_loop] def loopInv6 (hn : n < 57) (hv : v684 = BitVec.ofNat 32 n)
    (h13 : ∀ ι : S128x128.Idx, arg13.view.read (Elt F) f13 ι = T (ι 0).val (ι 1).val)
    (h14 : ∀ ι : S128x128.Idx, arg14.view.read (Elt F) f14 ι = TC (ι 0).val (ι 1).val) :
    Gen.LoopInvTy_k0_t6 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v684 k0_hw2 v711 v733 v738 v743 v748 v753 v758 v763 v768 v773 v778 v783 v788 v793 v798 v803 v808 v813 v818 v823 v828 v847 v848 v849 v850 v851 v852 cst_731 (v848, v849, v850, v851, v852, k0_pay411 cst_731, k0_pay412 (F := F), k0_pay413 (F := F), k0_pay414 (F := F), k0_pay415 (F := F), k0_pay416 (F := F), k0_pay417 (F := F), k0_pay418 (F := F), k0_pay419 (F := F), k0_pay420 (F := F), k0_pay421 (F := F), k0_pay422 (F := F), k0_pay423 (F := F), k0_pay424 (F := F), k0_pay425 (F := F)) where
  inv k acc := iprop((arg13.view.loc (c : Thread nD τ) ↦[arg13.view.set]{fullShare} f13) ∗ (arg14.view.loc (c : Thread nD τ) ↦[arg14.view.set]{fullShare} f14)
    ∗ ⌜acc = (blkAcc (F := F) T TC v733 (8 * k), blkAcc (F := F) T TC v738 (8 * k), blkAcc (F := F) T TC v743 (8 * k), blkAcc (F := F) T TC v748 (8 * k), blkAcc (F := F) T TC v753 (8 * k), blkAcc (F := F) T TC v758 (8 * k), blkAcc (F := F) T TC v763 (8 * k), blkAcc (F := F) T TC v768 (8 * k), blkAcc (F := F) T TC v773 (8 * k), blkAcc (F := F) T TC v778 (8 * k), blkAcc (F := F) T TC v783 (8 * k), blkAcc (F := F) T TC v788 (8 * k), blkAcc (F := F) T TC v793 (8 * k), blkAcc (F := F) T TC v798 (8 * k), blkAcc (F := F) T TC v803 (8 * k), blkAcc (F := F) T TC v808 (8 * k), blkAcc (F := F) T TC v813 (8 * k), blkAcc (F := F) T TC v818 (8 * k), blkAcc (F := F) T TC v823 (8 * k), blkAcc (F := F) T TC v828 (8 * k))⌝)
  step k acc := by
    iintro ⟨H13, H14, %hacc⟩
    subst hacc
    iapply (trip6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v684 k0_hw2 v711 v733 v738 v743 v748 v753 v758 v763 v768 v773 v778 v783 v788 v793 v798 v803 v808 v813 v818 v823 v828 v847 v848 v849 v850 v851 v852 cst_731 f13 f14 T TC n c hn hv h13 h14 k)
    isplitl [H13]; · iexact H13
    iexact H14
end

end Cert.KernelIdeal.Hand
end
-- ==== Proof.KernelIdeal.Chunk.lean ====
/- One chunk of 160 columns of a lane group: accumulated, scaled, split into three bf16 parts, and stored, with the running maximum
   of the third part's magnitude. -/
module

public import proofs.«01_k».proof.Proof.KernelIdeal.Slice
public import proofs.«01_k».proof.Proof.KernelIdeal.Accum
public import Idealize.ShloMosaic.Lib.Updates.Memory
public import Idealize.ShloMosaic.Lib.Updates.Own

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- The three parts of a number: its leading half, the leading half of what is left, and the leading half of what is left then. -/
def part (p : ℕ) (x : F .f32) : F .bf16 :=
  match p with
  | 0 => FloatOps.truncf .bf16 bitsLt_bf16_f32 x
  | 1 => FloatOps.truncf .bf16 bitsLt_bf16_f32 (FloatOps.subf x (FloatOps.extf .f32 bitsLt_bf16_f32 (FloatOps.truncf .bf16 bitsLt_bf16_f32 x)))
  | _ => FloatOps.truncf .bf16 bitsLt_bf16_f32 (FloatOps.subf (FloatOps.subf x (FloatOps.extf .f32 bitsLt_bf16_f32 (FloatOps.truncf .bf16 bitsLt_bf16_f32 x)))
      (FloatOps.extf .f32 bitsLt_bf16_f32 (FloatOps.truncf .bf16 bitsLt_bf16_f32 (FloatOps.subf x (FloatOps.extf .f32 bitsLt_bf16_f32 (FloatOps.truncf .bf16 bitsLt_bf16_f32 x))))))

/-- The matrix's parts hold `AV` in the lane groups before `g` and in the first `160 k` columns of group `g`. -/
def AtDone (AV : ℕ → ℕ → F .f32) (g k : ℕ) (X : S3x640x640.Idx → F .bf16) : Prop :=
  ∀ ι : S3x640x640.Idx, ((ι 2).val < 128 * g ∨ ((ι 2).val < 128 * (g + 1) ∧ (ι 1).val < 160 * k)) → X ι = part (ι 0).val (AV (ι 1).val (ι 2).val)

theorem AtDone.next {AV : ℕ → ℕ → F .f32} {g : ℕ} {X : S3x640x640.Idx → F .bf16} (h : AtDone AV g 4 X) : AtDone AV (g + 1) 0 X := by
  intro ι hι
  have h1 : (ι 1).val < 640 := (ι 1).isLt
  refine h ι ?_
  omega

/-- Storing a chunk's three parts extends what the matrix holds. -/
theorem at_step {arg16 : Memref sig .tc .vmem S3x640x640 .bf16} (AV : ℕ → ℕ → F .f32) (f16 : BufTy.Contents (Elt F) arg16.view.ty) (t3 : Fin k0_t3_loop.trips) (k : Fin k0_t5_loop.trips)
    (w0 w1 w2 : Vec F S1x160x128 .bf16)
    (h0 : ∀ j : S1x160x128.Idx, w0 j = part 0 (AV (160 * k.val + (j 1).val) (128 * t3.val + (j 2).val)))
    (h1 : ∀ j : S1x160x128.Idx, w1 j = part 1 (AV (160 * k.val + (j 1).val) (128 * t3.val + (j 2).val)))
    (h2 : ∀ j : S1x160x128.Idx, w2 j = part 2 (AV (160 * k.val + (j 1).val) (128 * t3.val + (j 2).val)))
    (hold : AtDone AV t3.val k.val (arg16.view.read (Elt F) f16)) :
    AtDone AV t3.val (k.val + 1) (arg16.view.read (Elt F) (arg16.view.writes (Elt F) f16
      [⟨Rect.unit (s := S3x640x640) (k0_off17 t3 k) S1x160x128.size (k0_off17_inb t3 k), w2⟩,
       ⟨Rect.unit (s := S3x640x640) (k0_off16 t3 k) S1x160x128.size (k0_off16_inb t3 k), w1⟩,
       ⟨Rect.unit (s := S3x640x640) (k0_off15 t3 k) S1x160x128.size (k0_off15_inb t3 k), w0⟩])) := by
  intro ι hι
  have hι0 : (ι 0).val < 3 := (ι 0).isLt
  by_cases hb : (160 * k.val ≤ (ι 1).val ∧ (ι 1).val < 160 * k.val + 160) ∧ (128 * t3.val ≤ (ι 2).val ∧ (ι 2).val < 128 * t3.val + 128)
  · obtain ⟨⟨b1, b2⟩, b3, b4⟩ := hb
    let j : S1x160x128.Idx := ValueIdx.ix3 (0 : Fin 1) ⟨(ι 1).val - 160 * k.val, by omega⟩ ⟨(ι 2).val - 128 * t3.val, by omega⟩
    have e1 : 160 * k.val + (j 1).val = (ι 1).val := by show 160 * k.val + ((ι 1).val - 160 * k.val) = _; omega
    have e2 : 128 * t3.val + (j 2).val = (ι 2).val := by show 128 * t3.val + ((ι 2).val - 128 * t3.val) = _; omega
    have hin : ∀ p : ℕ, (ι 0).val = p → ∀ a : Fin 3, (ι a).val = (![p, 160 * k.val, 128 * t3.val] : Fin 3 → ℕ) a + (j a).val := by
      intro p hp a
      fin_cases a
      · show (ι 0).val = p + 0; omega
      · exact e1.symm
      · exact e2.symm
    by_cases c2 : (ι 0).val = 2
    · refine (View.read_writes_cons_unit_of_mem _ _ _ _ _ ι j (k0_off17_eq t3 k) (hin 2 c2)).trans ?_
      refine (h2 j).trans ?_
      rw [e1, e2, c2]
    refine (View.read_writes_cons_unit_of_not_mem _ _ _ _ _ ι (k0_off17_eq t3 k) 0 (Or.inl (show (ι 0).val < 2 by omega))).trans ?_
    by_cases c1 : (ι 0).val = 1
    · refine (View.read_writes_cons_unit_of_mem _ _ _ _ _ ι j (k0_off16_eq t3 k) (hin 1 c1)).trans ?_
      refine (h1 j).trans ?_
      rw [e1, e2, c1]
    refine (View.read_writes_cons_unit_of_not_mem _ _ _ _ _ ι (k0_off16_eq t3 k) 0 (Or.inl (show (ι 0).val < 1 by omega))).trans ?_
    have c0 : (ι 0).val = 0 := by omega
    refine (View.read_writes_cons_unit_of_mem _ _ _ _ _ ι j (k0_off15_eq t3 k) (hin 0 c0)).trans ?_
    refine (h0 j).trans ?_
    rw [e1, e2, c0]
  · have hax : (∃ a : Fin 3, ∀ p : ℕ, (ι a).val < (![p, 160 * k.val, 128 * t3.val] : Fin 3 → ℕ) a ∨ (![p, 160 * k.val, 128 * t3.val] : Fin 3 → ℕ) a + S1x160x128.size a ≤ (ι a).val) := by
      by_cases d : 160 * k.val ≤ (ι 1).val ∧ (ι 1).val < 160 * k.val + 160
      · refine ⟨2, fun p => ?_⟩
        show (ι 2).val < 128 * t3.val ∨ 128 * t3.val + 128 ≤ (ι 2).val
        omega
      · refine ⟨1, fun p => ?_⟩
        show (ι 1).val < 160 * k.val ∨ 160 * k.val + 160 ≤ (ι 1).val
        omega
    obtain ⟨a, ha⟩ := hax
    refine (View.read_writes_cons_unit_of_not_mem _ _ _ _ _ ι (k0_off17_eq t3 k) a (ha 2)).trans ?_
    refine (View.read_writes_cons_unit_of_not_mem _ _ _ _ _ ι (k0_off16_eq t3 k) a (ha 1)).trans ?_
    refine (View.read_writes_cons_unit_of_not_mem _ _ _ _ _ ι (k0_off15_eq t3 k) a (ha 0)).trans ?_
    exact hold ι (by omega)

theorem cat20 (a0 a1 a2 a3 a4 a5 a6 a7 a8 a9 a10 a11 a12 a13 a14 a15 a16 a17 a18 a19 : FVec F S8x128 .f32) (h) (j : S160x128.Idx) :
    concatenate S160x128 0 [⟨S8x128, a0⟩, ⟨S8x128, a1⟩, ⟨S8x128, a2⟩, ⟨S8x128, a3⟩, ⟨S8x128, a4⟩, ⟨S8x128, a5⟩, ⟨S8x128, a6⟩, ⟨S8x128, a7⟩, ⟨S8x128, a8⟩, ⟨S8x128, a9⟩, ⟨S8x128, a10⟩, ⟨S8x128, a11⟩, ⟨S8x128, a12⟩, ⟨S8x128, a13⟩, ⟨S8x128, a14⟩, ⟨S8x128, a15⟩, ⟨S8x128, a16⟩, ⟨S8x128, a17⟩, ⟨S8x128, a18⟩, ⟨S8x128, a19⟩] h j
      = (![a0, a1, a2, a3, a4, a5, a6, a7, a8, a9, a10, a11, a12, a13, a14, a15, a16, a17, a18, a19] : Fin 20 → FVec F S8x128 .f32) ⟨(j 0).val / 8, by have : (j 0).val < 160 := (j 0).isLt; omega⟩
          (ValueIdx.ix2 ⟨(j 0).val % 8, Nat.mod_lt _ (by decide)⟩ ⟨(j 1).val, (j 1).isLt⟩) := by
  refine concatenate_ofFn_apply (s₁ := S8x128) (t := S160x128) 0 (![a0, a1, a2, a3, a4, a5, a6, a7, a8, a9, a10, a11, a12, a13, a14, a15, a16, a17, a18, a19] : Fin 20 → FVec F S8x128 .f32) h rfl 8 rfl j _ rfl _ rfl ?_
  intro b hb
  fin_cases b
  · exact absurd rfl hb
  · rfl

theorem iv_eq : ∀ (k : Fin k0_t5_loop.trips) (i : Fin 20),
    Scalar.addi (Scalar.muli (Scf.iv 0#32 1#32 k) 160#32) (BitVec.ofNat 32 (8 * i.val)) = BitVec.ofNat 32 (160 * k.val + 8 * i.val) := by
  decide +kernel

/-- The columns that accumulator `i` of chunk `k` stands for. -/
theorem io_val (k : Fin k0_t5_loop.trips) (i : Fin 20) (ι : S8x128.Idx) :
    addi (iota .tc S8x128 32 [0] iota_S8x128_d0_w32) (broadcast S8x128 (Scalar.addi (Scalar.muli (Scf.iv 0#32 1#32 k) 160#32) (BitVec.ofNat 32 (8 * i.val)))) ι
      = BitVec.ofNat 32 (160 * k.val + 8 * i.val + (ι 0).val) := by
  show BitVec.ofNat 32 (0 * 8 + (ι 0).val) + Scalar.addi (Scalar.muli (Scf.iv 0#32 1#32 k) 160#32) (BitVec.ofNat 32 (8 * i.val)) = _
  rw [iv_eq, Nat.zero_mul, Nat.zero_add, ← BitVec.ofNat_add, Nat.add_comm]

/-- Twenty blocks of eight columns, one below the other, each block by its number. -/
theorem cat20g (a0 a1 a2 a3 a4 a5 a6 a7 a8 a9 a10 a11 a12 a13 a14 a15 a16 a17 a18 a19 : FVec F S8x128 .f32) (h) (j : S160x128.Idx) (G : Fin 20 → S8x128.Idx → F .f32) (h0 : ∀ ι, a0 ι = G 0 ι) (h1 : ∀ ι, a1 ι = G 1 ι) (h2 : ∀ ι, a2 ι = G 2 ι) (h3 : ∀ ι, a3 ι = G 3 ι) (h4 : ∀ ι, a4 ι = G 4 ι) (h5 : ∀ ι, a5 ι = G 5 ι) (h6 : ∀ ι, a6 ι = G 6 ι) (h7 : ∀ ι, a7 ι = G 7 ι) (h8 : ∀ ι, a8 ι = G 8 ι) (h9 : ∀ ι, a9 ι = G 9 ι) (h10 : ∀ ι, a10 ι = G 10 ι) (h11 : ∀ ι, a11 ι = G 11 ι) (h12 : ∀ ι, a12 ι = G 12 ι) (h13 : ∀ ι, a13 ι = G 13 ι) (h14 : ∀ ι, a14 ι = G 14 ι) (h15 : ∀ ι, a15 ι = G 15 ι) (h16 : ∀ ι, a16 ι = G 16 ι) (h17 : ∀ ι, a17 ι = G 17 ι) (h18 : ∀ ι, a18 ι = G 18 ι) (h19 : ∀ ι, a19 ι = G 19 ι) :
    concatenate S160x128 0 [⟨S8x128, a0⟩, ⟨S8x128, a1⟩, ⟨S8x128, a2⟩, ⟨S8x128, a3⟩, ⟨S8x128, a4⟩, ⟨S8x128, a5⟩, ⟨S8x128, a6⟩, ⟨S8x128, a7⟩, ⟨S8x128, a8⟩, ⟨S8x128, a9⟩, ⟨S8x128, a10⟩, ⟨S8x128, a11⟩, ⟨S8x128, a12⟩, ⟨S8x128, a13⟩, ⟨S8x128, a14⟩, ⟨S8x128, a15⟩, ⟨S8x128, a16⟩, ⟨S8x128, a17⟩, ⟨S8x128, a18⟩, ⟨S8x128, a19⟩] h j
      = G ⟨(j 0).val / 8, by have : (j 0).val < 160 := (j 0).isLt; omega⟩ (ValueIdx.ix2 ⟨(j 0).val % 8, Nat.mod_lt _ (by decide)⟩ ⟨(j 1).val, (j 1).isLt⟩) := by
  rw [cat20]
  have e : (![a0, a1, a2, a3, a4, a5, a6, a7, a8, a9, a10, a11, a12, a13, a14, a15, a16, a17, a18, a19] : Fin 20 → FVec F S8x128 .f32) = G := by
    funext q ι
    fin_cases q
    · exact h0 ι
    · exact h1 ι
    · exact h2 ι
    · exact h3 ι
    · exact h4 ι
    · exact h5 ι
    · exact h6 ι
    · exact h7 ι
    · exact h8 ι
    · exact h9 ι
    · exact h10 ι
    · exact h11 ι
    · exact h12 ι
    · exact h13 ι
    · exact h14 ι
    · exact h15 ι
    · exact h16 ι
    · exact h17 ι
    · exact h18 ι
    · exact h19 ι
  rw [e]

theorem acc_val (T : ℕ → ℕ → F .f32) (TC : ℕ → ℕ → BitVec 32) (io : IVec S8x128 32) (m : ℕ) (N : ℕ)
    (hio : ∀ ι : S8x128.Idx, io ι = BitVec.ofNat 32 (m + (ι 0).val)) (ι : S8x128.Idx) :
    blkAcc T TC io N ι = colAcc T TC (BitVec.ofNat 32 (m + (ι 0).val)) (ι 1).val N := by
  unfold blkAcc; rw [hio]

/-- What the chunk loop carries: the two masked blocks as they are, and the matrix's parts for the chunks done. -/
abbrev ChunkInv (c : Dev nD) (arg13 : Memref sig .tc .vmem S128x128 .f32) (arg14 : Memref sig .tc .vmem S128x128 .i32)
    (arg16 : Memref sig .tc .vmem S3x640x640 .bf16) (arg18 : Memref sig .tc .vmem S8x128 .f32)
    (f13 : BufTy.Contents (Elt F) arg13.view.ty) (f14 : BufTy.Contents (Elt F) arg14.view.ty) (AV : ℕ → ℕ → F .f32) (g : ℕ) (k : ℕ) : sProp 𝕄G :=
  iprop((arg13.view.loc (c : Thread nD τ) ↦[arg13.view.set]{fullShare} f13) ∗ (arg14.view.loc (c : Thread nD τ) ↦[arg14.view.set]{fullShare} f14)
    ∗ (∃ f16, (arg16.view.loc (c : Thread nD τ) ↦[arg16.view.set]{fullShare} f16) ∗ ⌜AtDone AV g k (arg16.view.read (Elt F) f16)⌝)
    ∗ (∃ f18, (arg18.view.loc (c : Thread nD τ) ↦[arg18.view.set]{fullShare} f18)))

section
variable (i : grid0.Coords) (arg1 : Memref sig .tc .smem S3x81 .i32) (harg1 : arg1.IsWhole) (arg2 : Memref sig .tc .vmem S1x640x960 .bf16) (harg2 : arg2.IsWhole) (arg3 : Memref sig .tc .vmem S1x4480x8 .fp8e4m3) (harg3 : arg3.IsWhole) (arg4 : Memref sig .tc .vmem S1x4480x8 .i32) (harg4 : arg4.IsWhole) (arg5 : Memref sig .tc .vmem S3x640 .f32) (harg5 : arg5.IsWhole) (arg6 : Memref sig .tc .vmem S3x640 .i32) (harg6 : arg6.IsWhole) (arg7 : Memref sig .tc .vmem S3x640 .i32) (harg7 : arg7.IsWhole) (arg8 : Memref sig .tc .vmem S1x640x960 .bf16) (harg8 : arg8.IsWhole) (arg9 : Memref sig .tc .vmem S8x4480 .f32) (harg9 : arg9.IsWhole) (arg10 : Memref sig .tc .vmem S8x4480 .i32) (harg10 : arg10.IsWhole) (arg11 : Memref sig .tc .vmem S128x128 .f32) (harg11 : arg11.IsWhole) (arg12 : Memref sig .tc .vmem S128x128 .i32) (harg12 : arg12.IsWhole) (arg13 : Memref sig .tc .vmem S128x128 .f32) (harg13 : arg13.IsWhole) (arg14 : Memref sig .tc .vmem S128x128 .i32) (harg14 : arg14.IsWhole) (arg15 : Memref sig .tc .vmem S640x960 .bf16) (harg15 : arg15.IsWhole) (arg16 : Memref sig .tc .vmem S3x640x640 .bf16) (harg16 : arg16.IsWhole) (arg17 : Memref sig .tc .vmem S640x960 .f32) (harg17 : arg17.IsWhole) (arg18 : Memref sig .tc .vmem S8x128 .f32) (harg18 : arg18.IsWhole) (arg0 : BitVec 32) (v0 : IVec S8x128 32) (v68 : FVec F S1x128 .f32) (v133 : FVec F S1x128 .f32) (v198 : FVec F S1x128 .f32) (v263 : FVec F S1x128 .f32) (v328 : FVec F S1x128 .f32) (v393 : IVec S1x128 32) (v458 : IVec S1x128 32) (v523 : IVec S1x128 32) (v588 : IVec S1x128 32) (v596 : IVec S1x16 32) (v604 : IVec S1x16 32) (v612 : IVec S1x16 32) (v620 : IVec S1x16 32) (v628 : IVec S1x16 32) (v629 : Vec F S1x128 .i32) (c1_i32_614 : BitVec 32) (k0_t3 : Fin k0_t3_loop.trips) (v684 : BitVec 32) (k0_hw2 : k0_chk2 v684) (v711 : FVec F S1x128 .f32)
  (f13 : BufTy.Contents (Elt F) arg13.view.ty) (f14 : BufTy.Contents (Elt F) arg14.view.ty)
  (T : ℕ → ℕ → Elt F .f32) (TC : ℕ → ℕ → BitVec 32) (n : ℕ) (c : Dev nD) (AV : ℕ → ℕ → F .f32)

theorem trip5 (hn : n < 57) (hv : v684 = BitVec.ofNat 32 n) (htr : (k0_t7_loop v684).trips = 0)
    (h13 : ∀ ι : S128x128.Idx, arg13.view.read (Elt F) f13 ι = T (ι 0).val (ι 1).val)
    (h14 : ∀ ι : S128x128.Idx, arg14.view.read (Elt F) f14 ι = TC (ι 0).val (ι 1).val)
    (hAV : ∀ cc : ℕ, cc < 640 → ∀ l : S1x128.Idx, FloatOps.mulf (colAcc T TC (BitVec.ofNat 32 cc) (l 1).val (8 * (k0_t6_loop v684).trips)) (v711 l) = AV cc (128 * k0_t3.val + (l 1).val))
    (k : Fin k0_t5_loop.trips) :
    ChunkInv (F := F) c arg13 arg14 arg16 arg18 f13 f14 AV k0_t3.val k.val
      ⊢ wp frame (wpE (defs₀ (F := F)) 𝒱₀ (c : Thread nD τ) none) Set.univ (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v596 v604 v612 v620 v628 v629 c1_i32_614 k0_t3 v684 k0_hw2 v711 k ())
        (fun _ => ChunkInv (F := F) c arg13 arg14 arg16 arg18 f13 f14 AV k0_t3.val (k.val + 1)) := by
  unfold ChunkInv k0_t5_body
  iintro ⟨H13, H14, ⟨%f16, H16, %hAt⟩, ⟨%f18, H18⟩⟩
  sl_exec
  let L := loopInv6 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v684 k0_hw2 v711 (trip5.sl.v733 k) (trip5.sl.v738 k) (trip5.sl.v743 k) (trip5.sl.v748 k) (trip5.sl.v753 k) (trip5.sl.v758 k) (trip5.sl.v763 k) (trip5.sl.v768 k) (trip5.sl.v773 k) (trip5.sl.v778 k) (trip5.sl.v783 k) (trip5.sl.v788 k) (trip5.sl.v793 k) (trip5.sl.v798 k) (trip5.sl.v803 k) (trip5.sl.v808 k) (trip5.sl.v813 k) (trip5.sl.r k) (trip5.sl.r_1 k) (trip5.sl.r_2 k) (trip5.sl.v847 v684) k0_pay406 k0_pay407 k0_pay408 k0_pay409 k0_pay410 trip5.sl.cst_731 f13 f14 T TC n c hn hv h13 h14
  sl_exec
  sl_step
  isplitl [H13]; · iexact H13
  isplitl [H14]; · iexact H14
  isplitl [H16]
  · iexists _
    isplitl [H16]; · iexact H16
    ipureintro
    clear L
    have htr' : Scf.trips (k0_t7_loop v684).lb (k0_t7_loop v684).ub (k0_t7_loop v684).st = 0 := htr
    have hA : ∀ j : S160x128.Idx, trip5.sl.v877 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v684 k0_hw2 v711 f13 f14 T TC c k j = AV (160 * k.val + (j 0).val) (128 * k0_t3.val + (j 1).val) := by
      intro j
      have hj0 : (j 0).val < 160 := (j 0).isLt
      have hk : k.val < 4 := k.isLt
      unfold trip5.sl.v877 trip5.sl.v875
      rw [htr']
      simp only [st_k0_t7_zero]
      unfold k0_pay434
      refine (congrArg₂ FloatOps.mulf ((cat20g _ _ _ _ _ _ _ _ _ _ _ _ _ _ _ _ _ _ _ _ _ j (fun q ι => colAcc T TC (BitVec.ofNat 32 (160 * k.val + 8 * q.val + (ι 0).val)) (ι 1).val (8 * (k0_t6_loop v684).trips)) (acc_val T TC _ (160 * k.val + 8 * ((0 : Fin 20)).val) _ (io_val k 0)) (acc_val T TC _ (160 * k.val + 8 * ((1 : Fin 20)).val) _ (io_val k 1)) (acc_val T TC _ (160 * k.val + 8 * ((2 : Fin 20)).val) _ (io_val k 2)) (acc_val T TC _ (160 * k.val + 8 * ((3 : Fin 20)).val) _ (io_val k 3)) (acc_val T TC _ (160 * k.val + 8 * ((4 : Fin 20)).val) _ (io_val k 4)) (acc_val T TC _ (160 * k.val + 8 * ((5 : Fin 20)).val) _ (io_val k 5)) (acc_val T TC _ (160 * k.val + 8 * ((6 : Fin 20)).val) _ (io_val k 6)) (acc_val T TC _ (160 * k.val + 8 * ((7 : Fin 20)).val) _ (io_val k 7)) (acc_val T TC _ (160 * k.val + 8 * ((8 : Fin 20)).val) _ (io_val k 8)) (acc_val T TC _ (160 * k.val + 8 * ((9 : Fin 20)).val) _ (io_val k 9)) (acc_val T TC _ (160 * k.val + 8 * ((10 : Fin 20)).val) _ (io_val k 10)) (acc_val T TC _ (160 * k.val + 8 * ((11 : Fin 20)).val) _ (io_val k 11)) (acc_val T TC _ (160 * k.val + 8 * ((12 : Fin 20)).val) _ (io_val k 12)) (acc_val T TC _ (160 * k.val + 8 * ((13 : Fin 20)).val) _ (io_val k 13)) (acc_val T TC _ (160 * k.val + 8 * ((14 : Fin 20)).val) _ (io_val k 14)) (acc_val T TC _ (160 * k.val + 8 * ((15 : Fin 20)).val) _ (io_val k 15)) (acc_val T TC _ (160 * k.val + 8 * ((16 : Fin 20)).val) _ (io_val k 16)) (acc_val T TC _ (160 * k.val + 8 * ((17 : Fin 20)).val) _ (io_val k 17)) (acc_val T TC _ (160 * k.val + 8 * ((18 : Fin 20)).val) _ (io_val k 18)) (acc_val T TC _ (160 * k.val + 8 * ((19 : Fin 20)).val) _ (io_val k 19))).trans ?_)
        (broadcastTo_apply v711 _ j (ValueIdx.ix2 (0 : Fin 1) ⟨(j 1).val, (j 1).isLt⟩) (Fin.forall_fin_two.mpr ⟨rfl, rfl⟩))).trans
        (hAV (160 * k.val + (j 0).val) (by omega) (ValueIdx.ix2 (0 : Fin 1) ⟨(j 1).val, (j 1).isLt⟩))
      show colAcc T TC (BitVec.ofNat 32 (160 * k.val + 8 * ((j 0).val / 8) + (j 0).val % 8)) (j 1).val _ = colAcc T TC (BitVec.ofNat 32 (160 * k.val + (j 0).val)) (j 1).val _
      rw [show 160 * k.val + 8 * ((j 0).val / 8) + (j 0).val % 8 = 160 * k.val + (j 0).val by omega]
    have hcast : ∀ (w : FVec F S160x128 .bf16) (j : S1x160x128.Idx), shapeCast S1x160x128 w shapeCasts_S160x128_S1x160x128 j = w (ValueIdx.ix2 ⟨(j 1).val, (j 1).isLt⟩ ⟨(j 2).val, (j 2).isLt⟩) := by
      intro w j
      refine shapeCast_apply _ _ _ _ ?_
      have h0 : (j 0).val = 0 := by have : (j 0).val < 1 := (j 0).isLt; omega
      rw [Shape.rowMajor_val_two, Shape.rowMajor_val_three]
      show (j 1).val * 128 + (j 2).val = ((j 0).val * 160 + (j 1).val) * 128 + (j 2).val
      rw [h0]; omega
    refine at_step AV f16 k0_t3 k _ _ _ (fun j => ?_) (fun j => ?_) (fun j => ?_) hAt
    · refine (hcast (trip5.sl.v878 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v684 k0_hw2 v711 f13 f14 T TC c k) j).trans ?_
      exact congrArg (part 0) (hA (ValueIdx.ix2 ⟨(j 1).val, (j 1).isLt⟩ ⟨(j 2).val, (j 2).isLt⟩))
    · refine (hcast (trip5.sl.v881 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v684 k0_hw2 v711 f13 f14 T TC c k) j).trans ?_
      exact congrArg (part 1) (hA (ValueIdx.ix2 ⟨(j 1).val, (j 1).isLt⟩ ⟨(j 2).val, (j 2).isLt⟩))
    · refine (hcast (truncf .bf16 (trip5.sl.v883 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v684 k0_hw2 v711 f13 f14 T TC c k) bitsLt_bf16_f32) j).trans ?_
      exact congrArg (part 2) (hA (ValueIdx.ix2 ⟨(j 1).val, (j 1).isLt⟩ ⟨(j 2).val, (j 2).isLt⟩))
  iexists _; iexact H18

/-- The chunk loop carries the two masked blocks, and leaves the matrix and the flag rewritten. -/
@[instance_reducible] def loopInv5 (hn : n < 57) (hv : v684 = BitVec.ofNat 32 n) (htr : (k0_t7_loop v684).trips = 0)
    (h13 : ∀ ι : S128x128.Idx, arg13.view.read (Elt F) f13 ι = T (ι 0).val (ι 1).val)
    (h14 : ∀ ι : S128x128.Idx, arg14.view.read (Elt F) f14 ι = TC (ι 0).val (ι 1).val)
    (hAV : ∀ cc : ℕ, cc < 640 → ∀ l : S1x128.Idx, FloatOps.mulf (colAcc T TC (BitVec.ofNat 32 cc) (l 1).val (8 * (k0_t6_loop v684).trips)) (v711 l) = AV cc (128 * k0_t3.val + (l 1).val)) :
    Gen.LoopInvTy_k0_t5 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v596 v604 v612 v620 v628 v629 c1_i32_614 k0_t3 v684 k0_hw2 v711 where
  inv k _ := ChunkInv (F := F) c arg13 arg14 arg16 arg18 f13 f14 AV k0_t3.val k
  step k _ := trip5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v596 v604 v612 v620 v628 v629 c1_i32_614 k0_t3 v684 k0_hw2 v711 f13 f14 T TC n c AV hn hv htr h13 h14 hAV k
end

end Cert.KernelIdeal.Hand
end
-- ==== Proof.KernelIdeal.Group.lean ====
/- One group of 128 lanes: its sixteen slices gathered, transposed and masked by the row lengths, then accumulated chunk by chunk. -/
module

public import proofs.«01_k».proof.Proof.KernelIdeal.Chunk
public import Idealize.ShloMosaic.Lib.Updates.Memory
public import Idealize.ShloMosaic.Lib.Updates.Own

@[expose] public section

set_option pp.maxSteps 4000
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- What a lane group's trip carries. -/
abbrev GroupInv (c : Dev nD) (arg1 : Memref sig .tc .smem S3x81 .i32) (arg9 : Memref sig .tc .vmem S8x4480 .f32) (arg10 : Memref sig .tc .vmem S8x4480 .i32) (arg11 : Memref sig .tc .vmem S128x128 .f32) (arg12 : Memref sig .tc .vmem S128x128 .i32) (arg13 : Memref sig .tc .vmem S128x128 .f32) (arg14 : Memref sig .tc .vmem S128x128 .i32) (arg16 : Memref sig .tc .vmem S3x640x640 .bf16) (arg18 : Memref sig .tc .vmem S8x128 .f32)
    (X1 : BufTy.Contents (Elt F) arg1.view.ty) (X9 : BufTy.Contents (Elt F) arg9.view.ty) (X10 : BufTy.Contents (Elt F) arg10.view.ty) (AV : ℕ → ℕ → F .f32) (k : ℕ) : sProp 𝕄G :=
  iprop(tablePt c arg1 X1 ∗ (arg9.view.loc (c : Thread nD τ) ↦[arg9.view.set]{fullShare} X9) ∗ (arg10.view.loc (c : Thread nD τ) ↦[arg10.view.set]{fullShare} X10)
    ∗ (∃ f11, (arg11.view.loc (c : Thread nD τ) ↦[arg11.view.set]{fullShare} f11))
    ∗ (∃ f12, (arg12.view.loc (c : Thread nD τ) ↦[arg12.view.set]{fullShare} f12))
    ∗ (∃ f13, (arg13.view.loc (c : Thread nD τ) ↦[arg13.view.set]{fullShare} f13))
    ∗ (∃ f14, (arg14.view.loc (c : Thread nD τ) ↦[arg14.view.set]{fullShare} f14))
    ∗ (∃ f16, (arg16.view.loc (c : Thread nD τ) ↦[arg16.view.set]{fullShare} f16) ∗ ⌜AtDone AV k 0 (arg16.view.read (Elt F) f16)⌝)
    ∗ (∃ f18, (arg18.view.loc (c : Thread nD τ) ↦[arg18.view.set]{fullShare} f18)))

/-- A block's cells by natural-number positions. -/
def atNat {α : Type} (X : S128x128.Idx → α) (j l : ℕ) : α := X (ValueIdx.ix2 (Fin.ofNat 128 j) (Fin.ofNat 128 l))
/-- A block read at natural-number positions. -/
theorem at_self {α : Type} (X : S128x128.Idx → α) (ι : S128x128.Idx) :
    X ι = atNat X (ι 0).val (ι 1).val := by
  refine congrArg X (funext ?_)
  refine Fin.forall_fin_two.mpr ⟨Fin.ext ?_, Fin.ext ?_⟩
  · exact (Nat.mod_eq_of_lt (ι 0).isLt).symm
  · exact (Nat.mod_eq_of_lt (ι 1).isLt).symm
/-- The unpacked slots by natural-number positions. -/
def atSlot {α : Type} (X : S8x4480.Idx → α) (j l : ℕ) : α := X (ValueIdx.ix2 (Fin.ofNat 8 j) (Fin.ofNat 4480 l))
theorem atSlot_self {α : Type} (X : S8x4480.Idx → α) (ι : S8x4480.Idx) : X ι = atSlot X (ι 0).val (ι 1).val := by
  refine congrArg X (funext ?_)
  refine Fin.forall_fin_two.mpr ⟨Fin.ext ?_, Fin.ext ?_⟩
  · exact (Nat.mod_eq_of_lt (ι 0).isLt).symm
  · exact (Nat.mod_eq_of_lt (ι 1).isLt).symm

/-- How many slots the accumulation of group `g` runs over. -/
def depth (P : ℕ → ℕ) (g : ℕ) : ℕ := 8 * (k0_t6_loop (BitVec.ofNat 32 (widest P g 16))).trips

/-- Entry `j` of the row in lane `q`, or the filler past the row's end. -/
def entry {α : Type} (z : α) (P : ℕ → ℕ) (W : ℕ → ℕ → α) (RL : ℕ → BitVec 32) (q j : ℕ) : α :=
  if Scalar.cmpi .slt (BitVec.ofNat 32 j) (RL q) = 1#1 then W (q % 8) (P (sliceOf (q / 128) (q % 128 / 8)) + j) else z

/-- The kernel's matrix at column `cc` and lane `q`. -/
def matAt (P : ℕ → ℕ) (W : ℕ → ℕ → F .f32) (WC : ℕ → ℕ → BitVec 32) (RL : ℕ → BitVec 32) (SC : ℕ → F .f32) (cc q : ℕ) : F .f32 :=
  FloatOps.mulf (colAcc (fun j l => entry (Scalar.ofBits .f32 0x00000000#32) P W RL (128 * (q / 128) + l) j) (fun j l => entry 0#32 P WC RL (128 * (q / 128) + l) j)
    (BitVec.ofNat 32 cc) (q % 128) (depth P (q / 128))) (SC q)

theorem colAcc_congr {T T' : ℕ → ℕ → F .f32} {TC TC' : ℕ → ℕ → BitVec 32} (w : BitVec 32) (l : ℕ) :
    ∀ n, (∀ j, j < n → T j l = T' j l ∧ TC j l = TC' j l) → colAcc T TC w l n = colAcc T' TC' w l n
  | 0, _ => rfl
  | n + 1, h => by
    show FloatOps.addf (colAcc T TC w l n) (if (Scalar.cmpi .eq w (TC n l)) = 1#1 then T n l else _) = FloatOps.addf (colAcc T' TC' w l n) (if (Scalar.cmpi .eq w (TC' n l)) = 1#1 then T' n l else _)
    rw [colAcc_congr w l n fun j hj => h j (by omega), (h n (by omega)).1, (h n (by omega)).2]

theorem depth_fin : ∀ n : Fin 57, n.val ≤ 8 * (k0_t6_loop (BitVec.ofNat 32 n.val)).trips ∧ 8 * (k0_t6_loop (BitVec.ofNat 32 n.val)).trips ≤ 56 := by decide +kernel

theorem width_le_widest (P : ℕ → ℕ) (g : ℕ) : ∀ n k, k < n → P (sliceOf g k + 1) - P (sliceOf g k) ≤ widest P g n
  | 0, _, h => absurd h (by omega)
  | n + 1, k, h => by
    simp only [widest]
    by_cases e : k = n
    · subst e; omega
    · have := width_le_widest P g n k (by omega); omega

/-- The row lengths and the window: an entry that is read lies in its slice. -/
def Fits (P : ℕ → ℕ) (RL : ℕ → BitVec 32) : Prop :=
  ∀ q j, q < 640 → j < 56 → Scalar.cmpi .slt (BitVec.ofNat 32 j) (RL q) = 1#1 → P (sliceOf (q / 128) (q % 128 / 8)) + j < P (sliceOf (q / 128) (q % 128 / 8) + 1)

/-- The mask of the entries that a row has. -/
theorem cmp_at (v : IVec S1x128 32) (x : S56x128.Idx) :
    cmpi .slt (iota .tc S56x128 32 [0] iota_S56x128_d0_w32) (broadcastTo S56x128 v broadcasts_S1x128_S56x128) x
      = Scalar.cmpi .slt (BitVec.ofNat 32 (x 0).val) (v (ValueIdx.ix2 (0 : Fin 1) ⟨(x 1).val, (x 1).isLt⟩)) := by
  show Scalar.cmpi .slt (BitVec.ofNat 32 (0 * 56 + (x 0).val)) (broadcastTo S56x128 v broadcasts_S1x128_S56x128 x) = _
  rw [broadcastTo_apply v _ x (ValueIdx.ix2 (0 : Fin 1) ⟨(x 1).val, (x 1).isLt⟩) (Fin.forall_fin_two.mpr ⟨rfl, rfl⟩), Nat.zero_mul, Nat.zero_add]

theorem transposed_at {α : Type} (X : S128x128.Idx → α) (j l : Fin 128) :
    shapeCast S128x128 (transpose S128x128 [1, 0] X transposes_S128x128_p1_0_S128x128) shapeCasts_S128x128_S128x128 (ValueIdx.ix2 j l) = X (ValueIdx.ix2 l j) := by
  rw [shapeCast_self]
  exact transpose_apply _ _ _ _ _ (Fin.forall_fin_two.mpr ⟨rfl, rfl⟩)

/-- What a masked, transposed block of gathered slots holds. -/
theorem masked_at {α : Type} (z : α) {P : ℕ → ℕ} (hP : Starts P) {W : ℕ → ℕ → α} {RL : ℕ → BitVec 32} (hF : Fits P RL) {g : ℕ} (hg : g < 5) {X : S128x128.Idx → α} (hX : Gathered P W g 16 X)
    (j l : ℕ) (hj : j < 56) (hl : l < 128) :
    (if Scalar.cmpi .slt (BitVec.ofNat 32 j) (RL (128 * g + l)) = 1#1 then X (ValueIdx.ix2 ⟨l, hl⟩ ⟨j, by omega⟩) else z) = entry z P W RL (128 * g + l) j := by
  unfold entry
  have hf := hF (128 * g + l) j (by omega) hj
  split
  · rename_i h
    have hf := hf h
    rw [show (128 * g + l) / 128 = g by omega, show (128 * g + l) % 128 = l by omega] at hf ⊢
    rw [show (128 * g + l) % 8 = l % 8 by omega]
    have hs : sliceOf g (l / 8) + 1 ≤ 80 := sliceOf_lt hg (by omega)
    exact hX (ValueIdx.ix2 ⟨l, hl⟩ ⟨j, by omega⟩) (by show l < 8 * 16; omega) (by show P (sliceOf g (l / 8)) + j < 4480; have := hP.le _ hs; omega)
  · rfl

section
variable (i : grid0.Coords) (arg1 : Memref sig .tc .smem S3x81 .i32) (harg1 : arg1.IsWhole) (arg2 : Memref sig .tc .vmem S1x640x960 .bf16) (harg2 : arg2.IsWhole) (arg3 : Memref sig .tc .vmem S1x4480x8 .fp8e4m3) (harg3 : arg3.IsWhole) (arg4 : Memref sig .tc .vmem S1x4480x8 .i32) (harg4 : arg4.IsWhole) (arg5 : Memref sig .tc .vmem S3x640 .f32) (harg5 : arg5.IsWhole) (arg6 : Memref sig .tc .vmem S3x640 .i32) (harg6 : arg6.IsWhole) (arg7 : Memref sig .tc .vmem S3x640 .i32) (harg7 : arg7.IsWhole) (arg8 : Memref sig .tc .vmem S1x640x960 .bf16) (harg8 : arg8.IsWhole) (arg9 : Memref sig .tc .vmem S8x4480 .f32) (harg9 : arg9.IsWhole) (arg10 : Memref sig .tc .vmem S8x4480 .i32) (harg10 : arg10.IsWhole) (arg11 : Memref sig .tc .vmem S128x128 .f32) (harg11 : arg11.IsWhole) (arg12 : Memref sig .tc .vmem S128x128 .i32) (harg12 : arg12.IsWhole) (arg13 : Memref sig .tc .vmem S128x128 .f32) (harg13 : arg13.IsWhole) (arg14 : Memref sig .tc .vmem S128x128 .i32) (harg14 : arg14.IsWhole) (arg15 : Memref sig .tc .vmem S640x960 .bf16) (harg15 : arg15.IsWhole) (arg16 : Memref sig .tc .vmem S3x640x640 .bf16) (harg16 : arg16.IsWhole) (arg17 : Memref sig .tc .vmem S640x960 .f32) (harg17 : arg17.IsWhole) (arg18 : Memref sig .tc .vmem S8x128 .f32) (harg18 : arg18.IsWhole) (arg0 : BitVec 32) (v0 : IVec S8x128 32) (v68 : FVec F S1x128 .f32) (v133 : FVec F S1x128 .f32) (v198 : FVec F S1x128 .f32) (v263 : FVec F S1x128 .f32) (v328 : FVec F S1x128 .f32) (v393 : IVec S1x128 32) (v458 : IVec S1x128 32) (v523 : IVec S1x128 32) (v588 : IVec S1x128 32) (v596 : IVec S1x16 32) (v604 : IVec S1x16 32) (v612 : IVec S1x16 32) (v620 : IVec S1x16 32) (v628 : IVec S1x16 32) (v629 : Vec F S1x128 .i32) (c1_i32_614 : BitVec 32) (v631 : Vec F S1x128 .i32) (v634 : Vec F S1x128 .i32) (v637 : Vec F S1x128 .i32) (v639 : Vec F S1x128 .i32) (v642 : Vec F S1x128 .i32) (v645 : Vec F S1x128 .i32) (v647 : Vec F S1x128 .i32) (v650 : Vec F S1x128 .i32)
  (X1 : BufTy.Contents (Elt F) arg1.view.ty) (X9 : BufTy.Contents (Elt F) arg9.view.ty) (X10 : BufTy.Contents (Elt F) arg10.view.ty)
  (P : ℕ → ℕ) (RL : ℕ → BitVec 32) (SC : ℕ → F .f32) (c : Dev nD)

theorem trip3 (hP : Starts P) (hv0 : ∀ ι, v0 ι = BitVec.ofNat 32 (ι 1).val)
    (h1 : ∀ ι : S3x81.Idx, (ι 0).val = (i 0).val → arg1.view.read (Elt F) X1 ι = BitVec.ofNat 32 (P (ι 1).val))
    (hF : Fits P RL)
    (hRL : ∀ (g : Fin k0_t3_loop.trips) (l : S1x128.Idx), k0_pay441 v393 v458 v523 v588 (k0_pay519 arg0 v596 v604 v612 v620 v628 v629 c1_i32_614 v631 v634 v637 v639 v642 v645 v647 v650) 0#32 1#32 g l = RL (128 * g.val + (l 1).val))
    (hSC : ∀ (g : Fin k0_t3_loop.trips) (l : S1x128.Idx), k0_pay442 v68 v133 v198 v263 v328 0#32 1#32 g l = SC (128 * g.val + (l 1).val))
    (k : Fin k0_t3_loop.trips) :
    GroupInv (F := F) c arg1 arg9 arg10 arg11 arg12 arg13 arg14 arg16 arg18 X1 X9 X10 (matAt P (atSlot (arg9.view.read (Elt F) X9)) (atSlot (arg10.view.read (Elt F) X10)) RL SC) k.val
      ⊢ wp frame (wpE (defs₀ (F := F)) 𝒱₀ (c : Thread nD τ) none) Set.univ (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v596 v604 v612 v620 v628 v629 c1_i32_614 v631 v634 v637 v639 v642 v645 v647 v650 k ())
        (fun _ => GroupInv (F := F) c arg1 arg9 arg10 arg11 arg12 arg13 arg14 arg16 arg18 X1 X9 X10 (matAt P (atSlot (arg9.view.read (Elt F) X9)) (atSlot (arg10.view.read (Elt F) X10)) RL SC) (k.val + 1)) := by
  unfold GroupInv k0_t3_body
  iintro ⟨H1, H9, H10, ⟨%f11, H11⟩, ⟨%f12, H12⟩, ⟨%f13, H13⟩, ⟨%f14, H14⟩, ⟨%f16, H16, %hAt⟩, ⟨%f18, H18⟩⟩
  sl_exec
  let W := atSlot (arg9.view.read (Elt F) X9)
  let WC := atSlot (arg10.view.read (Elt F) X10)
  have h9 : ∀ ι : S8x4480.Idx, arg9.view.read (Elt F) X9 ι = W (ι 0).val (ι 1).val := atSlot_self _
  have h10 : ∀ ι : S8x4480.Idx, arg10.view.read (Elt F) X10 ι = WC (ι 0).val (ι 1).val := atSlot_self _
  have g11 := gathered_zero P W k.val (arg11.view.read (Elt F) f11)
  have g12 := gathered_zero P WC k.val (arg12.view.read (Elt F) f12)
  let L4 := loopInv4 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 (k0_pay519 arg0 v596 v604 v612 v620 v628 v629 c1_i32_614 v631 v634 v637 v639 v642 v645 v647 v650) (0#32) (1#32) k (trip3.sl.arg19 k) X1 X9 X10 P W WC c hP hv0 h1 h9 h10
  have hk : k.val < 5 := Nat.lt_of_lt_of_le k.isLt k0_t3_abs.2.1
  have hw := Nat.lt_succ_of_le (widest_le hP hk (Scf.trips k0_t4_loop.lb k0_t4_loop.ub k0_t4_loop.st) k0_t4_abs.2.1)
  have hchk := chk2_of ⟨_, hw⟩
  have htr := trips7_eq ⟨_, hw⟩
  sl_exec
  let AV := (matAt P (atSlot (arg9.view.read (Elt F) X9)) (atSlot (arg10.view.read (Elt F) X10)) RL SC)
  have hAV : ∀ cc : ℕ, cc < 640 → ∀ l : S1x128.Idx, FloatOps.mulf (colAcc (atNat (arg13.view.read (Elt F) (arg13.view.writes (Elt F) arg13.view.junk (trip3.sl.H13_2 arg11 arg13 arg0 v393 v458 v523 v588 v596 v604 v612 v620 v628 v629 c1_i32_614 v631 v634 v637 v639 v642 v645 v647 v650 c k f11L0)))) (atNat (arg14.view.read (Elt F) (arg14.view.writes (Elt F) arg14.view.junk (trip3.sl.H14_2 arg12 arg14 arg0 v393 v458 v523 v588 v596 v604 v612 v620 v628 v629 c1_i32_614 v631 v634 v637 v639 v642 v645 v647 v650 c k f12L1)))) (BitVec.ofNat 32 cc) (l 1).val
      (8 * (k0_t6_loop (BitVec.ofNat 32 (widest P k.val (Scf.trips k0_t4_loop.lb k0_t4_loop.ub k0_t4_loop.st)))).trips)) (trip3.sl.r_1 v68 v133 v198 v263 v328 k l) = AV cc (128 * k.val + (l 1).val) := by
    have h16 : Scf.trips k0_t4_loop.lb k0_t4_loop.ub k0_t4_loop.st = 16 := by decide
    rw [h16] at hL4 hL6
    rw [h16]
    have hw' : widest P k.val 16 < 57 := Nat.lt_succ_of_le (widest_le hP hk 16 (Nat.le_refl _))
    intro cc hcc l
    have hl : (l 1).val < 128 := (l 1).isLt
    have hli : (ValueIdx.ix2 (0 : Fin 1) ⟨(l 1).val, hl⟩ : S1x128.Idx) = l := funext (Fin.forall_fin_two.mpr ⟨Subsingleton.elim (α := Fin 1) _ _, rfl⟩)
    have hA : ∀ j (hj : j < 56), atNat (arg13.view.read (Elt F) (arg13.view.writes (Elt F) arg13.view.junk (trip3.sl.H13_2 arg11 arg13 arg0 v393 v458 v523 v588 v596 v604 v612 v620 v628 v629 c1_i32_614 v631 v634 v637 v639 v642 v645 v647 v650 c k f11L0))) j (l 1).val = entry (Scalar.ofBits .f32 0x00000000#32) P W RL (128 * k.val + (l 1).val) j := by
      intro j hj
      unfold trip3.sl.H13_2
      let x : S56x128.Idx := ValueIdx.ix2 ⟨j, hj⟩ ⟨(l 1).val, hl⟩
      refine (View.read_writes_cons_unit_of_mem _ _ _ _ _ _ x rfl (Fin.forall_fin_two.mpr ⟨?_, ?_⟩)).trans ?_
      · show j % 128 = 0 + j; omega
      · show (l 1).val % 128 = 0 + (l 1).val; omega
      have e1 : trip3.sl.v712 arg11 arg13 c f11L0 x = arg11.view.read (Elt F) f11L0 (ValueIdx.ix2 ⟨(l 1).val, hl⟩ ⟨j, by omega⟩) := by
        unfold trip3.sl.v712 trip3.sl.H13_1
        refine (View.read_writes_cons_unit_of_mem _ _ _ _ _ _ (ValueIdx.ix2 ⟨j, by omega⟩ ⟨(l 1).val, hl⟩ : S128x128.Idx) rfl (Fin.forall_fin_two.mpr ⟨?_, ?_⟩)).trans ?_
        · show 0 + 1 * j = 0 + j; omega
        · show 0 + 1 * (l 1).val = 0 + (l 1).val; omega
        refine (transposed_at _ _ _).trans ?_
        exact congrFun (View.readAt_full _ _ _) _
      refine Eq.trans ?_ (masked_at _ hP hF hk hL4 j (l 1).val hj hl)
      rw [← e1, ← hRL k l]
      unfold k0_pay521
      rw [shapeCast_self]
      have e2 : (trip3.sl.r_2 arg0 v393 v458 v523 v588 v596 v604 v612 v620 v628 v629 c1_i32_614 v631 v634 v637 v639 v642 v645 v647 v650 k) x = Scalar.cmpi .slt (BitVec.ofNat 32 j) (k0_pay441 v393 v458 v523 v588 (k0_pay519 arg0 v596 v604 v612 v620 v628 v629 c1_i32_614 v631 v634 v637 v639 v642 v645 v647 v650) 0#32 1#32 k l) := (cmp_at (k0_pay441 v393 v458 v523 v588 (k0_pay519 arg0 v596 v604 v612 v620 v628 v629 c1_i32_614 v631 v634 v637 v639 v642 v645 v647 v650) 0#32 1#32 k) x).trans (congrArg (fun z => Scalar.cmpi .slt (BitVec.ofNat 32 j) (k0_pay441 v393 v458 v523 v588 (k0_pay519 arg0 v596 v604 v612 v620 v628 v629 c1_i32_614 v631 v634 v637 v639 v642 v645 v647 v650) 0#32 1#32 k z)) hli)
      show (if (trip3.sl.r_2 arg0 v393 v458 v523 v588 v596 v604 v612 v620 v628 v629 c1_i32_614 v631 v634 v637 v639 v642 v645 v647 v650 k) x = 1#1 then _ else _) = _
      rw [e2]
      rfl
    have hC : ∀ j (hj : j < 56), atNat (arg14.view.read (Elt F) (arg14.view.writes (Elt F) arg14.view.junk (trip3.sl.H14_2 arg12 arg14 arg0 v393 v458 v523 v588 v596 v604 v612 v620 v628 v629 c1_i32_614 v631 v634 v637 v639 v642 v645 v647 v650 c k f12L1))) j (l 1).val = entry 0#32 P WC RL (128 * k.val + (l 1).val) j := by
      intro j hj
      unfold trip3.sl.H14_2
      let x : S56x128.Idx := ValueIdx.ix2 ⟨j, hj⟩ ⟨(l 1).val, hl⟩
      refine (View.read_writes_cons_unit_of_mem _ _ _ _ _ _ x rfl (Fin.forall_fin_two.mpr ⟨?_, ?_⟩)).trans ?_
      · show j % 128 = 0 + j; omega
      · show (l 1).val % 128 = 0 + (l 1).val; omega
      have e1 : trip3.sl.v720 arg12 arg14 c f12L1 x = arg12.view.read (Elt F) f12L1 (ValueIdx.ix2 ⟨(l 1).val, hl⟩ ⟨j, by omega⟩) := by
        unfold trip3.sl.v720 trip3.sl.H14_1
        refine (View.read_writes_cons_unit_of_mem _ _ _ _ _ _ (ValueIdx.ix2 ⟨j, by omega⟩ ⟨(l 1).val, hl⟩ : S128x128.Idx) rfl (Fin.forall_fin_two.mpr ⟨?_, ?_⟩)).trans ?_
        · show 0 + 1 * j = 0 + j; omega
        · show 0 + 1 * (l 1).val = 0 + (l 1).val; omega
        refine (transposed_at _ _ _).trans ?_
        exact congrFun (View.readAt_full _ _ _) _
      refine Eq.trans ?_ (masked_at _ hP hF hk hL6 j (l 1).val hj hl)
      rw [← e1, ← hRL k l]
      unfold k0_pay522
      rw [shapeCast_self]
      have e2 : cmpi .slt trip3.sl.v695 (broadcastTo S56x128 (trip3.sl.r arg0 v393 v458 v523 v588 v596 v604 v612 v620 v628 v629 c1_i32_614 v631 v634 v637 v639 v642 v645 v647 v650 k) broadcasts_S1x128_S56x128) x = Scalar.cmpi .slt (BitVec.ofNat 32 j) (k0_pay441 v393 v458 v523 v588 (k0_pay519 arg0 v596 v604 v612 v620 v628 v629 c1_i32_614 v631 v634 v637 v639 v642 v645 v647 v650) 0#32 1#32 k l) := (cmp_at (k0_pay441 v393 v458 v523 v588 (k0_pay519 arg0 v596 v604 v612 v620 v628 v629 c1_i32_614 v631 v634 v637 v639 v642 v645 v647 v650) 0#32 1#32 k) x).trans (congrArg (fun z => Scalar.cmpi .slt (BitVec.ofNat 32 j) (k0_pay441 v393 v458 v523 v588 (k0_pay519 arg0 v596 v604 v612 v620 v628 v629 c1_i32_614 v631 v634 v637 v639 v642 v645 v647 v650) 0#32 1#32 k z)) hli)
      show (if cmpi .slt _ _ x = 1#1 then _ else _) = _
      rw [e2]
      rfl
    have q1 : (128 * k.val + (l 1).val) / 128 = k.val := by omega
    have q2 : (128 * k.val + (l 1).val) % 128 = (l 1).val := by omega
    show _ = matAt P W WC RL SC cc (128 * k.val + (l 1).val)
    unfold matAt
    rw [q1, q2, ← hSC k l]
    refine congrArg₂ FloatOps.mulf (colAcc_congr _ _ _ fun j hj => ?_) rfl
    have hj' : j < 56 := Nat.lt_of_lt_of_le hj (depth_fin ⟨_, hw'⟩).2
    exact ⟨hA j hj', hC j hj'⟩
  let L5 := loopInv5 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v596 v604 v612 v620 v628 v629 c1_i32_614 k (BitVec.ofNat 32 (widest P k.val (Scf.trips k0_t4_loop.lb k0_t4_loop.ub k0_t4_loop.st))) hchk (trip3.sl.r_1 v68 v133 v198 v263 v328 k)
    (arg13.view.writes (Elt F) arg13.view.junk (trip3.sl.H13_2 arg11 arg13 arg0 v393 v458 v523 v588 v596 v604 v612 v620 v628 v629 c1_i32_614 v631 v634 v637 v639 v642 v645 v647 v650 c k f11L0))
    (arg14.view.writes (Elt F) arg14.view.junk (trip3.sl.H14_2 arg12 arg14 arg0 v393 v458 v523 v588 v596 v604 v612 v620 v628 v629 c1_i32_614 v631 v634 v637 v639 v642 v645 v647 v650 c k f12L1))
    (atNat (arg13.view.read (Elt F) _)) (atNat (arg14.view.read (Elt F) _)) _ c AV hw rfl htr (fun ι => at_self _ ι) (fun ι => at_self _ ι) hAV
  sl_exec
  sl_step
  isplitl [H1]; · iexact H1
  isplitl [H9]; · iexact H9
  isplitl [H10]; · iexact H10
  isplitl [H11]
  · iexists _; iexact H11
  isplitl [H12]
  · iexists _; iexact H12
  isplitl [H13]
  · iexists _; iexact H13
  isplitl [H14]
  · iexists _; iexact H14
  isplitl [H16]
  · iexists _
    isplitl [H16]; · iexact H16
    ipureintro
    have h4 : Scf.trips k0_t5_loop.lb k0_t5_loop.ub k0_t5_loop.st = 4 := by decide
    rw [h4] at hL3
    exact hL3.next
  iexists _; iexact H18

/-- The group loop. -/
@[sl_loop, instance_reducible] def loopInv3 (hP : Starts P) (hv0 : ∀ ι, v0 ι = BitVec.ofNat 32 (ι 1).val)
    (h1 : ∀ ι : S3x81.Idx, (ι 0).val = (i 0).val → arg1.view.read (Elt F) X1 ι = BitVec.ofNat 32 (P (ι 1).val))
    (hF : Fits P RL)
    (hRL : ∀ (g : Fin k0_t3_loop.trips) (l : S1x128.Idx), k0_pay441 v393 v458 v523 v588 (k0_pay519 arg0 v596 v604 v612 v620 v628 v629 c1_i32_614 v631 v634 v637 v639 v642 v645 v647 v650) 0#32 1#32 g l = RL (128 * g.val + (l 1).val))
    (hSC : ∀ (g : Fin k0_t3_loop.trips) (l : S1x128.Idx), k0_pay442 v68 v133 v198 v263 v328 0#32 1#32 g l = SC (128 * g.val + (l 1).val)) :
    Gen.LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v596 v604 v612 v620 v628 v629 c1_i32_614 v631 v634 v637 v639 v642 v645 v647 v650 where
  inv k _ := GroupInv (F := F) c arg1 arg9 arg10 arg11 arg12 arg13 arg14 arg16 arg18 X1 X9 X10 (matAt P (atSlot (arg9.view.read (Elt F) X9)) (atSlot (arg10.view.read (Elt F) X10)) RL SC) k
  step k _ := trip3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v0 v68 v133 v198 v263 v328 v393 v458 v523 v588 v596 v604 v612 v620 v628 v629 c1_i32_614 v631 v634 v637 v639 v642 v645 v647 v650 X1 X9 X10 P RL SC c hP hv0 h1 hF hRL hSC k
end

end Cert.KernelIdeal.Hand
end
-- ==== Proof.KernelIdeal.Unpack.lean ====
/- The two loops before the groups: the slots laid out by lane, and the rows of the dense operand permuted inside their windows. -/
module

public import proofs.«01_k».proof.Proof.Gen.KernelIdeal
public import Idealize.ShloMosaic.Lib.VecWindow
public import Idealize.ShloMosaic.Lib.WritesUnit
public import Idealize.ShloMosaic.Lib.Pipeline.Value
public import proofs.«01_k».proof.Proof.KernelIdeal.Chunk

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

theorem off2_eq : ∀ k : Fin k0_t1_loop.trips, k0_off2 k = ![0, 128 * k.val] := by decide +kernel
theorem off7_eq : ∀ (k : Fin k0_t2_loop.trips) (m : Fin 8), k0_off7 k (BitVec.ofNat 32 (5 * m.val)) = ![16 * (5 * m.val + k.val), 0] := by decide +kernel

/-- One block of columns written over the lanes. -/
theorem lanes_step {e : EltTy} {m : Memref sig .tc .vmem S8x4480 e} (f : BufTy.Contents (Elt F) m.view.ty) (k : Fin k0_t1_loop.trips) (V : ℕ → ℕ → Elt F e) (inb)
    (w : S8x128.Idx → Elt F e) (hw : ∀ x, w x = V (x 0).val (128 * k.val + (x 1).val))
    (h : ∀ ι : S8x4480.Idx, (ι 1).val < 128 * k.val → m.view.read (Elt F) f ι = V (ι 0).val (ι 1).val) (ι : S8x4480.Idx) (hι : (ι 1).val < 128 * (k.val + 1)) :
    m.view.read (Elt F) (m.view.writes (Elt F) f [⟨Rect.unit (s := S8x4480) (k0_off2 k) S8x128.size inb, w⟩]) ι = V (ι 0).val (ι 1).val := by
  by_cases hlt : (ι 1).val < 128 * k.val
  · refine (View.read_writes_cons_unit_of_not_mem _ _ _ _ _ _ (off2_eq k) 1 (Or.inl hlt)).trans ?_
    exact h ι hlt
  · refine (View.read_writes_cons_unit_of_mem _ _ _ _ _ _ (ValueIdx.ix2 ⟨(ι 0).val, (ι 0).isLt⟩ ⟨(ι 1).val - 128 * k.val, by omega⟩ : S8x128.Idx) (off2_eq k) (Fin.forall_fin_two.mpr ⟨?_, ?_⟩)).trans ?_
    · show (ι 0).val = 0 + (ι 0).val; omega
    · show (ι 1).val = 128 * k.val + ((ι 1).val - 128 * k.val); omega
    · rw [hw]
      show V (ι 0).val (128 * k.val + ((ι 1).val - 128 * k.val)) = _
      rw [show 128 * k.val + ((ι 1).val - 128 * k.val) = (ι 1).val by omega]

/-- One pair of slices' rows written into the permuted operand. -/
theorem pair_step {m : Memref sig .tc .vmem S640x960 .bf16} (f : BufTy.Contents (Elt F) m.view.ty) (k : Fin k0_t2_loop.trips) (p : Fin 8) (V : ℕ → ℕ → F .bf16) (inb)
    (w : S16x960.Idx → Elt F .bf16) (hw : ∀ x, w x = V (16 * p.val + (x 0).val) (x 1).val) (L : List (View.Piece (Elt F) S640x960 .bf16)) (ι : S640x960.Idx) :
    m.view.read (Elt F) (m.view.writes (Elt F) f (⟨Rect.unit (s := S640x960) (k0_off7 k (BitVec.ofNat 32 (5 * p.val))) S16x960.size inb, w⟩ :: L)) ι
      = if (ι 0).val / 16 = 5 * p.val + k.val then V (16 * p.val + (ι 0).val % 16) (ι 1).val else m.view.read (Elt F) (m.view.writes (Elt F) f L) ι := by
  split
  · rename_i h
    refine (View.read_writes_cons_unit_of_mem _ _ _ _ _ _ (ValueIdx.ix2 ⟨(ι 0).val % 16, Nat.mod_lt _ (by decide)⟩ ⟨(ι 1).val, (ι 1).isLt⟩ : S16x960.Idx) (off7_eq k p) (Fin.forall_fin_two.mpr ⟨?_, ?_⟩)).trans (hw _)
    · show (ι 0).val = 16 * (5 * p.val + k.val) + (ι 0).val % 16; omega
    · show (ι 1).val = 0 + (ι 1).val; omega
  · rename_i h
    refine View.read_writes_cons_unit_of_not_mem _ _ _ _ _ _ (off7_eq k p) 0 ?_
    show (ι 0).val < 16 * (5 * p.val + k.val) ∨ 16 * (5 * p.val + k.val) + 16 ≤ (ι 0).val
    omega

theorem slice16 {α : Type} (o : ℕ) (X : S128x960.Idx → α) (h : S128x960.Slices ![o, 0] S16x960) (V : ℕ → ℕ → α) (hV : ∀ x, X x = V (x 0).val (x 1).val) (x : S16x960.Idx) :
    shapeCast S16x960 (extractStridedSlice S16x960 ![o, 0] X h) shapeCasts_S16x960_S16x960 x = V (o + (x 0).val) (x 1).val := by
  have ho : o + 16 ≤ 128 := h.2 0
  have hx : (x 0).val < 16 := (x 0).isLt
  rw [shapeCast_self]
  refine (extractStridedSlice_apply _ X h x (ValueIdx.ix2 ⟨o + (x 0).val, by omega⟩ ⟨(x 1).val, (x 1).isLt⟩) (Fin.forall_fin_two.mpr ⟨rfl, (Nat.zero_add _).symm⟩)).trans ?_
  exact hV _

section
variable (i : grid0.Coords) (arg1 : Memref sig .tc .smem S3x81 .i32) (harg1 : arg1.IsWhole) (arg2 : Memref sig .tc .vmem S1x640x960 .bf16) (harg2 : arg2.IsWhole) (arg3 : Memref sig .tc .vmem S1x4480x8 .fp8e4m3) (harg3 : arg3.IsWhole) (arg4 : Memref sig .tc .vmem S1x4480x8 .i32) (harg4 : arg4.IsWhole) (arg5 : Memref sig .tc .vmem S3x640 .f32) (harg5 : arg5.IsWhole) (arg6 : Memref sig .tc .vmem S3x640 .i32) (harg6 : arg6.IsWhole) (arg7 : Memref sig .tc .vmem S3x640 .i32) (harg7 : arg7.IsWhole) (arg8 : Memref sig .tc .vmem S1x640x960 .bf16) (harg8 : arg8.IsWhole) (arg9 : Memref sig .tc .vmem S8x4480 .f32) (harg9 : arg9.IsWhole) (arg10 : Memref sig .tc .vmem S8x4480 .i32) (harg10 : arg10.IsWhole) (arg11 : Memref sig .tc .vmem S128x128 .f32) (harg11 : arg11.IsWhole) (arg12 : Memref sig .tc .vmem S128x128 .i32) (harg12 : arg12.IsWhole) (arg13 : Memref sig .tc .vmem S128x128 .f32) (harg13 : arg13.IsWhole) (arg14 : Memref sig .tc .vmem S128x128 .i32) (harg14 : arg14.IsWhole) (arg15 : Memref sig .tc .vmem S640x960 .bf16) (harg15 : arg15.IsWhole) (arg16 : Memref sig .tc .vmem S3x640x640 .bf16) (harg16 : arg16.IsWhole) (arg17 : Memref sig .tc .vmem S640x960 .f32) (harg17 : arg17.IsWhole) (arg18 : Memref sig .tc .vmem S8x128 .f32) (harg18 : arg18.IsWhole) (arg0 : BitVec 32) (v2 : IVec S128x128 32) (c : Dev nD)
  (X2 : BufTy.Contents (Elt F) arg2.view.ty) (X3 : BufTy.Contents (Elt F) arg3.view.ty) (X4 : BufTy.Contents (Elt F) arg4.view.ty) (X7 : BufTy.Contents (Elt F) arg7.view.ty)
  (WV : ℕ → ℕ → Elt F .f32) (CV : ℕ → ℕ → Elt F .i32) (XV : ℕ → ℕ → ℕ → F .bf16)

/-- Before step `k` the first `128 k` slots are laid out. -/
abbrev UnpackInv (k : ℕ) : sProp 𝕄G :=
  iprop((arg3.view.loc (c : Thread nD τ) ↦[arg3.view.set]{fullShare} X3) ∗ (arg4.view.loc (c : Thread nD τ) ↦[arg4.view.set]{fullShare} X4)
    ∗ (∃ f : BufTy.Contents (Elt F) arg9.view.ty, (arg9.view.loc (c : Thread nD τ) ↦[arg9.view.set]{fullShare} f) ∗ ⌜∀ ι : S8x4480.Idx, (ι 1).val < 128 * k → arg9.view.read (Elt F) f ι = WV (ι 0).val (ι 1).val⌝)
    ∗ (∃ f : BufTy.Contents (Elt F) arg10.view.ty, (arg10.view.loc (c : Thread nD τ) ↦[arg10.view.set]{fullShare} f) ∗ ⌜∀ ι : S8x4480.Idx, (ι 1).val < 128 * k → arg10.view.read (Elt F) f ι = CV (ι 0).val (ι 1).val⌝))

theorem trip1 (h3 : ∀ (k : Fin k0_t1_loop.trips) (x : S8x128.Idx), k0_pay444 (F := F) (View.readAt (Elt F) arg3.view (Rect.unit (s := S1x4480x8) (k0_off1 k) S1x128x8.size (k0_off1_inb k)).toLoadRect X3) x = WV (x 0).val (128 * k.val + (x 1).val))
    (h4 : ∀ (k : Fin k0_t1_loop.trips) (x : S8x128.Idx), k0_pay445 (F := F) (View.readAt (Elt F) arg4.view (Rect.unit (s := S1x4480x8) (k0_off1 k) S1x128x8.size (k0_off1_inb k)).toLoadRect X4) x = CV (x 0).val (128 * k.val + (x 1).val))
    (k : Fin k0_t1_loop.trips) :
    UnpackInv (F := F) arg3 arg4 arg9 arg10 c X3 X4 WV CV k.val
      ⊢ wp frame (wpE (defs₀ (F := F)) 𝒱₀ (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k ())
        (fun _ => UnpackInv (F := F) arg3 arg4 arg9 arg10 c X3 X4 WV CV (k.val + 1)) := by
  have hk : k.val < 35 := Nat.lt_of_lt_of_le k.isLt k0_t1_abs.2.1
  unfold UnpackInv k0_t1_body
  iintro ⟨H3, H4, ⟨%f9, H9, %h9⟩, ⟨%f10, H10, %h10⟩⟩
  sl_exec
  sl_step
  isplitl [H3]; · iexact H3
  isplitl [H4]; · iexact H4
  isplitl [H9]
  · iexists _
    isplitl [H9]; · iexact H9
    ipureintro
    intro ι hι
    exact lanes_step f9 k WV _ _ (h3 k) h9 ι hι
  iexists _
  isplitl [H10]; · iexact H10
  ipureintro
  intro ι hι
  exact lanes_step f10 k CV _ _ (h4 k) h10 ι hι

@[instance_reducible] def loopInv1 (h3 : ∀ (k : Fin k0_t1_loop.trips) (x : S8x128.Idx), k0_pay444 (F := F) (View.readAt (Elt F) arg3.view (Rect.unit (s := S1x4480x8) (k0_off1 k) S1x128x8.size (k0_off1_inb k)).toLoadRect X3) x = WV (x 0).val (128 * k.val + (x 1).val))
    (h4 : ∀ (k : Fin k0_t1_loop.trips) (x : S8x128.Idx), k0_pay445 (F := F) (View.readAt (Elt F) arg4.view (Rect.unit (s := S1x4480x8) (k0_off1 k) S1x128x8.size (k0_off1_inb k)).toLoadRect X4) x = CV (x 0).val (128 * k.val + (x 1).val)) :
    Gen.LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 where
  inv k _ := UnpackInv (F := F) arg3 arg4 arg9 arg10 c X3 X4 WV CV k
  step k _ := trip1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c X3 X4 WV CV h3 h4 k

/-- Before step `k` the rows that the first `k` windows supply are in place. -/
abbrev PermuteInv (k : ℕ) : sProp 𝕄G :=
  iprop((arg2.view.loc (c : Thread nD τ) ↦[arg2.view.set]{fullShare} X2) ∗ (arg7.view.loc (c : Thread nD τ) ↦[arg7.view.set]{fullShare} X7)
    ∗ (∃ f : BufTy.Contents (Elt F) arg15.view.ty, (arg15.view.loc (c : Thread nD τ) ↦[arg15.view.set]{fullShare} f)
      ∗ ⌜∀ ι : S640x960.Idx, (ι 0).val / 16 % 5 < k → arg15.view.read (Elt F) f ι = XV ((ι 0).val / 16 % 5) (16 * ((ι 0).val / 80) + (ι 0).val % 16) (ι 1).val⌝))

theorem trip2 (hX : ∀ (k : Fin k0_t2_loop.trips) (x : S128x960.Idx), k0_pay2 (F := F) arg0 v2 0#32 1#32 k
      (View.readAt (Elt F) arg7.view (Rect.unit (s := S3x640) (k0_off3 k) S1x128.size (k0_off3_inb k)).toLoadRect X7)
      (View.readAt (Elt F) arg7.view (Rect.unit (s := S3x640) (k0_off4 k) S1x128.size (k0_off4_inb k)).toLoadRect X7)
      (View.readAt (Elt F) arg7.view (Rect.unit (s := S3x640) (k0_off5 k) S1x128.size (k0_off5_inb k)).toLoadRect X7)
      (View.readAt (Elt F) arg2.view (Rect.unit (s := S1x640x960) (k0_off6 k) S1x128x960.size (k0_off6_inb k)).toLoadRect X2) x = XV k.val (x 0).val (x 1).val)
    (k : Fin k0_t2_loop.trips) :
    PermuteInv (F := F) arg2 arg7 arg15 c X2 X7 XV k.val
      ⊢ wp frame (wpE (defs₀ (F := F)) 𝒱₀ (c : Thread nD τ) none) Set.univ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v2 k ())
        (fun _ => PermuteInv (F := F) arg2 arg7 arg15 c X2 X7 XV (k.val + 1)) := by
  have hk : k.val < 5 := Nat.lt_of_lt_of_le k.isLt k0_t2_abs.2.1
  unfold PermuteInv k0_t2_body
  iintro ⟨H2, H7, ⟨%f15, H15, %h15⟩⟩
  sl_exec
  sl_step
  isplitl [H2]; · iexact H2
  isplitl [H7]; · iexact H7
  iexists _
  isplitl [H15]; · iexact H15
  ipureintro
  intro ι hι
  have hι0 : (ι 0).val < 640 := (ι 0).isLt
  refine (pair_step f15 k 7 (XV k.val) _ _ (slice16 112 _ _ _ (hX k)) _ ι).trans ?_
  refine Eq.trans (if_congr Iff.rfl rfl (pair_step f15 k 6 (XV k.val) _ _ (slice16 96 _ _ _ (hX k)) _ ι)) ?_
  refine Eq.trans (if_congr Iff.rfl rfl (if_congr Iff.rfl rfl (pair_step f15 k 5 (XV k.val) _ _ (slice16 80 _ _ _ (hX k)) _ ι))) ?_
  refine Eq.trans (if_congr Iff.rfl rfl (if_congr Iff.rfl rfl (if_congr Iff.rfl rfl (pair_step f15 k 4 (XV k.val) _ _ (slice16 64 _ _ _ (hX k)) _ ι)))) ?_
  refine Eq.trans (if_congr Iff.rfl rfl (if_congr Iff.rfl rfl (if_congr Iff.rfl rfl (if_congr Iff.rfl rfl (pair_step f15 k 3 (XV k.val) _ _ (slice16 48 _ _ _ (hX k)) _ ι))))) ?_
  refine Eq.trans (if_congr Iff.rfl rfl (if_congr Iff.rfl rfl (if_congr Iff.rfl rfl (if_congr Iff.rfl rfl (if_congr Iff.rfl rfl (pair_step f15 k 2 (XV k.val) _ _ (slice16 32 _ _ _ (hX k)) _ ι)))))) ?_
  refine Eq.trans (if_congr Iff.rfl rfl (if_congr Iff.rfl rfl (if_congr Iff.rfl rfl (if_congr Iff.rfl rfl (if_congr Iff.rfl rfl (if_congr Iff.rfl rfl (pair_step f15 k 1 (XV k.val) _ _ (slice16 16 _ _ _ (hX k)) _ ι))))))) ?_
  refine Eq.trans (if_congr Iff.rfl rfl (if_congr Iff.rfl rfl (if_congr Iff.rfl rfl (if_congr Iff.rfl rfl (if_congr Iff.rfl rfl (if_congr Iff.rfl rfl (if_congr Iff.rfl rfl (pair_step f15 k 0 (XV k.val) _ _ (slice16 0 _ _ _ (hX k)) _ ι)))))))) ?_
  rw [View.writes_nil]
  have key : ∀ p : ℕ, p < 8 → (ι 0).val / 16 = 5 * p + k.val → XV k.val (16 * p + (ι 0).val % 16) (ι 1).val = XV ((ι 0).val / 16 % 5) (16 * ((ι 0).val / 80) + (ι 0).val % 16) (ι 1).val := by
    intro p hp h
    have e1 : (ι 0).val / 16 % 5 = k.val := by omega
    have e2 : (ι 0).val / 80 = p := by omega
    rw [e1, e2]
  split; · exact key 7 (by decide) (by assumption)
  split; · exact key 6 (by decide) (by assumption)
  split; · exact key 5 (by decide) (by assumption)
  split; · exact key 4 (by decide) (by assumption)
  split; · exact key 3 (by decide) (by assumption)
  split; · exact key 2 (by decide) (by assumption)
  split; · exact key 1 (by decide) (by assumption)
  split; · exact key 0 (by decide) (by assumption)
  rename_i n7 n6 n5 n4 n3 n2 n1 n0
  refine h15 ι ?_
  have a7 : ¬ (ι 0).val / 16 = 5 * 7 + k.val := n7
  have a6 : ¬ (ι 0).val / 16 = 5 * 6 + k.val := n6
  have a5 : ¬ (ι 0).val / 16 = 5 * 5 + k.val := n5
  have a4 : ¬ (ι 0).val / 16 = 5 * 4 + k.val := n4
  have a3 : ¬ (ι 0).val / 16 = 5 * 3 + k.val := n3
  have a2 : ¬ (ι 0).val / 16 = 5 * 2 + k.val := n2
  have a1 : ¬ (ι 0).val / 16 = 5 * 1 + k.val := n1
  have a0 : ¬ (ι 0).val / 16 = 5 * 0 + k.val := n0
  clear n7 n6 n5 n4 n3 n2 n1 n0 key h15
  omega

@[instance_reducible] def loopInv2 (hX : ∀ (k : Fin k0_t2_loop.trips) (x : S128x960.Idx), k0_pay2 (F := F) arg0 v2 0#32 1#32 k
      (View.readAt (Elt F) arg7.view (Rect.unit (s := S3x640) (k0_off3 k) S1x128.size (k0_off3_inb k)).toLoadRect X7)
      (View.readAt (Elt F) arg7.view (Rect.unit (s := S3x640) (k0_off4 k) S1x128.size (k0_off4_inb k)).toLoadRect X7)
      (View.readAt (Elt F) arg7.view (Rect.unit (s := S3x640) (k0_off5 k) S1x128.size (k0_off5_inb k)).toLoadRect X7)
      (View.readAt (Elt F) arg2.view (Rect.unit (s := S1x640x960) (k0_off6 k) S1x128x960.size (k0_off6_inb k)).toLoadRect X2) x = XV k.val (x 0).val (x 1).val) :
    Gen.LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v2 where
  inv k _ := PermuteInv (F := F) arg2 arg7 arg15 c X2 X7 XV k
  step k _ := trip2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v2 c X2 X7 XV hX k
end

end Cert.KernelIdeal.Hand
end
-- ==== Proof.Spec.lean ====
/- The order in which the kernel keeps the rows. -/
module

public import Mathlib.Algebra.BigOperators.Ring.Finset
public import Mathlib.Algebra.BigOperators.Group.Finset.Sigma
public import Mathlib.Data.EReal.Basic
public import Mathlib.Tactic.Ring

@[expose] public section

namespace Cert.Spec

open Finset

/-- The row that the kernel keeps in lane `q` (pairs of slices dealt round the windows). -/
def rowOf (q : ℕ) : ℕ := 128 * (q / 16 % 5) + 16 * (q / 16 / 5) + q % 16

theorem rowOf_lt {q : ℕ} (h : q < 640) : rowOf q < 640 := by unfold rowOf; omega

/-- Reordering the rows by lanes changes no sum. -/
theorem sum_rowOf {M : Type} [AddCommMonoid M] (f : ℕ → M) : ∑ q ∈ range 640, f (rowOf q) = ∑ r ∈ range 640, f r := by
  refine sum_nbij' rowOf (fun r => 16 * (5 * (r % 128 / 16) + r / 128) + r % 16) ?_ ?_ ?_ ?_ ?_
  · intro q hq; exact mem_range.mpr (rowOf_lt (mem_range.mp hq))
  · intro r hr; simp only [mem_range] at hr ⊢; omega
  · intro q hq; simp only [mem_range] at hq; unfold rowOf; omega
  · intro r hr; simp only [mem_range] at hr; unfold rowOf; omega
  · intro q _; rfl

end Cert.Spec
-- ==== Proof.KernelIdeal.Lanes.lean ====
/- The row lengths and the scales as the kernel deals them to its lanes. -/
module

public import proofs.«01_k».proof.Proof.Gen.KernelIdeal
public import Idealize.ShloMosaic.Lib.VecWindow
public import Idealize.ShloMosaic.Lib.WritesUnit
public import Idealize.ShloMosaic.Lib.Pipeline.Value
public import proofs.«01_k».proof.Proof.KernelIdeal.Chunk
public import proofs.«01_k».proof.Proof.Spec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- Entry `q` of a per-row table of batch `b` in the kernel's order of lanes. -/
def laneV {α : Type} (x : S3x640.Idx → α) (b q : ℕ) : α := x (ValueIdx.ix2 (Fin.ofNat 3 b) (Fin.ofNat 640 (Cert.Spec.rowOf q)))

theorem row_read {e : EltTy} {m : Memref sig .tc .vmem S3x640 e} (hm : m.IsWhole) (x : S3x640.Idx → Elt F e) (r W : ℕ) (hr : r < 3) (hW : W + 128 ≤ 640) (inb) (z : S1x128.Idx) :
    View.readAt (Elt F) m.view (Rect.unit (s := S3x640) ![r, W] S1x128.size inb).toLoadRect (hm.unread x) z = x (ValueIdx.ix2 ⟨r, hr⟩ ⟨W + (z 1).val, by have : (z 1).val < 128 := (z 1).isLt; omega⟩) := by
  refine (congrFun (hm.read_unread x) _).trans (congrArg x (funext (Fin.forall_fin_two.mpr ⟨Fin.ext ?_, Fin.ext ?_⟩)))
  · show r + 1 * (z 0).val = r
    have : (z 0).val < 1 := (z 0).isLt
    omega
  · show W + 1 * (z 1).val = W + (z 1).val; omega

/-- One pair's sixteen entries: the batch's row of the window, cut at the pair. -/
theorem batch_part {e : EltTy} {m : Memref sig .tc .vmem S3x640 e} (hm : m.IsWhole) (x : S3x640.Idx → Elt F e) (b : ℕ) (hb : b < 3) (W o n : ℕ) (hW : W + 128 ≤ 640) (ho : o + 16 ≤ 128)
    (i0) (i1) (i2) (hs : S1x128.Slices ![0, o] S1x16) (hr : ∀ t, t < 16 → Cert.Spec.rowOf (n + t) = W + o + t) (y : S1x16.Idx) :
    extractStridedSlice (s := S1x128) S1x16 ![0, o] (Scalar.select (Scalar.cmpi .eq (BitVec.ofNat 32 b) 2#32) (View.readAt (Elt F) m.view (Rect.unit (s := S3x640) ![2, W] S1x128.size i2).toLoadRect (hm.unread x))
      (Scalar.select (Scalar.cmpi .eq (BitVec.ofNat 32 b) 1#32) (View.readAt (Elt F) m.view (Rect.unit (s := S3x640) ![1, W] S1x128.size i1).toLoadRect (hm.unread x))
        (View.readAt (Elt F) m.view (Rect.unit (s := S3x640) ![0, W] S1x128.size i0).toLoadRect (hm.unread x)))) hs y = laneV x b (n + (y 1).val) := by
  have hy : (y 1).val < 16 := (y 1).isLt
  let z : S1x128.Idx := ValueIdx.ix2 (0 : Fin 1) ⟨o + (y 1).val, by omega⟩
  refine (extractStridedSlice_apply _ _ hs y z (Fin.forall_fin_two.mpr ⟨?_, ?_⟩)).trans ?_
  · show 0 = 0 + (y 0).val
    have : (y 0).val < 1 := (y 0).isLt
    omega
  · rfl
  have key : ∀ r (hr3 : r < 3), r = b → x (ValueIdx.ix2 ⟨r, hr3⟩ ⟨W + (o + (y 1).val), by omega⟩) = laneV x b (n + (y 1).val) := by
    intro r hr3 e
    subst e
    unfold laneV
    rw [hr _ hy]
    refine congrArg x (congrArg₂ ValueIdx.ix2 (Fin.ext ?_) (Fin.ext ?_))
    · show r = r % 3; omega
    · show W + (o + (y 1).val) = (W + o + (y 1).val) % 640; omega
  have hc : b = 0 ∨ b = 1 ∨ b = 2 := by omega
  rcases hc with h | h | h
  · subst h; exact (row_read hm x 0 W (by decide) hW i0 z).trans (key 0 (by decide) rfl)
  · subst h; exact (row_read hm x 1 W (by decide) hW i1 z).trans (key 1 (by decide) rfl)
  · subst h; exact (row_read hm x 2 W (by decide) hW i2 z).trans (key 2 (by decide) rfl)

/-- Eight pairs side by side. -/
theorem lanes8 {α : Type} (a0 a1 a2 a3 a4 a5 a6 a7 : S1x16.Idx → α) (h) (V : ℕ → α) (n : ℕ)
    (h0 : ∀ y, a0 y = V (n + 0 + (y 1).val)) (h1 : ∀ y, a1 y = V (n + 16 + (y 1).val)) (h2 : ∀ y, a2 y = V (n + 32 + (y 1).val)) (h3 : ∀ y, a3 y = V (n + 48 + (y 1).val))
    (h4 : ∀ y, a4 y = V (n + 64 + (y 1).val)) (h5 : ∀ y, a5 y = V (n + 80 + (y 1).val)) (h6 : ∀ y, a6 y = V (n + 96 + (y 1).val)) (h7 : ∀ y, a7 y = V (n + 112 + (y 1).val)) (l : S1x128.Idx) :
    concatenate S1x128 1 [⟨S1x16, a0⟩, ⟨S1x16, a1⟩, ⟨S1x16, a2⟩, ⟨S1x16, a3⟩, ⟨S1x16, a4⟩, ⟨S1x16, a5⟩, ⟨S1x16, a6⟩, ⟨S1x16, a7⟩] h l = V (n + (l 1).val) := by
  have hl : (l 1).val < 128 := (l 1).isLt
  refine (concatenate_ofFn_apply (s₁ := S1x16) (t := S1x128) 1 (![a0, a1, a2, a3, a4, a5, a6, a7] : Fin 8 → S1x16.Idx → α) h rfl 16 rfl l ⟨(l 1).val / 16, by omega⟩ rfl
    (ValueIdx.ix2 ⟨(l 0).val, (l 0).isLt⟩ ⟨(l 1).val % 16, Nat.mod_lt _ (by decide)⟩) rfl ?_).trans ?_
  · intro b hb
    fin_cases b
    · rfl
    · exact absurd rfl hb
  have hp : ∀ (p : Fin 8) (y : S1x16.Idx), (![a0, a1, a2, a3, a4, a5, a6, a7] : Fin 8 → S1x16.Idx → α) p y = V (n + 16 * p.val + (y 1).val) := by
    intro p y
    fin_cases p
    · exact h0 y
    · exact h1 y
    · exact h2 y
    · exact h3 y
    · exact h4 y
    · exact h5 y
    · exact h6 y
    · exact h7 y
  rw [hp]
  show V (n + 16 * ((l 1).val / 16) + (l 1).val % 16) = _
  rw [show n + 16 * ((l 1).val / 16) + (l 1).val % 16 = n + (l 1).val by omega]

/-- The group's row of the five. -/
theorem group_sel {α : Type} (V : ℕ → α) (r0 r1 r2 r3 r4 : S1x128.Idx → α) (h0 : ∀ l, r0 l = V (0 + (l 1).val)) (h1 : ∀ l, r1 l = V (128 + (l 1).val)) (h2 : ∀ l, r2 l = V (256 + (l 1).val))
    (h3 : ∀ l, r3 l = V (384 + (l 1).val)) (h4 : ∀ l, r4 l = V (512 + (l 1).val)) (g : Fin k0_t3_loop.trips) (l : S1x128.Idx) :
    (Scalar.select (Scalar.cmpi .eq (Scf.iv 0#32 1#32 g) 4#32) r4 (Scalar.select (Scalar.cmpi .eq (Scf.iv 0#32 1#32 g) 3#32) r3 (Scalar.select (Scalar.cmpi .eq (Scf.iv 0#32 1#32 g) 2#32) r2
      (Scalar.select (Scalar.cmpi .eq (Scf.iv 0#32 1#32 g) 1#32) r1 r0)))) l = V (128 * g.val + (l 1).val) := by
  have hg : g.val < 5 := Nat.lt_of_lt_of_le g.isLt k0_t3_abs.2.1
  obtain ⟨g, hgt⟩ := g
  have hc : g = 0 ∨ g = 1 ∨ g = 2 ∨ g = 3 ∨ g = 4 := by simp only at hg; omega
  rcases hc with h | h | h | h | h
  · subst h; exact h0 l
  · subst h; exact h1 l
  · subst h; exact h2 l
  · subst h; exact h3 l
  · subst h; exact h4 l

end Cert.KernelIdeal.Hand
end
-- ==== Proof.KernelIdeal.Points.lean ====
/- The schedule of the pallas_call on its grid: when each window is fetched and written back, and the body as the pipeline calls it. -/
module

public import proofs.«01_k».proof.Proof.Gen.KernelIdeal
public import Idealize.ShloMosaic.Lib.Pipeline.Kit

@[expose] public section

noncomputable section

namespace Cert.KernelIdeal.Hand

open Idealize.ShloMosaic Idealize.ShloMosaic.TcCoe
open Cert.KernelIdeal Cert.KernelIdeal.Gen
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 2 (%0)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 3 (%arg2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg3)) is fetched at the first point only, at any contents of the tables (its index map reads none). -/
theorem fetch0_3 (a : (pcfg0 (F := F)).Adm) : ∀ t : Fin (cfg0 a).N, ((cfg0 a).win 3).fetch t = true ↔ t.val % 3 = 0 :=
  (fun t => Pipeline.Window.fetchOf_const cc0_transform_3 (fun _ _ => rfl) (n := 3) (by decide) t : ∀ t : Fin grid0.N, Pipeline.Window.fetchOf grid0 false cc0_transform_3 t = true ↔ t.val % 3 = 0)
/-- Window 4 (operand 5 (%arg4)) is fetched at the first point only, at any contents of the tables (its index map reads none). -/
theorem fetch0_4 (a : (pcfg0 (F := F)).Adm) : ∀ t : Fin (cfg0 a).N, ((cfg0 a).win 4).fetch t = true ↔ t.val % 3 = 0 :=
  (fun t => Pipeline.Window.fetchOf_const cc0_transform_4 (fun _ _ => rfl) (n := 3) (by decide) t : ∀ t : Fin grid0.N, Pipeline.Window.fetchOf grid0 false cc0_transform_4 t = true ↔ t.val % 3 = 0)
/-- Window 5 (operand 6 (%arg6)) is fetched at the first point only, at any contents of the tables (its index map reads none). -/
theorem fetch0_5 (a : (pcfg0 (F := F)).Adm) : ∀ t : Fin (cfg0 a).N, ((cfg0 a).win 5).fetch t = true ↔ t.val % 3 = 0 :=
  (fun t => Pipeline.Window.fetchOf_const cc0_transform_5 (fun _ _ => rfl) (n := 3) (by decide) t : ∀ t : Fin grid0.N, Pipeline.Window.fetchOf grid0 false cc0_transform_5 t = true ↔ t.val % 3 = 0)
/-- Window 6 (result 0 (%1)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_spmm_t (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)

end Cert.KernelIdeal.Hand

end
-- ==== Proof.KernelIdeal.Runs.lean ====
/- What the launch is stated over: the buffers at the entry of the pallas_call, the table, the windows' blocks, the memrefs the body is handed. -/
module

public import proofs.«01_k».proof.Proof.Gen.KernelIdeal.Launch
public import proofs.«01_k».proof.Proof.Gen.KernelIdeal.Skeleton
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3x81 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (by decide : main_arg5 ∈ Pipeline.restRefs sig spec0)).trans (V_main_arg5 m c),
      ((h c).1 5).trans (((dats 0 c).arrAt_in 5 rfl _).trans ((hA c 5).trans (V_main_arg6 m c)))⟩) h

/-! ## The kernel body on any staging memrefs: a subtype the run finds -/

/-- One staging buffer of output window 6, through which its contents are stated (`View.read_writes_of_cover`: the
    choice does not matter). -/
abbrev VO0_6 : View sig .tc .vmem S1x640x960 .bf16 := (Memref.whole cc0_stg6_0 : Memref sig .tc .vmem S1x640x960 .bf16).view
/-- Each window's current staging memref at point `t`, spelled as the pipeline passes it (`bodyAt0`), and its wholeness. -/
abbrev ms0_0 (hO : Ok m) (t : Fin (cfgM m hO).N) : Memref sig .tc .vmem S1x640x960 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x4480x8 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x4480x8 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S3x640 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S3x640 .i32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S3x640 .i32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x640x960 .bf16 := spec0_6.stage ((cfgM m hO).slots t 6)
abbrev hs0_6 (hO : Ok m) (t : Fin (cfgM m hO).N) : (ms0_6 m hO t).IsWhole := hstage0_6 (((cfgM m hO).slots t 6).cast nbuf0_6)
/-- The scratch operands: whole scoped buffers of the kernel's own, passed beside the windows. -/
abbrev scM0_0 : Memref sig .tc .vmem S8x4480 .f32 := Memref.whole cc0_scratch0
abbrev scM0_1 : Memref sig .tc .vmem S8x4480 .i32 := Memref.whole cc0_scratch1
abbrev scM0_2 : Memref sig .tc .vmem S128x128 .f32 := Memref.whole cc0_scratch2
abbrev scM0_3 : Memref sig .tc .vmem S128x128 .i32 := Memref.whole cc0_scratch3
abbrev scM0_4 : Memref sig .tc .vmem S128x128 .f32 := Memref.whole cc0_scratch4
abbrev scM0_5 : Memref sig .tc .vmem S128x128 .i32 := Memref.whole cc0_scratch5
abbrev scM0_6 : Memref sig .tc .vmem S640x960 .bf16 := Memref.whole cc0_scratch6
abbrev scM0_7 : Memref sig .tc .vmem S3x640x640 .bf16 := Memref.whole cc0_scratch7
abbrev scM0_8 : Memref sig .tc .vmem S640x960 .f32 := Memref.whole cc0_scratch8
abbrev scM0_9 : Memref sig .tc .vmem S8x128 .f32 := Memref.whole cc0_scratch9

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.KernelIdeal.Hand

end
-- ==== Proof.KernelIdeal.Body.lean ====
/- The body of the kernel at one grid point, on any staging buffers. -/
module

public import proofs.«01_k».proof.Proof.KernelIdeal.Group
public import proofs.«01_k».proof.Proof.KernelIdeal.Unpack
public import proofs.«01_k».proof.Proof.KernelIdeal.Lanes
public import proofs.«01_k».proof.Proof.KernelIdeal.Runs
public import Idealize.ShloMosaic.Lib.Updates.Memory
public import Idealize.ShloMosaic.Lib.Updates.Own

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- One of the three parts of the matrix. -/
def plane (AT : S3x640x640.Idx → F .bf16) (p : Fin 3) : S1x640x640.Idx → F .bf16 := fun x => AT (ValueIdx.ix3 p ⟨(x 1).val, (x 1).isLt⟩ ⟨(x 2).val, (x 2).isLt⟩)

/-- What the body stores: the product of the matrix's parts with the permuted operand, with or without the third part. -/
def OutIs (AV : ℕ → ℕ → F .f32) (XV : ℕ → ℕ → ℕ → F .bf16) (d : S1x640x960.Idx → F .bf16) : Prop :=
  ∃ (AT : S3x640x640.Idx → F .bf16) (XP : S640x960.Idx → F .bf16), AtDone AV 5 0 AT
    ∧ (∀ ι, XP ι = XV ((ι 0).val / 16 % 5) (16 * ((ι 0).val / 80) + (ι 0).val % 16) (ι 1).val)
    ∧ (d = k0_pay1 (k0_pay527 XP (plane AT 0) (plane AT 1)) ∨ d = k0_pay1 (k0_pay529 (k0_pay527 XP (plane AT 0) (plane AT 1)) (plane AT 2) XP))

theorem whole_write {m : Memref sig .tc .vmem S640x960 .f32} (f : BufTy.Contents (Elt F) m.view.ty) (w : S640x960.Idx → F .f32) (L : List (View.Piece (Elt F) S640x960 .f32)) (inb) :
    View.readAt (Elt F) m.view (Rect.unit (s := S640x960) ![0, 0] S640x960.size inb).toLoadRect (m.view.writes (Elt F) f (⟨Rect.unit (s := S640x960) ![0, 0] S640x960.size inb, w⟩ :: L)) = w := by
  funext x
  refine View.read_writes_cons_unit_of_mem _ _ _ _ _ _ x rfl (Fin.forall_fin_two.mpr ⟨?_, ?_⟩)
  · show 0 + 1 * (x 0).val = 0 + (x 0).val; omega
  · show 0 + 1 * (x 1).val = 0 + (x 1).val; omega

theorem whole_stored {s : Shape} {e : EltTy} {m : Memref sig .tc .vmem s e} (f : BufTy.Contents (Elt F) m.view.ty) (off : Fin s.rank → ℕ) (hoff : off = fun _ => 0) (w : s.Idx → Elt F e) (L : List (View.Piece (Elt F) s e)) (inb) :
    m.view.read (Elt F) (m.view.writes (Elt F) f (⟨Rect.unit (s := s) off s.size inb, w⟩ :: L)) = w :=
  funext fun x => View.read_writes_cons_unit_of_mem (v := m.view) (f := f) (off := off) (off' := fun _ => 0) (size := s.size) inb w L x x hoff fun a => (Nat.zero_add _).symm

theorem zero3 : (![0, 0, 0] : Fin 3 → ℕ) = fun _ => 0 := by decide

theorem plane_read {m : Memref sig .tc .vmem S3x640x640 .bf16} (f : BufTy.Contents (Elt F) m.view.ty) (p : ℕ) (hp : p < 3) (inb) :
    View.readAt (Elt F) m.view (Rect.unit (s := S3x640x640) ![p, 0, 0] S1x640x640.size inb).toLoadRect f = plane (m.view.read (Elt F) f) ⟨p, hp⟩ := by
  funext x
  refine congrArg (m.view.read (Elt F) f) (funext fun a => Fin.ext ?_)
  have h0 : (x 0).val < 1 := (x 0).isLt
  fin_cases a
  · show p + 1 * (x 0).val = p; omega
  · show 0 + 1 * (x 1).val = (x 1).val; omega
  · show 0 + 1 * (x 2).val = (x 2).val; omega

theorem whole_read {e : EltTy} {m : Memref sig .tc .vmem S640x960 e} (f : BufTy.Contents (Elt F) m.view.ty) (inb) :
    View.readAt (Elt F) m.view (Rect.unit (s := S640x960) ![0, 0] S640x960.size inb).toLoadRect f = m.view.read (Elt F) f := by
  funext x
  refine congrArg (m.view.read (Elt F) f) (funext (Fin.forall_fin_two.mpr ⟨Fin.ext ?_, Fin.ext ?_⟩))
  · show 0 + 1 * (x 0).val = (x 0).val; omega
  · show 0 + 1 * (x 1).val = (x 1).val; omega

section
variable (c : Dev nD) (i : grid0.Coords) (arg2 : Memref sig .tc .vmem S1x640x960 .bf16) (harg2 : arg2.IsWhole) (arg3 : Memref sig .tc .vmem S1x4480x8 .fp8e4m3) (harg3 : arg3.IsWhole) (arg4 : Memref sig .tc .vmem S1x4480x8 .i32) (harg4 : arg4.IsWhole) (arg5 : Memref sig .tc .vmem S3x640 .f32) (harg5 : arg5.IsWhole) (arg6 : Memref sig .tc .vmem S3x640 .i32) (harg6 : arg6.IsWhole) (arg7 : Memref sig .tc .vmem S3x640 .i32) (harg7 : arg7.IsWhole) (arg8 : Memref sig .tc .vmem S1x640x960 .bf16) (harg8 : arg8.IsWhole) (arg9 : Memref sig .tc .vmem S8x4480 .f32) (harg9 : arg9.IsWhole) (arg10 : Memref sig .tc .vmem S8x4480 .i32) (harg10 : arg10.IsWhole) (arg11 : Memref sig .tc .vmem S128x128 .f32) (harg11 : arg11.IsWhole) (arg12 : Memref sig .tc .vmem S128x128 .i32) (harg12 : arg12.IsWhole) (arg13 : Memref sig .tc .vmem S128x128 .f32) (harg13 : arg13.IsWhole) (arg14 : Memref sig .tc .vmem S128x128 .i32) (harg14 : arg14.IsWhole) (arg15 : Memref sig .tc .vmem S640x960 .bf16) (harg15 : arg15.IsWhole) (arg16 : Memref sig .tc .vmem S3x640x640 .bf16) (harg16 : arg16.IsWhole) (arg17 : Memref sig .tc .vmem S640x960 .f32) (harg17 : arg17.IsWhole) (arg18 : Memref sig .tc .vmem S8x128 .f32) (harg18 : arg18.IsWhole)
  (x0 : Vec F S1x640x960 .bf16) (x1 : Vec F S1x4480x8 .fp8e4m3) (x2 : Vec F S1x4480x8 .i32) (x3 : Vec F S3x640 .f32) (x4 : Vec F S3x640 .i32) (x5 : Vec F S3x640 .i32) (xt0 : TbBuf0 (F := F) c tbM0_0)
  (P : ℕ → ℕ) (WV : ℕ → ℕ → Elt F .f32) (CV : ℕ → ℕ → Elt F .i32) (XV : ℕ → ℕ → ℕ → F .bf16)

set_option maxHeartbeats 4000000 in
/-- The body terminates without a fault from any contents, whenever the table's row for this point lists the starts of well-formed
    slices; the inputs and the table are kept, and the output is the matrix times the permuted operand. -/
theorem run (hP : Starts P) (hF : Fits P (laneV x4 (i 0).val))
    (h3 : ∀ (k : Fin k0_t1_loop.trips) (x : S8x128.Idx), k0_pay444 (F := F) (View.readAt (Elt F) arg3.view (Rect.unit (s := S1x4480x8) (k0_off1 k) S1x128x8.size (k0_off1_inb k)).toLoadRect (harg3.unread x1)) x = WV (x 0).val (128 * k.val + (x 1).val))
    (h4 : ∀ (k : Fin k0_t1_loop.trips) (x : S8x128.Idx), k0_pay445 (F := F) (View.readAt (Elt F) arg4.view (Rect.unit (s := S1x4480x8) (k0_off1 k) S1x128x8.size (k0_off1_inb k)).toLoadRect (harg4.unread x2)) x = CV (x 0).val (128 * k.val + (x 1).val))
    (hX : ∀ (k : Fin k0_t2_loop.trips) (x : S128x960.Idx), k0_pay2 (F := F) (BitVec.ofNat 32 (i 0).val) (iota .tc S128x128 32 [0] iota_S128x128_d0_w32) 0#32 1#32 k
      (View.readAt (Elt F) arg7.view (Rect.unit (s := S3x640) (k0_off3 k) S1x128.size (k0_off3_inb k)).toLoadRect (harg7.unread x5))
      (View.readAt (Elt F) arg7.view (Rect.unit (s := S3x640) (k0_off4 k) S1x128.size (k0_off4_inb k)).toLoadRect (harg7.unread x5))
      (View.readAt (Elt F) arg7.view (Rect.unit (s := S3x640) (k0_off5 k) S1x128.size (k0_off5_inb k)).toLoadRect (harg7.unread x5))
      (View.readAt (Elt F) arg2.view (Rect.unit (s := S1x640x960) (k0_off6 k) S1x128x960.size (k0_off6_inb k)).toLoadRect (harg2.unread x0)) x = XV k.val (x 0).val (x 1).val)
    (h1 : ∀ ι : S3x81.Idx, (ι 0).val = (i 0).val → tbM0_0.view.read (Elt F) xt0 ι = BitVec.ofNat 32 (P (ι 1).val)) (K : PUnit → sProp 𝕄G) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, ⌜OutIs (matAt P (fun j l => WV (j % 8) (l % 4480)) (fun j l => CV (j % 8) (l % 4480)) (laneV x4 (i 0).val) (laneV x3 (i 0).val)) XV d⌝ ∗ owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ tbPt0 c tbM0_0 xt0) -∗ K ⟨⟩))
      ⊢ wp frame (wpE (defs₀ (F := F)) 𝒱₀ c none) Set.univ (cc0_spmm_t i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_spmm_t_eq_skeleton]; unfold cc0_spmm_t_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, HT0, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  let L1 := loopInv1 (F := F) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c (harg3.unread x1) (harg4.unread x2) WV CV h3 h4
  let L2 := loopInv2 (F := F) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (iota .tc S128x128 32 [0] iota_S128x128_d0_w32) c (harg2.unread x0) (harg7.unread x5) XV hX
  sl_exec
  have hv0 : ∀ ι, run.sl.v0 ι = BitVec.ofNat 32 (ι 1).val := fun ι => congrArg (BitVec.ofNat 32) (by show 0 * 128 + (ι 1).val = (ι 1).val; omega)
  have hRL : ∀ (g : Fin k0_t3_loop.trips) (l : S1x128.Idx), k0_pay441 (run.sl.v393 c i arg6 harg6 x4) (run.sl.v458 c i arg6 harg6 x4) (run.sl.v523 c i arg6 harg6 x4) (run.sl.v588 c i arg6 harg6 x4) (k0_pay519 (F := F) (BitVec.ofNat 32 (i 0).val) (run.sl.v596 c i arg6 harg6 x4) (run.sl.v604 c i arg6 harg6 x4) (run.sl.v612 c i arg6 harg6 x4) (run.sl.v620 c i arg6 harg6 x4) (run.sl.v628 c i arg6 harg6 x4) (run.sl.r_6 c arg6 harg6 x4) (1#32) (View.readAt (Elt F) arg6.view (Rect.unit (s := S3x640) ![1, 256] S1x128.size inb_S3x640_S1x128_1_256).toLoadRect (harg6.unread x4)) (View.readAt (Elt F) arg6.view (Rect.unit (s := S3x640) ![2, 256] S1x128.size inb_S3x640_S1x128_2_256).toLoadRect (harg6.unread x4)) (View.readAt (Elt F) arg6.view (Rect.unit (s := S3x640) ![0, 384] S1x128.size inb_S3x640_S1x128_0_384).toLoadRect (harg6.unread x4)) (View.readAt (Elt F) arg6.view (Rect.unit (s := S3x640) ![1, 384] S1x128.size inb_S3x640_S1x128_1_384).toLoadRect (harg6.unread x4)) (View.readAt (Elt F) arg6.view (Rect.unit (s := S3x640) ![2, 384] S1x128.size inb_S3x640_S1x128_2_384).toLoadRect (harg6.unread x4)) (View.readAt (Elt F) arg6.view (Rect.unit (s := S3x640) ![0, 512] S1x128.size inb_S3x640_S1x128_0_512).toLoadRect (harg6.unread x4)) (View.readAt (Elt F) arg6.view (Rect.unit (s := S3x640) ![1, 512] S1x128.size inb_S3x640_S1x128_1_512).toLoadRect (harg6.unread x4)) (View.readAt (Elt F) arg6.view (Rect.unit (s := S3x640) ![2, 512] S1x128.size inb_S3x640_S1x128_2_512).toLoadRect (harg6.unread x4))) 0#32 1#32 g l = laneV x4 (i 0).val (128 * g.val + (l 1).val) := by
    intro g l
    refine group_sel (laneV x4 (i 0).val) _ _ _ _ _ ?_ ?_ ?_ ?_ ?_ g l
    · intro l
      refine lanes8 _ _ _ _ _ _ _ _ concatenates_S1x16_S1x16_S1x16_S1x16_S1x16_S1x16_S1x16_S1x16_S1x128_d1 (laneV x4 (i 0).val) 0 ?_ ?_ ?_ ?_ ?_ ?_ ?_ ?_ l
      · exact fun y => batch_part harg6 x4 (i 0).val (i 0).isLt 0 0 0 (by decide) (by decide) _ _ _ slices_S1x128_o0_0_S1x16 (by intro t ht; unfold Cert.Spec.rowOf; omega) y
      · exact fun y => batch_part harg6 x4 (i 0).val (i 0).isLt 128 0 16 (by decide) (by decide) _ _ _ slices_S1x128_o0_0_S1x16 (by intro t ht; unfold Cert.Spec.rowOf; omega) y
      · exact fun y => batch_part harg6 x4 (i 0).val (i 0).isLt 256 0 32 (by decide) (by decide) _ _ _ slices_S1x128_o0_0_S1x16 (by intro t ht; unfold Cert.Spec.rowOf; omega) y
      · exact fun y => batch_part harg6 x4 (i 0).val (i 0).isLt 384 0 48 (by decide) (by decide) _ _ _ slices_S1x128_o0_0_S1x16 (by intro t ht; unfold Cert.Spec.rowOf; omega) y
      · exact fun y => batch_part harg6 x4 (i 0).val (i 0).isLt 512 0 64 (by decide) (by decide) _ _ _ slices_S1x128_o0_0_S1x16 (by intro t ht; unfold Cert.Spec.rowOf; omega) y
      · exact fun y => batch_part harg6 x4 (i 0).val (i 0).isLt 0 16 80 (by decide) (by decide) _ _ _ slices_S1x128_o0_16_S1x16 (by intro t ht; unfold Cert.Spec.rowOf; omega) y
      · exact fun y => batch_part harg6 x4 (i 0).val (i 0).isLt 128 16 96 (by decide) (by decide) _ _ _ slices_S1x128_o0_16_S1x16 (by intro t ht; unfold Cert.Spec.rowOf; omega) y
      · exact fun y => batch_part harg6 x4 (i 0).val (i 0).isLt 256 16 112 (by decide) (by decide) _ _ _ slices_S1x128_o0_16_S1x16 (by intro t ht; unfold Cert.Spec.rowOf; omega) y
    · intro l
      refine lanes8 _ _ _ _ _ _ _ _ concatenates_S1x16_S1x16_S1x16_S1x16_S1x16_S1x16_S1x16_S1x16_S1x128_d1 (laneV x4 (i 0).val) 128 ?_ ?_ ?_ ?_ ?_ ?_ ?_ ?_ l
      · exact fun y => batch_part harg6 x4 (i 0).val (i 0).isLt 384 16 128 (by decide) (by decide) _ _ _ slices_S1x128_o0_16_S1x16 (by intro t ht; unfold Cert.Spec.rowOf; omega) y
      · exact fun y => batch_part harg6 x4 (i 0).val (i 0).isLt 512 16 144 (by decide) (by decide) _ _ _ slices_S1x128_o0_16_S1x16 (by intro t ht; unfold Cert.Spec.rowOf; omega) y
      · exact fun y => batch_part harg6 x4 (i 0).val (i 0).isLt 0 32 160 (by decide) (by decide) _ _ _ slices_S1x128_o0_32_S1x16 (by intro t ht; unfold Cert.Spec.rowOf; omega) y
      · exact fun y => batch_part harg6 x4 (i 0).val (i 0).isLt 128 32 176 (by decide) (by decide) _ _ _ slices_S1x128_o0_32_S1x16 (by intro t ht; unfold Cert.Spec.rowOf; omega) y
      · exact fun y => batch_part harg6 x4 (i 0).val (i 0).isLt 256 32 192 (by decide) (by decide) _ _ _ slices_S1x128_o0_32_S1x16 (by intro t ht; unfold Cert.Spec.rowOf; omega) y
      · exact fun y => batch_part harg6 x4 (i 0).val (i 0).isLt 384 32 208 (by decide) (by decide) _ _ _ slices_S1x128_o0_32_S1x16 (by intro t ht; unfold Cert.Spec.rowOf; omega) y
      · exact fun y => batch_part harg6 x4 (i 0).val (i 0).isLt 512 32 224 (by decide) (by decide) _ _ _ slices_S1x128_o0_32_S1x16 (by intro t ht; unfold Cert.Spec.rowOf; omega) y
      · exact fun y => batch_part harg6 x4 (i 0).val (i 0).isLt 0 48 240 (by decide) (by decide) _ _ _ slices_S1x128_o0_48_S1x16 (by intro t ht; unfold Cert.Spec.rowOf; omega) y
    · intro l
      refine lanes8 _ _ _ _ _ _ _ _ concatenates_S1x16_S1x16_S1x16_S1x16_S1x16_S1x16_S1x16_S1x16_S1x128_d1 (laneV x4 (i 0).val) 256 ?_ ?_ ?_ ?_ ?_ ?_ ?_ ?_ l
      · exact fun y => batch_part harg6 x4 (i 0).val (i 0).isLt 128 48 256 (by decide) (by decide) _ _ _ slices_S1x128_o0_48_S1x16 (by intro t ht; unfold Cert.Spec.rowOf; omega) y
      · exact fun y => batch_part harg6 x4 (i 0).val (i 0).isLt 256 48 272 (by decide) (by decide) _ _ _ slices_S1x128_o0_48_S1x16 (by intro t ht; unfold Cert.Spec.rowOf; omega) y
      · exact fun y => batch_part harg6 x4 (i 0).val (i 0).isLt 384 48 288 (by decide) (by decide) _ _ _ slices_S1x128_o0_48_S1x16 (by intro t ht; unfold Cert.Spec.rowOf; omega) y
      · exact fun y => batch_part harg6 x4 (i 0).val (i 0).isLt 512 48 304 (by decide) (by decide) _ _ _ slices_S1x128_o0_48_S1x16 (by intro t ht; unfold Cert.Spec.rowOf; omega) y
      · exact fun y => batch_part harg6 x4 (i 0).val (i 0).isLt 0 64 320 (by decide) (by decide) _ _ _ slices_S1x128_o0_64_S1x16 (by intro t ht; unfold Cert.Spec.rowOf; omega) y
      · exact fun y => batch_part harg6 x4 (i 0).val (i 0).isLt 128 64 336 (by decide) (by decide) _ _ _ slices_S1x128_o0_64_S1x16 (by intro t ht; unfold Cert.Spec.rowOf; omega) y
      · exact fun y => batch_part harg6 x4 (i 0).val (i 0).isLt 256 64 352 (by decide) (by decide) _ _ _ slices_S1x128_o0_64_S1x16 (by intro t ht; unfold Cert.Spec.rowOf; omega) y
      · exact fun y => batch_part harg6 x4 (i 0).val (i 0).isLt 384 64 368 (by decide) (by decide) _ _ _ slices_S1x128_o0_64_S1x16 (by intro t ht; unfold Cert.Spec.rowOf; omega) y
    · intro l
      refine lanes8 _ _ _ _ _ _ _ _ concatenates_S1x16_S1x16_S1x16_S1x16_S1x16_S1x16_S1x16_S1x16_S1x128_d1 (laneV x4 (i 0).val) 384 ?_ ?_ ?_ ?_ ?_ ?_ ?_ ?_ l
      · exact fun y => batch_part harg6 x4 (i 0).val (i 0).isLt 512 64 384 (by decide) (by decide) _ _ _ slices_S1x128_o0_64_S1x16 (by intro t ht; unfold Cert.Spec.rowOf; omega) y
      · exact fun y => batch_part harg6 x4 (i 0).val (i 0).isLt 0 80 400 (by decide) (by decide) _ _ _ slices_S1x128_o0_80_S1x16 (by intro t ht; unfold Cert.Spec.rowOf; omega) y
      · exact fun y => batch_part harg6 x4 (i 0).val (i 0).isLt 128 80 416 (by decide) (by decide) _ _ _ slices_S1x128_o0_80_S1x16 (by intro t ht; unfold Cert.Spec.rowOf; omega) y
      · exact fun y => batch_part harg6 x4 (i 0).val (i 0).isLt 256 80 432 (by decide) (by decide) _ _ _ slices_S1x128_o0_80_S1x16 (by intro t ht; unfold Cert.Spec.rowOf; omega) y
      · exact fun y => batch_part harg6 x4 (i 0).val (i 0).isLt 384 80 448 (by decide) (by decide) _ _ _ slices_S1x128_o0_80_S1x16 (by intro t ht; unfold Cert.Spec.rowOf; omega) y
      · exact fun y => batch_part harg6 x4 (i 0).val (i 0).isLt 512 80 464 (by decide) (by decide) _ _ _ slices_S1x128_o0_80_S1x16 (by intro t ht; unfold Cert.Spec.rowOf; omega) y
      · exact fun y => batch_part harg6 x4 (i 0).val (i 0).isLt 0 96 480 (by decide) (by decide) _ _ _ slices_S1x128_o0_96_S1x16 (by intro t ht; unfold Cert.Spec.rowOf; omega) y
      · exact fun y => batch_part harg6 x4 (i 0).val (i 0).isLt 128 96 496 (by decide) (by decide) _ _ _ slices_S1x128_o0_96_S1x16 (by intro t ht; unfold Cert.Spec.rowOf; omega) y
    · intro l
      refine lanes8 _ _ _ _ _ _ _ _ concatenates_S1x16_S1x16_S1x16_S1x16_S1x16_S1x16_S1x16_S1x16_S1x128_d1 (laneV x4 (i 0).val) 512 ?_ ?_ ?_ ?_ ?_ ?_ ?_ ?_ l
      · exact fun y => batch_part harg6 x4 (i 0).val (i 0).isLt 256 96 512 (by decide) (by decide) _ _ _ slices_S1x128_o0_96_S1x16 (by intro t ht; unfold Cert.Spec.rowOf; omega) y
      · exact fun y => batch_part harg6 x4 (i 0).val (i 0).isLt 384 96 528 (by decide) (by decide) _ _ _ slices_S1x128_o0_96_S1x16 (by intro t ht; unfold Cert.Spec.rowOf; omega) y
      · exact fun y => batch_part harg6 x4 (i 0).val (i 0).isLt 512 96 544 (by decide) (by decide) _ _ _ slices_S1x128_o0_96_S1x16 (by intro t ht; unfold Cert.Spec.rowOf; omega) y
      · exact fun y => batch_part harg6 x4 (i 0).val (i 0).isLt 0 112 560 (by decide) (by decide) _ _ _ slices_S1x128_o0_112_S1x16 (by intro t ht; unfold Cert.Spec.rowOf; omega) y
      · exact fun y => batch_part harg6 x4 (i 0).val (i 0).isLt 128 112 576 (by decide) (by decide) _ _ _ slices_S1x128_o0_112_S1x16 (by intro t ht; unfold Cert.Spec.rowOf; omega) y
      · exact fun y => batch_part harg6 x4 (i 0).val (i 0).isLt 256 112 592 (by decide) (by decide) _ _ _ slices_S1x128_o0_112_S1x16 (by intro t ht; unfold Cert.Spec.rowOf; omega) y
      · exact fun y => batch_part harg6 x4 (i 0).val (i 0).isLt 384 112 608 (by decide) (by decide) _ _ _ slices_S1x128_o0_112_S1x16 (by intro t ht; unfold Cert.Spec.rowOf; omega) y
      · exact fun y => batch_part harg6 x4 (i 0).val (i 0).isLt 512 112 624 (by decide) (by decide) _ _ _ slices_S1x128_o0_112_S1x16 (by intro t ht; unfold Cert.Spec.rowOf; omega) y
  have hSC : ∀ (g : Fin k0_t3_loop.trips) (l : S1x128.Idx), k0_pay442 (F := F) (run.sl.v68 c i arg5 harg5 x3) (run.sl.v133 c i arg5 harg5 x3) (run.sl.v198 c i arg5 harg5 x3) (run.sl.v263 c i arg5 harg5 x3) (run.sl.v328 c i arg5 harg5 x3) 0#32 1#32 g l = laneV x3 (i 0).val (128 * g.val + (l 1).val) := by
    intro g l
    refine group_sel (laneV x3 (i 0).val) _ _ _ _ _ ?_ ?_ ?_ ?_ ?_ g l
    · intro l
      refine lanes8 _ _ _ _ _ _ _ _ concatenates_S1x16_S1x16_S1x16_S1x16_S1x16_S1x16_S1x16_S1x16_S1x128_d1 (laneV x3 (i 0).val) 0 ?_ ?_ ?_ ?_ ?_ ?_ ?_ ?_ l
      · exact fun y => batch_part harg5 x3 (i 0).val (i 0).isLt 0 0 0 (by decide) (by decide) _ _ _ slices_S1x128_o0_0_S1x16 (by intro t ht; unfold Cert.Spec.rowOf; omega) y
      · exact fun y => batch_part harg5 x3 (i 0).val (i 0).isLt 128 0 16 (by decide) (by decide) _ _ _ slices_S1x128_o0_0_S1x16 (by intro t ht; unfold Cert.Spec.rowOf; omega) y
      · exact fun y => batch_part harg5 x3 (i 0).val (i 0).isLt 256 0 32 (by decide) (by decide) _ _ _ slices_S1x128_o0_0_S1x16 (by intro t ht; unfold Cert.Spec.rowOf; omega) y
      · exact fun y => batch_part harg5 x3 (i 0).val (i 0).isLt 384 0 48 (by decide) (by decide) _ _ _ slices_S1x128_o0_0_S1x16 (by intro t ht; unfold Cert.Spec.rowOf; omega) y
      · exact fun y => batch_part harg5 x3 (i 0).val (i 0).isLt 512 0 64 (by decide) (by decide) _ _ _ slices_S1x128_o0_0_S1x16 (by intro t ht; unfold Cert.Spec.rowOf; omega) y
      · exact fun y => batch_part harg5 x3 (i 0).val (i 0).isLt 0 16 80 (by decide) (by decide) _ _ _ slices_S1x128_o0_16_S1x16 (by intro t ht; unfold Cert.Spec.rowOf; omega) y
      · exact fun y => batch_part harg5 x3 (i 0).val (i 0).isLt 128 16 96 (by decide) (by decide) _ _ _ slices_S1x128_o0_16_S1x16 (by intro t ht; unfold Cert.Spec.rowOf; omega) y
      · exact fun y => batch_part harg5 x3 (i 0).val (i 0).isLt 256 16 112 (by decide) (by decide) _ _ _ slices_S1x128_o0_16_S1x16 (by intro t ht; unfold Cert.Spec.rowOf; omega) y
    · intro l
      refine lanes8 _ _ _ _ _ _ _ _ concatenates_S1x16_S1x16_S1x16_S1x16_S1x16_S1x16_S1x16_S1x16_S1x128_d1 (laneV x3 (i 0).val) 128 ?_ ?_ ?_ ?_ ?_ ?_ ?_ ?_ l
      · exact fun y => batch_part harg5 x3 (i 0).val (i 0).isLt 384 16 128 (by decide) (by decide) _ _ _ slices_S1x128_o0_16_S1x16 (by intro t ht; unfold Cert.Spec.rowOf; omega) y
      · exact fun y => batch_part harg5 x3 (i 0).val (i 0).isLt 512 16 144 (by decide) (by decide) _ _ _ slices_S1x128_o0_16_S1x16 (by intro t ht; unfold Cert.Spec.rowOf; omega) y
      · exact fun y => batch_part harg5 x3 (i 0).val (i 0).isLt 0 32 160 (by decide) (by decide) _ _ _ slices_S1x128_o0_32_S1x16 (by intro t ht; unfold Cert.Spec.rowOf; omega) y
      · exact fun y => batch_part harg5 x3 (i 0).val (i 0).isLt 128 32 176 (by decide) (by decide) _ _ _ slices_S1x128_o0_32_S1x16 (by intro t ht; unfold Cert.Spec.rowOf; omega) y
      · exact fun y => batch_part harg5 x3 (i 0).val (i 0).isLt 256 32 192 (by decide) (by decide) _ _ _ slices_S1x128_o0_32_S1x16 (by intro t ht; unfold Cert.Spec.rowOf; omega) y
      · exact fun y => batch_part harg5 x3 (i 0).val (i 0).isLt 384 32 208 (by decide) (by decide) _ _ _ slices_S1x128_o0_32_S1x16 (by intro t ht; unfold Cert.Spec.rowOf; omega) y
      · exact fun y => batch_part harg5 x3 (i 0).val (i 0).isLt 512 32 224 (by decide) (by decide) _ _ _ slices_S1x128_o0_32_S1x16 (by intro t ht; unfold Cert.Spec.rowOf; omega) y
      · exact fun y => batch_part harg5 x3 (i 0).val (i 0).isLt 0 48 240 (by decide) (by decide) _ _ _ slices_S1x128_o0_48_S1x16 (by intro t ht; unfold Cert.Spec.rowOf; omega) y
    · intro l
      refine lanes8 _ _ _ _ _ _ _ _ concatenates_S1x16_S1x16_S1x16_S1x16_S1x16_S1x16_S1x16_S1x16_S1x128_d1 (laneV x3 (i 0).val) 256 ?_ ?_ ?_ ?_ ?_ ?_ ?_ ?_ l
      · exact fun y => batch_part harg5 x3 (i 0).val (i 0).isLt 128 48 256 (by decide) (by decide) _ _ _ slices_S1x128_o0_48_S1x16 (by intro t ht; unfold Cert.Spec.rowOf; omega) y
      · exact fun y => batch_part harg5 x3 (i 0).val (i 0).isLt 256 48 272 (by decide) (by decide) _ _ _ slices_S1x128_o0_48_S1x16 (by intro t ht; unfold Cert.Spec.rowOf; omega) y
      · exact fun y => batch_part harg5 x3 (i 0).val (i 0).isLt 384 48 288 (by decide) (by decide) _ _ _ slices_S1x128_o0_48_S1x16 (by intro t ht; unfold Cert.Spec.rowOf; omega) y
      · exact fun y => batch_part harg5 x3 (i 0).val (i 0).isLt 512 48 304 (by decide) (by decide) _ _ _ slices_S1x128_o0_48_S1x16 (by intro t ht; unfold Cert.Spec.rowOf; omega) y
      · exact fun y => batch_part harg5 x3 (i 0).val (i 0).isLt 0 64 320 (by decide) (by decide) _ _ _ slices_S1x128_o0_64_S1x16 (by intro t ht; unfold Cert.Spec.rowOf; omega) y
      · exact fun y => batch_part harg5 x3 (i 0).val (i 0).isLt 128 64 336 (by decide) (by decide) _ _ _ slices_S1x128_o0_64_S1x16 (by intro t ht; unfold Cert.Spec.rowOf; omega) y
      · exact fun y => batch_part harg5 x3 (i 0).val (i 0).isLt 256 64 352 (by decide) (by decide) _ _ _ slices_S1x128_o0_64_S1x16 (by intro t ht; unfold Cert.Spec.rowOf; omega) y
      · exact fun y => batch_part harg5 x3 (i 0).val (i 0).isLt 384 64 368 (by decide) (by decide) _ _ _ slices_S1x128_o0_64_S1x16 (by intro t ht; unfold Cert.Spec.rowOf; omega) y
    · intro l
      refine lanes8 _ _ _ _ _ _ _ _ concatenates_S1x16_S1x16_S1x16_S1x16_S1x16_S1x16_S1x16_S1x16_S1x128_d1 (laneV x3 (i 0).val) 384 ?_ ?_ ?_ ?_ ?_ ?_ ?_ ?_ l
      · exact fun y => batch_part harg5 x3 (i 0).val (i 0).isLt 512 64 384 (by decide) (by decide) _ _ _ slices_S1x128_o0_64_S1x16 (by intro t ht; unfold Cert.Spec.rowOf; omega) y
      · exact fun y => batch_part harg5 x3 (i 0).val (i 0).isLt 0 80 400 (by decide) (by decide) _ _ _ slices_S1x128_o0_80_S1x16 (by intro t ht; unfold Cert.Spec.rowOf; omega) y
      · exact fun y => batch_part harg5 x3 (i 0).val (i 0).isLt 128 80 416 (by decide) (by decide) _ _ _ slices_S1x128_o0_80_S1x16 (by intro t ht; unfold Cert.Spec.rowOf; omega) y
      · exact fun y => batch_part harg5 x3 (i 0).val (i 0).isLt 256 80 432 (by decide) (by decide) _ _ _ slices_S1x128_o0_80_S1x16 (by intro t ht; unfold Cert.Spec.rowOf; omega) y
      · exact fun y => batch_part harg5 x3 (i 0).val (i 0).isLt 384 80 448 (by decide) (by decide) _ _ _ slices_S1x128_o0_80_S1x16 (by intro t ht; unfold Cert.Spec.rowOf; omega) y
      · exact fun y => batch_part harg5 x3 (i 0).val (i 0).isLt 512 80 464 (by decide) (by decide) _ _ _ slices_S1x128_o0_80_S1x16 (by intro t ht; unfold Cert.Spec.rowOf; omega) y
      · exact fun y => batch_part harg5 x3 (i 0).val (i 0).isLt 0 96 480 (by decide) (by decide) _ _ _ slices_S1x128_o0_96_S1x16 (by intro t ht; unfold Cert.Spec.rowOf; omega) y
      · exact fun y => batch_part harg5 x3 (i 0).val (i 0).isLt 128 96 496 (by decide) (by decide) _ _ _ slices_S1x128_o0_96_S1x16 (by intro t ht; unfold Cert.Spec.rowOf; omega) y
    · intro l
      refine lanes8 _ _ _ _ _ _ _ _ concatenates_S1x16_S1x16_S1x16_S1x16_S1x16_S1x16_S1x16_S1x16_S1x128_d1 (laneV x3 (i 0).val) 512 ?_ ?_ ?_ ?_ ?_ ?_ ?_ ?_ l
      · exact fun y => batch_part harg5 x3 (i 0).val (i 0).isLt 256 96 512 (by decide) (by decide) _ _ _ slices_S1x128_o0_96_S1x16 (by intro t ht; unfold Cert.Spec.rowOf; omega) y
      · exact fun y => batch_part harg5 x3 (i 0).val (i 0).isLt 384 96 528 (by decide) (by decide) _ _ _ slices_S1x128_o0_96_S1x16 (by intro t ht; unfold Cert.Spec.rowOf; omega) y
      · exact fun y => batch_part harg5 x3 (i 0).val (i 0).isLt 512 96 544 (by decide) (by decide) _ _ _ slices_S1x128_o0_96_S1x16 (by intro t ht; unfold Cert.Spec.rowOf; omega) y
      · exact fun y => batch_part harg5 x3 (i 0).val (i 0).isLt 0 112 560 (by decide) (by decide) _ _ _ slices_S1x128_o0_112_S1x16 (by intro t ht; unfold Cert.Spec.rowOf; omega) y
      · exact fun y => batch_part harg5 x3 (i 0).val (i 0).isLt 128 112 576 (by decide) (by decide) _ _ _ slices_S1x128_o0_112_S1x16 (by intro t ht; unfold Cert.Spec.rowOf; omega) y
      · exact fun y => batch_part harg5 x3 (i 0).val (i 0).isLt 256 112 592 (by decide) (by decide) _ _ _ slices_S1x128_o0_112_S1x16 (by intro t ht; unfold Cert.Spec.rowOf; omega) y
      · exact fun y => batch_part harg5 x3 (i 0).val (i 0).isLt 384 112 608 (by decide) (by decide) _ _ _ slices_S1x128_o0_112_S1x16 (by intro t ht; unfold Cert.Spec.rowOf; omega) y
      · exact fun y => batch_part harg5 x3 (i 0).val (i 0).isLt 512 112 624 (by decide) (by decide) _ _ _ slices_S1x128_o0_112_S1x16 (by intro t ht; unfold Cert.Spec.rowOf; omega) y
  let L3 := loopInv3 (F := F) i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) run.sl.v0 (run.sl.v68 c i arg5 harg5 x3) (run.sl.v133 c i arg5 harg5 x3) (run.sl.v198 c i arg5 harg5 x3) (run.sl.v263 c i arg5 harg5 x3) (run.sl.v328 c i arg5 harg5 x3) (run.sl.v393 c i arg6 harg6 x4) (run.sl.v458 c i arg6 harg6 x4) (run.sl.v523 c i arg6 harg6 x4) (run.sl.v588 c i arg6 harg6 x4) (run.sl.v596 c i arg6 harg6 x4) (run.sl.v604 c i arg6 harg6 x4) (run.sl.v612 c i arg6 harg6 x4) (run.sl.v620 c i arg6 harg6 x4) (run.sl.v628 c i arg6 harg6 x4) (run.sl.r_6 c arg6 harg6 x4) (1#32) (View.readAt (Elt F) arg6.view (Rect.unit (s := S3x640) ![1, 256] S1x128.size inb_S3x640_S1x128_1_256).toLoadRect (harg6.unread x4)) (View.readAt (Elt F) arg6.view (Rect.unit (s := S3x640) ![2, 256] S1x128.size inb_S3x640_S1x128_2_256).toLoadRect (harg6.unread x4)) (View.readAt (Elt F) arg6.view (Rect.unit (s := S3x640) ![0, 384] S1x128.size inb_S3x640_S1x128_0_384).toLoadRect (harg6.unread x4)) (View.readAt (Elt F) arg6.view (Rect.unit (s := S3x640) ![1, 384] S1x128.size inb_S3x640_S1x128_1_384).toLoadRect (harg6.unread x4)) (View.readAt (Elt F) arg6.view (Rect.unit (s := S3x640) ![2, 384] S1x128.size inb_S3x640_S1x128_2_384).toLoadRect (harg6.unread x4)) (View.readAt (Elt F) arg6.view (Rect.unit (s := S3x640) ![0, 512] S1x128.size inb_S3x640_S1x128_0_512).toLoadRect (harg6.unread x4)) (View.readAt (Elt F) arg6.view (Rect.unit (s := S3x640) ![1, 512] S1x128.size inb_S3x640_S1x128_1_512).toLoadRect (harg6.unread x4)) (View.readAt (Elt F) arg6.view (Rect.unit (s := S3x640) ![2, 512] S1x128.size inb_S3x640_S1x128_2_512).toLoadRect (harg6.unread x4)) xt0 fL0 fL1 P (laneV x4 (i 0).val) (laneV x3 (i 0).val) c hP hv0 h1 hF hRL hSC
  have e9 : atSlot (arg9.view.read (Elt F) fL0) = fun j l => WV (j % 8) (l % 4480) := funext fun j => funext fun l => (hL3 _ (Nat.lt_of_lt_of_le (Nat.mod_lt l (by decide : 4480 > 0)) (by decide))).trans rfl
  have e10 : atSlot (arg10.view.read (Elt F) fL1) = fun j l => CV (j % 8) (l % 4480) := funext fun j => funext fun l => (hL5 _ (Nat.lt_of_lt_of_le (Nat.mod_lt l (by decide : 4480 > 0)) (by decide))).trans rfl
  have hA0 : AtDone (matAt P (atSlot (arg9.view.read (Elt F) fL0)) (atSlot (arg10.view.read (Elt F) fL1)) (laneV x4 (i 0).val) (laneV x3 (i 0).val)) 0 0 (arg16.view.read (Elt F) fs7) := fun ι hι => absurd hι (by omega)
  sl_exec
  rw [e9, e10] at hL8
  have hXP : ∀ ι : S640x960.Idx, arg15.view.read (Elt F) fL2 ι = XV ((ι 0).val / 16 % 5) (16 * ((ι 0).val / 80) + (ι 0).val % 16) (ι 1).val := fun ι => hL9 ι (Nat.lt_of_lt_of_le (Nat.mod_lt _ (by decide)) (by decide))
  have hOut : ∃ y, k0_pay1 (F := F) (run.sl.v678 c arg15 arg16 arg17 arg18 fs8 fL2 f16L4 f18L5) = y ∧ OutIs (matAt P (fun j l => WV (j % 8) (l % 4480)) (fun j l => CV (j % 8) (l % 4480)) (laneV x4 (i 0).val) (laneV x3 (i 0).val)) XV y := by
    refine ⟨_, rfl, arg16.view.read (Elt F) f16L4, arg15.view.read (Elt F) fL2, hL8, hXP, ?_⟩
    have eY : ∀ L, View.readAt (Elt F) arg17.view (Rect.unit (s := S640x960) ![0, 0] S640x960.size inb_S640x960_S640x960_0_0).toLoadRect (arg17.view.writes (Elt F) L (run.sl.HS8_1 c arg15 arg16 fL2 f16L4)) = k0_pay527 (arg15.view.read (Elt F) fL2) (plane (arg16.view.read (Elt F) f16L4) 0) (plane (arg16.view.read (Elt F) f16L4) 1) := by
      intro L
      refine (whole_write L _ _ _).trans ?_
      rw [whole_read, plane_read _ 0 (by decide), plane_read _ 1 (by decide)]
      rfl
    unfold run.sl.v678
    by_cases hc : run.sl.v677 c arg18 f18L5 = 1#1
    · refine Or.inr (congrArg k0_pay1 ?_)
      rw [dif_pos hc, whole_write, whole_read, plane_read _ 2 (by decide)]
      refine congrArg (fun z => k0_pay529 z _ _) ?_
      exact eY _
    · refine Or.inl (congrArg k0_pay1 ?_)
      rw [dif_neg hc]
      exact eY _
  obtain ⟨y, hy, hOutY⟩ := hOut
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists y; isplitr; · ipureintro; exact hOutY
    iexists _; isplitr; swap; · iexact H6
    ipureintro
    exact (whole_stored _ _ zero3 _ _ _).trans hy
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _, _; isplitr; swap; · iexact HS9
    ipureintro; rfl
  iexact HT0
end

end Cert.KernelIdeal.Hand
end
-- ==== Proof.KernelIdeal.Blocks.lean ====
/- Where each window's block lies in its array. -/
module
public import proofs.«01_k».proof.Proof.KernelIdeal.Runs
public import Idealize.ShloMosaic.Lib.Pipeline.ValueKit
public import Idealize.ShloMosaic.Lib.Pipeline.Covers
@[expose] public section

namespace Cert.KernelIdeal.Hand
open Idealize.ShloMosaic Idealize.ShloMosaic.TcCoe Idealize.ShloMosaic.Tactic
open Cert.KernelIdeal Cert.KernelIdeal.Gen
variable {F : FTy → Type} [FloatOps F]
theorem map0 : ∀ i : grid0.Coords, cc0_transform_0 i = ![(i 0).val, 0, 0] := by decide +kernel
theorem map1 : ∀ i : grid0.Coords, cc0_transform_1 i = ![(i 0).val, 0, 0] := by decide +kernel
theorem map2 : ∀ i : grid0.Coords, cc0_transform_2 i = ![(i 0).val, 0, 0] := by decide +kernel
theorem map3 : ∀ i : grid0.Coords, cc0_transform_3 i = ![0, 0] := by decide +kernel
theorem map4 : ∀ i : grid0.Coords, cc0_transform_4 i = ![0, 0] := by decide +kernel
theorem map5 : ∀ i : grid0.Coords, cc0_transform_5 i = ![0, 0] := by decide +kernel
theorem map6 : ∀ i : grid0.Coords, cc0_transform_6 i = ![(i 0).val, 0, 0] := by decide +kernel

theorem onto6 (β : Fin 3 → ℕ) (h0 : β 0 < 3) (h1 : β 1 < 1) (h2 : β 2 < 1) : ∃ i : grid0.Coords, ∀ a : Fin 3, cc0_transform_6 i a = β a := by
  refine ⟨fun d => ⟨β 0, by fin_cases d; exact h0⟩, fun d => ?_⟩
  refine (congrFun (map6 _) d).trans ?_
  fin_cases d
  · rfl
  · show 0 = β 1; omega
  · show 0 = β 2; omega

/-- The output's blocks cover the result. -/
theorem covers6 (a : (pcfg0 (F := F)).Adm) : ((cfg0 a).win 6).Covers :=
  ((cfg0 a).win 6).covers_of_indexMap_surj rfl ((by decide : ∀ d : Fin 3, 0 < (![1, 640, 960] : Fin 3 → ℕ) d)) fun β =>
    onto6 (fun d => (β d).val) (Nat.lt_of_lt_of_eq (β (0 : Fin 3)).isLt (by with_unfolding_all rfl)) (Nat.lt_of_lt_of_eq (β (1 : Fin 3)).isLt (by with_unfolding_all rfl)) (Nat.lt_of_lt_of_eq (β (2 : Fin 3)).isLt (by with_unfolding_all rfl))

variable (m : (ℓ : Loc nD τ sig) → Buf (Elt F) ℓ)

theorem emb6 (a : (pcfg0 (F := F)).Adm) (t : Fin (cfg0 a).N) (y : S1x640x960.Idx) : (((cfg0 a).win 6).blk t).view.emb y = ValueIdx.ix3 (grid0.coords t 0) (y 1) (y 2) := by
  funext d
  have h0 : (y 0).val < 1 := (y 0).isLt
  refine Fin.ext ?_
  have e := map6 (grid0.coords t)
  fin_cases d
  · show cc0_transform_6 (grid0.coords t) 0 * 1 + 1 * (y 0).val = (grid0.coords t 0).val
    rw [e]; show (grid0.coords t 0).val * 1 + 1 * (y 0).val = _; omega
  · show cc0_transform_6 (grid0.coords t) 1 * 640 + 1 * (y 1).val = (y 1).val
    rw [e]; show 0 * 640 + 1 * (y 1).val = _; omega
  · show cc0_transform_6 (grid0.coords t) 2 * 960 + 1 * (y 2).val = (y 2).val
    rw [e]; show 0 * 960 + 1 * (y 2).val = _; omega

theorem iblk0_at (hO : Ok m) (c : Dev nD) (t : Fin (cfgM m hO).N) (r : Fin 640) (d : Fin 960) :
    (iblk m hO c 0 t : S1x640x960.Idx → F .bf16) (ValueIdx.ix3 (0 : Fin 1) r d) = (m ((c.tc : Thread nD τ).loc main_arg0) : S3x640x960.Idx → F .bf16) (ValueIdx.ix3 (grid0.coords t 0) r d) := by
  refine (congrFun (V_main_arg0 m c) _).trans (congrArg _ (funext fun a => Fin.ext ?_))
  have e := map0 (grid0.coords t)
  fin_cases a
  · show cc0_transform_0 (grid0.coords t) 0 * 1 + 1 * 0 = (grid0.coords t 0).val
    rw [e]; show (grid0.coords t 0).val * 1 + 1 * 0 = _; omega
  · show cc0_transform_0 (grid0.coords t) 1 * 640 + 1 * r.val = r.val
    rw [e]; show 0 * 640 + 1 * r.val = _; omega
  · show cc0_transform_0 (grid0.coords t) 2 * 960 + 1 * d.val = d.val
    rw [e]; show 0 * 960 + 1 * d.val = _; omega

theorem iblk1_at (hO : Ok m) (c : Dev nD) (t : Fin (cfgM m hO).N) (r : Fin 4480) (d : Fin 8) :
    (iblk m hO c 1 t : S1x4480x8.Idx → F .fp8e4m3) (ValueIdx.ix3 (0 : Fin 1) r d) = FloatOps.ofBits .fp8e4m3 ((m ((c.tc : Thread nD τ).loc main_arg1) : S3x4480x8.Idx → BitVec 8) (ValueIdx.ix3 (grid0.coords t 0) r d)) := by
  have hv : V m c main_v0 = (bitcastToFloat .fp8e4m3 (m ((c.tc : Thread nD τ).loc main_arg1) : S3x4480x8.Idx → BitVec 8) : FVec F S3x4480x8 .fp8e4m3) := rfl
  refine (congrFun hv _).trans ((rfl : _ = _).trans (congrArg (fun z => FloatOps.ofBits .fp8e4m3 ((m ((c.tc : Thread nD τ).loc main_arg1) : S3x4480x8.Idx → BitVec 8) z)) (funext fun a => Fin.ext ?_)))
  have e := map1 (grid0.coords t)
  fin_cases a
  · show cc0_transform_1 (grid0.coords t) 0 * 1 + 1 * 0 = (grid0.coords t 0).val
    rw [e]; show (grid0.coords t 0).val * 1 + 1 * 0 = _; omega
  · show cc0_transform_1 (grid0.coords t) 1 * 4480 + 1 * r.val = r.val
    rw [e]; show 0 * 4480 + 1 * r.val = _; omega
  · show cc0_transform_1 (grid0.coords t) 2 * 8 + 1 * d.val = d.val
    rw [e]; show 0 * 8 + 1 * d.val = _; omega

theorem iblk2_at (hO : Ok m) (c : Dev nD) (t : Fin (cfgM m hO).N) (r : Fin 4480) (d : Fin 8) :
    (iblk m hO c 2 t : S1x4480x8.Idx → BitVec 32) (ValueIdx.ix3 (0 : Fin 1) r d) = (m ((c.tc : Thread nD τ).loc main_arg2) : S3x4480x8.Idx → BitVec 32) (ValueIdx.ix3 (grid0.coords t 0) r d) := by
  refine (congrFun (V_main_arg2 m c) _).trans (congrArg _ (funext fun a => Fin.ext ?_))
  have e := map2 (grid0.coords t)
  fin_cases a
  · show cc0_transform_2 (grid0.coords t) 0 * 1 + 1 * 0 = (grid0.coords t 0).val
    rw [e]; show (grid0.coords t 0).val * 1 + 1 * 0 = _; omega
  · show cc0_transform_2 (grid0.coords t) 1 * 4480 + 1 * r.val = r.val
    rw [e]; show 0 * 4480 + 1 * r.val = _; omega
  · show cc0_transform_2 (grid0.coords t) 2 * 8 + 1 * d.val = d.val
    rw [e]; show 0 * 8 + 1 * d.val = _; omega

theorem iblk3_eq (hO : Ok m) (c : Dev nD) (t : Fin (cfgM m hO).N) :
    (iblk m hO c 3 t : S3x640.Idx → F .f32) = (m ((c.tc : Thread nD τ).loc main_arg3) : S3x640.Idx → F .f32) := by
  refine funext fun (y : S3x640.Idx) => ?_
  refine (congrFun (V_main_arg3 m c) _).trans (congrArg _ (funext fun a => Fin.ext ?_))
  have e := map3 (grid0.coords t)
  fin_cases a
  · show cc0_transform_3 (grid0.coords t) 0 * 3 + 1 * (y 0).val = (y 0).val
    rw [e]; show 0 * 3 + 1 * (y 0).val = _; omega
  · show cc0_transform_3 (grid0.coords t) 1 * 640 + 1 * (y 1).val = (y 1).val
    rw [e]; show 0 * 640 + 1 * (y 1).val = _; omega

theorem iblk4_eq (hO : Ok m) (c : Dev nD) (t : Fin (cfgM m hO).N) :
    (iblk m hO c 4 t : S3x640.Idx → BitVec 32) = (m ((c.tc : Thread nD τ).loc main_arg4) : S3x640.Idx → BitVec 32) := by
  refine funext fun (y : S3x640.Idx) => ?_
  refine (congrFun (V_main_arg4 m c) _).trans (congrArg _ (funext fun a => Fin.ext ?_))
  have e := map4 (grid0.coords t)
  fin_cases a
  · show cc0_transform_4 (grid0.coords t) 0 * 3 + 1 * (y 0).val = (y 0).val
    rw [e]; show 0 * 3 + 1 * (y 0).val = _; omega
  · show cc0_transform_4 (grid0.coords t) 1 * 640 + 1 * (y 1).val = (y 1).val
    rw [e]; show 0 * 640 + 1 * (y 1).val = _; omega

theorem iblk5_eq (hO : Ok m) (c : Dev nD) (t : Fin (cfgM m hO).N) :
    (iblk m hO c 5 t : S3x640.Idx → BitVec 32) = (m ((c.tc : Thread nD τ).loc main_arg6) : S3x640.Idx → BitVec 32) := by
  refine funext fun (y : S3x640.Idx) => ?_
  refine (congrFun (V_main_arg6 m c) _).trans (congrArg _ (funext fun a => Fin.ext ?_))
  have e := map5 (grid0.coords t)
  fin_cases a
  · show cc0_transform_5 (grid0.coords t) 0 * 3 + 1 * (y 0).val = (y 0).val
    rw [e]; show 0 * 3 + 1 * (y 0).val = _; omega
  · show cc0_transform_5 (grid0.coords t) 1 * 640 + 1 * (y 1).val = (y 1).val
    rw [e]; show 0 * 640 + 1 * (y 1).val = _; omega
end Cert.KernelIdeal.Hand
-- ==== Proof.KernelIdeal.Frame.lean ====
/- The run of the kernel: when the body's output is a given one at every grid point, every run terminates without a fault, keeps the
   arguments and leaves those outputs in the result array. -/
module

public import proofs.«01_k».proof.Proof.KernelIdeal.Body
public import proofs.«01_k».proof.Proof.KernelIdeal.Blocks
public import Idealize.ShloMosaic.Lib.Claim
public import Idealize.ShloMosaic.Lib.ValueIdx
public import Idealize.ShloMosaic.Lib.Pipeline.ValueKit

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What is asked of one grid point: the table's row lists the starts of well-formed slices, every row's length fits its slice, the staged blocks
    unpack to given values, and every output these make is `O`. -/
def Good (hO : Ok m) (c : Dev nD) (t : Fin (cfgM m hO).N) (O : S1x640x960.Idx → F .bf16) : Prop :=
  ∃ (P : ℕ → ℕ) (WV : ℕ → ℕ → Elt F .f32) (CV : ℕ → ℕ → Elt F .i32) (XV : ℕ → ℕ → ℕ → F .bf16),
    Starts P ∧ Fits P (laneV (iblk m hO c 4 t) (grid0.coords t 0).val)
    ∧ (∀ (arg3 : Memref sig .tc .vmem S1x4480x8 .fp8e4m3) (harg3 : arg3.IsWhole) (k : Fin k0_t1_loop.trips) (x : S8x128.Idx), k0_pay444 (F := F) (View.readAt (Elt F) arg3.view (Rect.unit (s := S1x4480x8) (k0_off1 k) S1x128x8.size (k0_off1_inb k)).toLoadRect (harg3.unread (iblk m hO c 1 t))) x = WV (x 0).val (128 * k.val + (x 1).val))
    ∧ (∀ (arg4 : Memref sig .tc .vmem S1x4480x8 .i32) (harg4 : arg4.IsWhole) (k : Fin k0_t1_loop.trips) (x : S8x128.Idx), k0_pay445 (F := F) (View.readAt (Elt F) arg4.view (Rect.unit (s := S1x4480x8) (k0_off1 k) S1x128x8.size (k0_off1_inb k)).toLoadRect (harg4.unread (iblk m hO c 2 t))) x = CV (x 0).val (128 * k.val + (x 1).val))
    ∧ (∀ (arg2 : Memref sig .tc .vmem S1x640x960 .bf16) (harg2 : arg2.IsWhole) (arg7 : Memref sig .tc .vmem S3x640 .i32) (harg7 : arg7.IsWhole) (k : Fin k0_t2_loop.trips) (x : S128x960.Idx), k0_pay2 (F := F) (BitVec.ofNat 32 (grid0.coords t 0).val) (iota .tc S128x128 32 [0] iota_S128x128_d0_w32) 0#32 1#32 k
      (View.readAt (Elt F) arg7.view (Rect.unit (s := S3x640) (k0_off3 k) S1x128.size (k0_off3_inb k)).toLoadRect (harg7.unread (iblk m hO c 5 t)))
      (View.readAt (Elt F) arg7.view (Rect.unit (s := S3x640) (k0_off4 k) S1x128.size (k0_off4_inb k)).toLoadRect (harg7.unread (iblk m hO c 5 t)))
      (View.readAt (Elt F) arg7.view (Rect.unit (s := S3x640) (k0_off5 k) S1x128.size (k0_off5_inb k)).toLoadRect (harg7.unread (iblk m hO c 5 t)))
      (View.readAt (Elt F) arg2.view (Rect.unit (s := S1x640x960) (k0_off6 k) S1x128x960.size (k0_off6_inb k)).toLoadRect (harg2.unread (iblk m hO c 0 t))) x = XV k.val (x 0).val (x 1).val)
    ∧ (∀ ι : S3x81.Idx, (ι 0).val = (grid0.coords t 0).val → tbM0_0.view.read (Elt F) (tbl m 0) ι = BitVec.ofNat 32 (P (ι 1).val))
    ∧ ∀ d, OutIs (matAt P (fun j l => WV (j % 8) (l % 4480)) (fun j l => CV (j % 8) (l % 4480)) (laneV (iblk m hO c 4 t) (grid0.coords t 0).val) (laneV (iblk m hO c 3 t) (grid0.coords t 0).val)) XV d → d = O

variable (OUT : (hO : Ok m) → (c : Dev nD) → Fin (cfgM m hO).N → S1x640x960.Idx → F .bf16)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => OUT hO c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m OUT hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m OUT hO 0 c).after 0 t = iblk m hO c 0 t := by dsimp only [dats]; try rfl
theorem after0_1 (hO : Ok m) (c : Dev nD) (t : Fin (cfgM m hO).N) : (dats m OUT hO 0 c).after 1 t = iblk m hO c 1 t := by dsimp only [dats]; try rfl
theorem after0_2 (hO : Ok m) (c : Dev nD) (t : Fin (cfgM m hO).N) : (dats m OUT hO 0 c).after 2 t = iblk m hO c 2 t := by dsimp only [dats]; try rfl
theorem after0_3 (hO : Ok m) (c : Dev nD) (t : Fin (cfgM m hO).N) : (dats m OUT hO 0 c).after 3 t = iblk m hO c 3 t := by dsimp only [dats]; try rfl
theorem after0_4 (hO : Ok m) (c : Dev nD) (t : Fin (cfgM m hO).N) : (dats m OUT hO 0 c).after 4 t = iblk m hO c 4 t := by dsimp only [dats]; try rfl
theorem after0_5 (hO : Ok m) (c : Dev nD) (t : Fin (cfgM m hO).N) : (dats m OUT hO 0 c).after 5 t = iblk m hO c 5 t := by dsimp only [dats]; try rfl

theorem after0_6 (hO : Ok m) (c : Dev nD) (t : Fin (cfgM m hO).N) : (dats m OUT hO 0 c).after 6 t = OUT hO c t := by dsimp only [dats]; try rfl

/-- Each input's current staging buffer holds its block at every point, fetched there or not (`beforeK_W_of`). -/
theorem before0_0 (hO : Ok m) (c : Dev nD) (t : Fin (cfgM m hO).N) (d) : (dats m OUT hO 0 c).before 0 t d = iblk m hO c 0 t :=
  before0_0_of m hO (dats m OUT hO 0 c) (A_eq m OUT hO c 0) (after0_0 m OUT hO c) t d
theorem before0_1 (hO : Ok m) (c : Dev nD) (t : Fin (cfgM m hO).N) (d) : (dats m OUT hO 0 c).before 1 t d = iblk m hO c 1 t :=
  before0_1_of m hO (dats m OUT hO 0 c) (A_eq m OUT hO c 1) (after0_1 m OUT hO c) t d
theorem before0_2 (hO : Ok m) (c : Dev nD) (t : Fin (cfgM m hO).N) (d) : (dats m OUT hO 0 c).before 2 t d = iblk m hO c 2 t :=
  before0_2_of m hO (dats m OUT hO 0 c) (A_eq m OUT hO c 2) (after0_2 m OUT hO c) t d
theorem before0_3 (hO : Ok m) (c : Dev nD) (t : Fin (cfgM m hO).N) (d) : (dats m OUT hO 0 c).before 3 t d = iblk m hO c 3 t :=
  before0_3_of m hO (dats m OUT hO 0 c) (A_eq m OUT hO c 3) (after0_3 m OUT hO c) t d
theorem before0_4 (hO : Ok m) (c : Dev nD) (t : Fin (cfgM m hO).N) (d) : (dats m OUT hO 0 c).before 4 t d = iblk m hO c 4 t :=
  before0_4_of m hO (dats m OUT hO 0 c) (A_eq m OUT hO c 4) (after0_4 m OUT hO c) t d
theorem before0_5 (hO : Ok m) (c : Dev nD) (t : Fin (cfgM m hO).N) (d) : (dats m OUT hO 0 c).before 5 t d = iblk m hO c 5 t :=
  before0_5_of m hO (dats m OUT hO 0 c) (A_eq m OUT hO c 5) (after0_5 m OUT hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m OUT hO 0 c).Φ t.castSucc ∗ (dats m OUT hO 0 c).owesAt () t.castSucc
    ∗ (∃ d, owns (c : Thread nD τ) (ms0_0 m hO t) fullShare ((dats m OUT hO 0 c).before 0 t d))
    ∗ (∃ d, owns (c : Thread nD τ) (ms0_1 m hO t) fullShare ((dats m OUT hO 0 c).before 1 t d))
    ∗ (∃ d, owns (c : Thread nD τ) (ms0_2 m hO t) fullShare ((dats m OUT hO 0 c).before 2 t d))
    ∗ (∃ d, owns (c : Thread nD τ) (ms0_3 m hO t) fullShare ((dats m OUT hO 0 c).before 3 t d))
    ∗ (∃ d, owns (c : Thread nD τ) (ms0_4 m hO t) fullShare ((dats m OUT hO 0 c).before 4 t d))
    ∗ (∃ d, owns (c : Thread nD τ) (ms0_5 m hO t) fullShare ((dats m OUT hO 0 c).before 5 t d))
    ∗ (∃ d, owns (c : Thread nD τ) (ms0_6 m hO t) fullShare ((dats m OUT hO 0 c).before 6 t d)))

/-- and what it returns. -/
def bodyPost (hO : Ok m) (c : Dev nD) (t : Fin (cfgM m hO).N) : sProp 𝕄 :=
  iprop((dats m OUT hO 0 c).Φ t.succ ∗ (dats m OUT hO 0 c).owesAt () t.succ
    ∗ owns (c : Thread nD τ) (ms0_0 m hO t) fullShare ((dats m OUT hO 0 c).after 0 t)
    ∗ owns (c : Thread nD τ) (ms0_1 m hO t) fullShare ((dats m OUT hO 0 c).after 1 t)
    ∗ owns (c : Thread nD τ) (ms0_2 m hO t) fullShare ((dats m OUT hO 0 c).after 2 t)
    ∗ owns (c : Thread nD τ) (ms0_3 m hO t) fullShare ((dats m OUT hO 0 c).after 3 t)
    ∗ owns (c : Thread nD τ) (ms0_4 m hO t) fullShare ((dats m OUT hO 0 c).after 4 t)
    ∗ owns (c : Thread nD τ) (ms0_5 m hO t) fullShare ((dats m OUT hO 0 c).after 5 t)
    ∗ owns (c : Thread nD τ) (ms0_6 m hO t) fullShare ((dats m OUT hO 0 c).after 6 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (hO : Ok m) (hT : ∀ c t, Good m hO c t (OUT hO c t)) (c : Dev nD) (t : Fin (cfgM m hO).N) :
    bodyPre m OUT hO c t ⊢ wp frame (wpE (defs₀ (F := F)) Variants.none c none) Set.univ (bodyAt0 (adm m hO) t) (fun _ => bodyPost m OUT hO c t) := by
  unfold bodyPre bodyPost bodyAt0
  simp only [before0_0, before0_1, before0_2, before0_3, before0_4, before0_5]
  rw [show (dats m OUT hO 0 c).Φ t.succ = (dats m OUT hO 0 c).Φ t.castSucc from rfl,
    show (dats m OUT hO 0 c).owesAt () t.succ = (dats m OUT hO 0 c).owesAt () t.castSucc from rfl,
    after0_0, after0_1, after0_2, after0_3, after0_4, after0_5, after0_6]
  rw [show (dats m OUT hO 0 c).Φ t.castSucc = iprop(Pipeline.ΦA spec0 c ∗ Pipeline.ΦT pre0 (tbl m) c) from rfl, PhiT0_eq, PhiA0_eq]
  iintro ⟨⟨⟨⟨HS0, HS1, HS2, HS3, HS4, HS5, HS6, HS7, HS8, HS9⟩, Hg⟩, HT0⟩, Ho, ⟨%d0, H0⟩, ⟨%d1, H1⟩, ⟨%d2, H2⟩, ⟨%d3, H3⟩, ⟨%d4, H4⟩, ⟨%d5, H5⟩, ⟨%d6, H6⟩⟩
  obtain ⟨P, WV, CV, XV, hP, hF, h3, h4, hX, h1, hOut⟩ := hT c t
  iapply (run c (grid0.coords t) _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (tbl m 0) P WV CV XV hP hF (h3 _ _) (h4 _ _) (hX _ _ _ _) h1 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HT0]; · iexact HT0
  iintro ⟨H0, H1, H2, H3, H4, H5, ⟨%d, %hd, H6⟩, HS0, HS1, HS2, HS3, HS4, HS5, HS6, HS7, HS8, HS9, HT0⟩
  isplitl [HS0 HS1 HS2 HS3 HS4 HS5 HS6 HS7 HS8 HS9 Hg HT0]
  · isplitl [HS0 HS1 HS2 HS3 HS4 HS5 HS6 HS7 HS8 HS9 Hg]
    · isplitl [HS0 HS1 HS2 HS3 HS4 HS5 HS6 HS7 HS8 HS9]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        isplitl [HS7]
        · iexact HS7
        isplitl [HS8]
        · iexact HS8
        iexact HS9
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [← hOut d hd]
  iexact H6

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hT : ∀ c t, Good m hO c t (OUT hO c t)) (c : Dev nD) : BodyObligation (dats (F := F) m OUT hO 0 c) (defs₀ (F := F)) Variants.none () Set.univ := fun t => by
  rw [bigSep_W0, bigSep_W0, defs₀_row m hO]
  exact triple_restated (sound_body m OUT hO hT c t) rfl .rfl fun _ => .rfl

/-! ## The run -/

/-- The launch: every run terminates, every window's array is what the proof data says, and every counter is zero. -/
theorem run_main_quiescent (hO : Ok m) (hT : ∀ c t, Good m hO c t (OUT hO c t)) : θ_run defs (onTc (τ := τ) (main (F := F))) (s₀ m ρ)
    (fun r => Pipeline.FramePost (Pipeline.pin pcfgs (fun _ => adm m hO)) (dats m OUT hO) 0 (V m) r ∧ r.2.sem = fun _ => 0) :=
  Pipeline.θ_run_frameP (Q' := _) pcfgs (fun _ => adm m hO) (dats m OUT hO) (0 : Fin 1) launch0 defs₀ Variants.none m ρ main
    (hbody := fun c => (body_obligation m OUT hO hT c).loose) (hshare := fun c => (dats m OUT hO 0 c).share_full fun _ => rfl)
    (howed := fun _ _ => rfl) (V := V m) (hmain := hmain m Variants.none) (hA := A_eq m OUT hO) (hpf := V_pre m)
    (hΦ := fun _ _ => rfl) (hQ' := fun _ h => h)

set_option backward.isDefEq.respectTransparency.types false in
/-- The result array at the end, out of the blocks the grid points leave. -/
theorem result_of (hO : Ok m) (c : Dev nD) (R : S3x640x960.Idx → F .bf16)
    (hR : ∀ (t : Fin (cfgM m hO).N) (y : S1x640x960.Idx), OUT hO c t y = R (ValueIdx.ix3 (grid0.coords t 0) (y 1) (y 2))) :
    (dats m OUT hO 0 c).arrAt 6 (cfgM m hO).N = R := by
  refine (dats m OUT hO 0 c).arrAt_eq_of_covers 6 _ (covers6 (adm m hO)) fun t hf y => ?_
  rw [after0_6]
  exact (hR t y).trans (congrArg R (emb6 (adm m hO) t y).symm)

set_option backward.isDefEq.respectTransparency.types false in
/-- Every run ends with the result array at `R`, the arguments as they were, and every counter at zero. -/
theorem run_value (hO : Ok m) (hT : ∀ c t, Good m hO c t (OUT hO c t)) (R : Dev nD → S3x640x960.Idx → F .bf16)
    (hR : ∀ (c : Dev nD) (t : Fin (cfgM m hO).N) (y : S1x640x960.Idx), OUT hO c t y = R c (ValueIdx.ix3 (grid0.coords t 0) (y 1) (y 2))) :
    θ_run defs (onTc (τ := τ) (main (F := F))) ⟨m, fun _ => 0, ρ⟩ (fun r => (∀ c : Dev nD,
      r.2.mem ((c.tc : Thread nD τ).loc main_v1) = R c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).1 6).trans (result_of m OUT hO c (R c) (hR c)),
      (((h.1 c).1 0).trans ((dats m OUT hO 0 c).arrAt_in 0 rfl _)).trans ((A_eq m OUT hO c 0).trans (V_main_arg0 m c)),
      ((h.1 c).2 main_arg1 (by decide : main_arg1 ∈ Pipeline.restRefs sig spec0)).trans (V_main_arg1 m c),
      (((h.1 c).1 2).trans ((dats m OUT hO 0 c).arrAt_in 2 rfl _)).trans ((A_eq m OUT hO c 2).trans (V_main_arg2 m c)),
      (((h.1 c).1 3).trans ((dats m OUT hO 0 c).arrAt_in 3 rfl _)).trans ((A_eq m OUT hO c 3).trans (V_main_arg3 m c)),
      (((h.1 c).1 4).trans ((dats m OUT hO 0 c).arrAt_in 4 rfl _)).trans ((A_eq m OUT hO c 4).trans (V_main_arg4 m c)),
      ((h.1 c).2 main_arg5 (by decide : main_arg5 ∈ Pipeline.restRefs sig spec0)).trans (V_main_arg5 m c),
      (((h.1 c).1 5).trans ((dats m OUT hO 0 c).arrAt_in 5 rfl _)).trans ((A_eq m OUT hO c 5).trans (V_main_arg6 m c))⟩, h.2⟩) (run_main_quiescent m ρ OUT hO hT)

end Cert.KernelIdeal.Hand

end
-- ==== Proof.KernelIdeal.Values.lean ====
/- What the body stores, in exact arithmetic: a sum of products over the lanes. -/
module

public import proofs.«01_k».proof.Proof.KernelIdeal.Body
public import Idealize.ShloMosaic.Lib.Pointwise
public import Idealize.ShloMosaic.Lib.MatmulPlain
public import Idealize.ShloMosaic.Lib.StableHlo.Predicate

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

theorem off1_eq : ∀ k : Fin k0_t1_loop.trips, k0_off1 k = ![0, 128 * k.val, 0] := by decide +kernel
theorem off3_eq : ∀ k : Fin k0_t2_loop.trips, k0_off3 k = ![0, 128 * k.val] := by decide +kernel
theorem off4_eq : ∀ k : Fin k0_t2_loop.trips, k0_off4 k = ![1, 128 * k.val] := by decide +kernel
theorem off5_eq : ∀ k : Fin k0_t2_loop.trips, k0_off5 k = ![2, 128 * k.val] := by decide +kernel
theorem off6_eq : ∀ k : Fin k0_t2_loop.trips, k0_off6 k = ![0, 128 * k.val, 0] := by decide +kernel
theorem t1_le : k0_t1_loop.trips ≤ 35 := by decide +kernel
theorem t2_le : k0_t2_loop.trips ≤ 5 := by decide +kernel

/-- A block of slots turned on its side. -/
theorem turned {α : Type} (V : S1x128x8.Idx → α) (x : S8x128.Idx) :
    shapeCast S8x128 (transpose S8x128 [1, 0] (shapeCast S128x8 V shapeCasts_S1x128x8_S128x8) transposes_S128x8_p1_0_S8x128) shapeCasts_S8x128_S8x128 x
      = V (ValueIdx.ix3 (0 : Fin 1) ⟨(x 1).val, (x 1).isLt⟩ ⟨(x 0).val, (x 0).isLt⟩) := by
  rw [shapeCast_self]
  refine (transpose_apply _ _ _ x (ValueIdx.ix2 (⟨(x 1).val, (x 1).isLt⟩ : Fin 128) (⟨(x 0).val, (x 0).isLt⟩ : Fin 8)) (Fin.forall_fin_two.mpr ⟨rfl, rfl⟩)).trans ?_
  refine shapeCast_apply _ _ _ _ ?_
  rw [Shape.rowMajor_val_two, Shape.rowMajor_val_three]
  show ((0 : Fin 1).val * 128 + (x 1).val) * 8 + (x 0).val = (x 1).val * 8 + (x 0).val
  simp

/-- A block of slots read out of the slots of a batch. -/
theorem slot_read {F : FTy → Type} [FloatOps F] {e : EltTy} {m : Memref sig .tc .vmem S1x4480x8 e} (hm : m.IsWhole) (x1 : S1x4480x8.Idx → Elt F e) (k : Fin k0_t1_loop.trips) (inb) (a : Fin 128) (b : Fin 8) :
    View.readAt (Elt F) m.view (Rect.unit (s := S1x4480x8) (k0_off1 k) S1x128x8.size inb).toLoadRect (hm.unread x1) (ValueIdx.ix3 (0 : Fin 1) a b)
      = x1 (ValueIdx.ix3 (0 : Fin 1) (Fin.ofNat 4480 (128 * k.val + a.val)) b) := by
  refine (congrFun (hm.read_unread x1) _).trans (congrArg x1 (funext fun d => Fin.ext ?_))
  have hk : k.val < 35 := Nat.lt_of_lt_of_le k.isLt t1_le
  have e := off1_eq k
  fin_cases d
  · show k0_off1 k 0 + 1 * 0 = 0
    rw [e]; rfl
  · show k0_off1 k 1 + 1 * a.val = (128 * k.val + a.val) % 4480
    rw [e]; show 128 * k.val + 1 * a.val = _; omega
  · show k0_off1 k 2 + 1 * b.val = b.val
    rw [e]; show 0 + 1 * b.val = _; omega

/-- The value of lane `j` of slot `l`, and its column. -/
def slotV {α : Type} (x : S1x4480x8.Idx → α) (j l : ℕ) : α := x (ValueIdx.ix3 (0 : Fin 1) (Fin.ofNat 4480 l) (Fin.ofNat 8 j))

theorem slotV_of {α : Type} (x : S1x4480x8.Idx → α) (l : ℕ) (j : Fin 8) : x (ValueIdx.ix3 (0 : Fin 1) (Fin.ofNat 4480 l) j) = slotV x j.val l := by
  unfold slotV
  congr 2
  exact Fin.ext (Nat.mod_eq_of_lt j.isLt).symm

theorem values_of {m : Memref sig .tc .vmem S1x4480x8 .fp8e4m3} (hm : m.IsWhole) (x1 : Vec Ideal S1x4480x8 .fp8e4m3) (k : Fin k0_t1_loop.trips) (x : S8x128.Idx) :
    k0_pay444 (F := Ideal) (View.readAt (Elt Ideal) m.view (Rect.unit (s := S1x4480x8) (k0_off1 k) S1x128x8.size (k0_off1_inb k)).toLoadRect (hm.unread x1)) x
      = slotV (α := EReal) x1 (x 0).val (128 * k.val + (x 1).val) :=
  (turned _ x).trans ((slot_read (F := Ideal) hm x1 k _ _ _).trans (slotV_of _ _ _))

theorem columns_of {m : Memref sig .tc .vmem S1x4480x8 .i32} (hm : m.IsWhole) (x1 : Vec Ideal S1x4480x8 .i32) (k : Fin k0_t1_loop.trips) (x : S8x128.Idx) :
    k0_pay445 (F := Ideal) (View.readAt (Elt Ideal) m.view (Rect.unit (s := S1x4480x8) (k0_off1 k) S1x128x8.size (k0_off1_inb k)).toLoadRect (hm.unread x1)) x
      = slotV (α := BitVec 32) x1 (x 0).val (128 * k.val + (x 1).val) :=
  (turned _ x).trans ((slot_read (F := Ideal) hm x1 k _ _ _).trans (slotV_of _ _ _))

/-- The batch's row of a table out of its three rows. -/
theorem batch_row {m : Memref sig .tc .vmem S3x640 .i32} (hm : m.IsWhole) (x5 : Vec Ideal S3x640 .i32) (b : ℕ) (hb : b < 3) (k : Fin k0_t2_loop.trips) (n : ℕ) (hn : n < 128) :
    Scalar.select (Scalar.cmpi .eq (BitVec.ofNat 32 b) 2#32) (View.readAt (Elt Ideal) m.view (Rect.unit (s := S3x640) (k0_off5 k) S1x128.size (k0_off5_inb k)).toLoadRect (hm.unread x5))
      (Scalar.select (Scalar.cmpi .eq (BitVec.ofNat 32 b) 1#32) (View.readAt (Elt Ideal) m.view (Rect.unit (s := S3x640) (k0_off4 k) S1x128.size (k0_off4_inb k)).toLoadRect (hm.unread x5))
        (View.readAt (Elt Ideal) m.view (Rect.unit (s := S3x640) (k0_off3 k) S1x128.size (k0_off3_inb k)).toLoadRect (hm.unread x5))) (ValueIdx.ix2 (0 : Fin 1) ⟨n, hn⟩)
      = x5 (ValueIdx.ix2 (Fin.ofNat 3 b) (Fin.ofNat 640 (128 * k.val + n))) := by
  have hk : k.val < 5 := Nat.lt_of_lt_of_le k.isLt t2_le
  have key : ∀ (r : ℕ) (off : Fin 2 → ℕ) (inb), off = ![r, 128 * k.val] → r < 3 → r = b →
      View.readAt (Elt Ideal) m.view (Rect.unit (s := S3x640) off S1x128.size inb).toLoadRect (hm.unread x5) (ValueIdx.ix2 (0 : Fin 1) ⟨n, hn⟩) = x5 (ValueIdx.ix2 (Fin.ofNat 3 b) (Fin.ofNat 640 (128 * k.val + n))) := by
    intro r off inb e hr hrb
    subst e
    refine (row_read (F := Ideal) hm x5 r (128 * k.val) hr (by omega) _ _).trans ?_
    refine congrArg x5 (congrArg₂ ValueIdx.ix2 (Fin.ext ?_) (Fin.ext ?_))
    · show r = b % 3; omega
    · show 128 * k.val + n = (128 * k.val + n) % 640; omega
  have hc : b = 0 ∨ b = 1 ∨ b = 2 := by omega
  rcases hc with h | h | h
  · subst h; exact key 0 _ _ (off3_eq k) (by decide) rfl
  · subst h; exact key 1 _ _ (off4_eq k) (by decide) rfl
  · subst h; exact key 2 _ _ (off5_eq k) (by decide) rfl

/-- A block of rows of the operand. -/
theorem operand_read {m : Memref sig .tc .vmem S1x640x960 .bf16} (hm : m.IsWhole) (x0 : Vec Ideal S1x640x960 .bf16) (k : Fin k0_t2_loop.trips) (inb) (a : Fin 128) (d : Fin 960) :
    shapeCast S128x960 (View.readAt (Elt Ideal) m.view (Rect.unit (s := S1x640x960) (k0_off6 k) S1x128x960.size inb).toLoadRect (hm.unread x0)) shapeCasts_S1x128x960_S128x960 (ValueIdx.ix2 a d)
      = x0 (ValueIdx.ix3 (0 : Fin 1) (Fin.ofNat 640 (128 * k.val + a.val)) d) := by
  refine (shapeCast_apply _ _ _ (ValueIdx.ix3 (0 : Fin 1) a d) ?_).trans ?_
  · rw [Shape.rowMajor_val_two, Shape.rowMajor_val_three]
    show ((0 : Fin 1).val * 128 + a.val) * 960 + d.val = a.val * 960 + d.val
    simp
  refine (congrFun (hm.read_unread x0) _).trans (congrArg x0 (funext fun z => Fin.ext ?_))
  have hk : k.val < 5 := Nat.lt_of_lt_of_le k.isLt t2_le
  have e := off6_eq k
  fin_cases z
  · show k0_off6 k 0 + 1 * 0 = 0
    rw [e]; rfl
  · show k0_off6 k 1 + 1 * a.val = (128 * k.val + a.val) % 640
    rw [e]; show 128 * k.val + 1 * a.val = _; omega
  · show k0_off6 k 2 + 1 * d.val = d.val
    rw [e]; show 0 + 1 * d.val = _; omega

/-- The indicator of one position. -/
theorem indicator (t p k : ℕ) (ht : t < 128) (hp0 : 128 * k ≤ p) (hp1 : p < 128 * k + 128) (hk : k < 5) :
    (FloatOps.sitofp .f32 (BitVec.setWidth 32 (IntOp.cmpi .eq (BitVec.ofNat 32 t) (BitVec.ofNat 32 p - BitVec.ofNat 32 (128 * k)))) : Ideal .f32) = if t = p - 128 * k then (1 : EReal) else 0 := by
  have e : BitVec.ofNat 32 p - BitVec.ofNat 32 (128 * k) = BitVec.ofNat 32 (p - 128 * k) := by
    apply BitVec.eq_of_toNat_eq
    simp only [BitVec.toNat_sub, BitVec.toNat_ofNat]
    omega
  rw [e]
  by_cases h : t = p - 128 * k
  · rw [if_pos h, h]
    have : IntOp.cmpi .eq (BitVec.ofNat 32 (p - 128 * k)) (BitVec.ofNat 32 (p - 128 * k)) = 1#1 := StableHlo.Predicate.cmpi_eq_iff.mpr rfl
    rw [this]
    show (((1#32 : BitVec 32).toInt : ℝ) : EReal) = 1
    simp
  · rw [if_neg h]
    have : IntOp.cmpi .eq (BitVec.ofNat 32 t) (BitVec.ofNat 32 (p - 128 * k)) = 0#1 := by
      have hne : ¬ IntOp.cmpi .eq (BitVec.ofNat 32 t) (BitVec.ofNat 32 (p - 128 * k)) = 1#1 := fun hc => h (by
        have := congrArg BitVec.toNat (StableHlo.Predicate.cmpi_eq_iff.mp hc)
        simp only [BitVec.toNat_ofNat] at this
        omega)
      revert hne
      generalize IntOp.cmpi .eq (BitVec.ofNat 32 t) (BitVec.ofNat 32 (p - 128 * k)) = b
      revert b; decide
    rw [this]
    show (((0#32 : BitVec 32).toInt : ℝ) : EReal) = 0
    simp

/-- Row `n` of window `k` of the permuted operand, when the table's row is `pn`. -/
def takenV {α : Type} (x0 : S1x640x960.Idx → α) (pn : ℕ → ℕ) (k n d : ℕ) : α := x0 (ValueIdx.ix3 (0 : Fin 1) (Fin.ofNat 640 (pn (128 * k + n))) (Fin.ofNat 960 d))

theorem operand_of {m2 : Memref sig .tc .vmem S1x640x960 .bf16} (hm2 : m2.IsWhole) {m7 : Memref sig .tc .vmem S3x640 .i32} (hm7 : m7.IsWhole) (x0 : Vec Ideal S1x640x960 .bf16) (x5 : Vec Ideal S3x640 .i32) (b : ℕ) (hb : b < 3) (pn : ℕ → ℕ)
    (hpn : ∀ q, q < 640 → x5 (ValueIdx.ix2 (Fin.ofNat 3 b) (Fin.ofNat 640 q)) = BitVec.ofNat 32 (pn q) ∧ 128 * (q / 128) ≤ pn q ∧ pn q < 128 * (q / 128) + 128)
    (k : Fin k0_t2_loop.trips) (x : S128x960.Idx) :
    k0_pay2 (F := Ideal) (BitVec.ofNat 32 b) (iota .tc S128x128 32 [0] iota_S128x128_d0_w32) 0#32 1#32 k
      (View.readAt (Elt Ideal) m7.view (Rect.unit (s := S3x640) (k0_off3 k) S1x128.size (k0_off3_inb k)).toLoadRect (hm7.unread x5))
      (View.readAt (Elt Ideal) m7.view (Rect.unit (s := S3x640) (k0_off4 k) S1x128.size (k0_off4_inb k)).toLoadRect (hm7.unread x5))
      (View.readAt (Elt Ideal) m7.view (Rect.unit (s := S3x640) (k0_off5 k) S1x128.size (k0_off5_inb k)).toLoadRect (hm7.unread x5))
      (View.readAt (Elt Ideal) m2.view (Rect.unit (s := S1x640x960) (k0_off6 k) S1x128x960.size (k0_off6_inb k)).toLoadRect (hm2.unread x0)) x = takenV (α := EReal) x0 pn k.val (x 0).val (x 1).val := by
  have hk : k.val < 5 := Nat.lt_of_lt_of_le k.isLt t2_le
  have hx0 : (x 0).val < 128 := (x 0).isLt
  have hx1 : (x 1).val < 960 := (x 1).isLt
  obtain ⟨ep, hp0, hp1⟩ := hpn (128 * k.val + (x 0).val) (by omega)
  rw [show (128 * k.val + (x 0).val) / 128 = k.val by omega] at hp0 hp1
  have hiv : Scalar.muli (Scf.iv 0#32 1#32 k) 128#32 = BitVec.ofNat 32 (128 * k.val) := by
    have h : ∀ k : Fin k0_t2_loop.trips, Scalar.muli (Scf.iv 0#32 1#32 k) 128#32 = BitVec.ofNat 32 (128 * k.val) := by decide +kernel
    exact h k
  unfold k0_pay2
  show (matmul (F := Ideal) (φ₁ := .bf16) (φ₂ := .bf16) dot_S128x128_S128x960_S128x960_0_0_1_1_n_n none _ _ _ x : EReal) = _
  refine (Ideal.matmul_apply₁_of dot_S128x128_S128x960_S128x960_0_0_1_1_n_n (a := 0) rfl (K := 128) rfl _ _ _ x (fun t => ValueIdx.ix2 t (⟨(x 0).val, hx0⟩ : Fin 128)) (fun t => ValueIdx.ix2 t (⟨(x 1).val, hx1⟩ : Fin 960)) ?_ ?_).trans ?_
  · intro t; funext a; fin_cases a <;> rfl
  · intro t; funext a; fin_cases a <;> rfl
  have hL : ∀ t : Fin 128, (truncf .bf16 (sitofp .f32 (extui 32 (cmpi .eq (iota .tc S128x128 32 [0] iota_S128x128_d0_w32) (broadcastTo S128x128 (subi (Scalar.select (Scalar.cmpi .eq (BitVec.ofNat 32 b) 2#32) (View.readAt (Elt Ideal) m7.view (Rect.unit (s := S3x640) (k0_off5 k) S1x128.size (k0_off5_inb k)).toLoadRect (hm7.unread x5))
      (Scalar.select (Scalar.cmpi .eq (BitVec.ofNat 32 b) 1#32) (View.readAt (Elt Ideal) m7.view (Rect.unit (s := S3x640) (k0_off4 k) S1x128.size (k0_off4_inb k)).toLoadRect (hm7.unread x5))
        (View.readAt (Elt Ideal) m7.view (Rect.unit (s := S3x640) (k0_off3 k) S1x128.size (k0_off3_inb k)).toLoadRect (hm7.unread x5)))) (broadcast S1x128 (Scalar.muli (Scf.iv 0#32 1#32 k) 128#32))) broadcasts_S1x128_S128x128)) natLt_1_32)) bitsLt_bf16_f32 : FVec Ideal S128x128 .bf16) (ValueIdx.ix2 t (⟨(x 0).val, hx0⟩ : Fin 128))
      = if t.val = pn (128 * k.val + (x 0).val) - 128 * k.val then (1 : EReal) else 0 := by
    intro t
    refine Eq.trans ?_ (indicator t.val _ k.val t.isLt hp0 hp1 hk)
    show (FloatOps.sitofp .f32 (BitVec.setWidth 32 (IntOp.cmpi .eq (BitVec.ofNat 32 (0 * 128 + t.val)) (broadcastTo S128x128 (subi _ _) broadcasts_S1x128_S128x128 (ValueIdx.ix2 t (⟨(x 0).val, hx0⟩ : Fin 128))))) : Ideal .f32) = _
    rw [broadcastTo_apply _ _ _ (ValueIdx.ix2 (0 : Fin 1) (⟨(x 0).val, hx0⟩ : Fin 128)) (Fin.forall_fin_two.mpr ⟨rfl, rfl⟩), Nat.zero_mul, Nat.zero_add]
    refine congrArg (fun w => (FloatOps.sitofp .f32 (BitVec.setWidth 32 (IntOp.cmpi .eq (BitVec.ofNat 32 t.val) w)) : Ideal .f32)) ?_
    refine congrArg₂ (· - ·) ?_ hiv
    exact (batch_row hm7 x5 b hb k (x 0).val hx0).trans ep
  refine (congrArg (_ + ·) (Finset.sum_congr rfl fun t _ => congrArg₂ (· * ·) (hL t) (operand_read hm2 x0 k _ t ⟨(x 1).val, hx1⟩))).trans ?_
  rw [Finset.sum_eq_single (⟨pn (128 * k.val + (x 0).val) - 128 * k.val, by omega⟩ : Fin 128)]
  · rw [if_pos rfl, one_mul]
    refine (congrArg (· + _) Ideal.ofBits_zero_f32).trans ((zero_add _).trans ?_)
    unfold takenV
    refine congrArg x0 (congrArg₂ (ValueIdx.ix3 (0 : Fin 1)) (Fin.ext ?_) (Fin.ext ?_))
    · show (128 * k.val + (pn (128 * k.val + (x 0).val) - 128 * k.val)) % 640 = pn (128 * k.val + (x 0).val) % 640
      congr 1; omega
    · show (x 1).val = (x 1).val % 960; omega
  · intro t _ ht
    rw [if_neg (fun h => ht (Fin.ext h)), zero_mul]
  · exact fun h => absurd (Finset.mem_univ _) h

/-- One part's product with the permuted operand. -/
theorem product_at (A : S1x640x640.Idx → EReal) (XP : S640x960.Idx → EReal) (c : Fin 640) (d : Fin 960) :
    (matmul (F := Ideal) (φ₁ := .bf16) (φ₂ := .bf16) dot_S640x640_S640x960_S640x960_1_0_0_1_n_n none (shapeCast S640x640 A shapeCasts_S1x640x640_S640x640) XP (constant S640x960 .f32 0x00000000#32)) (ValueIdx.ix2 c d)
      = ∑ q : Fin 640, A (ValueIdx.ix3 (0 : Fin 1) c q) * XP (ValueIdx.ix2 q d) := by
  refine (Ideal.matmul_apply₁_of dot_S640x640_S640x960_S640x960_1_0_0_1_n_n (a := 1) rfl (K := 640) rfl _ _ _ (ValueIdx.ix2 c d) (fun t => ValueIdx.ix2 c t) (fun t => ValueIdx.ix2 t d) ?_ ?_).trans ?_
  · intro t; funext a; fin_cases a <;> rfl
  · intro t; funext a; fin_cases a <;> rfl
  refine (congrArg (· + _) Ideal.ofBits_zero_f32).trans ((zero_add _).trans ?_)
  refine Finset.sum_congr rfl fun q _ => congrArg (· * _) ?_
  refine shapeCast_apply _ _ _ _ ?_
  rw [Shape.rowMajor_val_two, Shape.rowMajor_val_three]
  show ((0 : Fin 1).val * 640 + c.val) * 640 + q.val = c.val * 640 + q.val
  simp

/-- What is stored: the second and third parts of a finite matrix are zero in exact arithmetic. -/
theorem out_value (AV : ℕ → ℕ → EReal) (XV : ℕ → ℕ → ℕ → EReal) (d : S1x640x960.Idx → EReal)
    (hfin : ∀ cc q, cc < 640 → q < 640 → ∃ r : ℝ, AV cc q = (r : EReal)) (h : OutIs (F := Ideal) AV XV d) (x : S1x640x960.Idx) :
    d x = ∑ q : Fin 640, AV (x 1).val q.val * XV (q.val / 16 % 5) (16 * (q.val / 80) + q.val % 16) (x 2).val := by
  obtain ⟨AT, XP, hAT, hXP, hd⟩ := h
  have p0 : ∀ (c q : Fin 640), plane (F := Ideal) AT 0 (ValueIdx.ix3 (0 : Fin 1) c q) = AV c.val q.val := fun c q =>
    (hAT (ValueIdx.ix3 0 c q) (Or.inl (by show q.val < 128 * 5; omega))).trans rfl
  have p1 : ∀ (c q : Fin 640), plane (F := Ideal) AT 1 (ValueIdx.ix3 (0 : Fin 1) c q) = (0 : EReal) := fun c q => by
    refine (hAT (ValueIdx.ix3 1 c q) (Or.inl (by show q.val < 128 * 5; omega))).trans ?_
    obtain ⟨r, hr⟩ := hfin c.val q.val c.isLt q.isLt
    show (AV c.val q.val - AV c.val q.val : EReal) = 0
    rw [hr, ← EReal.coe_sub, sub_self]; rfl
  have p2 : ∀ (c q : Fin 640), plane (F := Ideal) AT 2 (ValueIdx.ix3 (0 : Fin 1) c q) = (0 : EReal) := fun c q => by
    refine (hAT (ValueIdx.ix3 2 c q) (Or.inl (by show q.val < 128 * 5; omega))).trans ?_
    obtain ⟨r, hr⟩ := hfin c.val q.val c.isLt q.isLt
    show ((AV c.val q.val - AV c.val q.val) - (AV c.val q.val - AV c.val q.val) : EReal) = 0
    rw [hr, ← EReal.coe_sub, ← EReal.coe_sub, sub_self]; rfl
  let S : S640x960.Idx → EReal := fun z => ∑ q : Fin 640, AV (z 0).val q.val * XV (q.val / 16 % 5) (16 * (q.val / 80) + q.val % 16) (z 1).val
  have e527 : ∀ (c : Fin 640) (e : Fin 960), k0_pay527 (F := Ideal) XP (plane AT 0) (plane AT 1) (ValueIdx.ix2 c e) = S (ValueIdx.ix2 c e) := by
    intro c e
    unfold k0_pay527
    rw [shapeCast_self]
    show (matmul (F := Ideal) (φ₁ := .bf16) (φ₂ := .bf16) dot_S640x640_S640x960_S640x960_1_0_0_1_n_n none _ XP _ (ValueIdx.ix2 c e) + matmul (F := Ideal) (φ₁ := .bf16) (φ₂ := .bf16) dot_S640x640_S640x960_S640x960_1_0_0_1_n_n none _ XP _ (ValueIdx.ix2 c e) : EReal) = _
    rw [product_at, product_at]
    simp only [p0, p1, zero_mul, Finset.sum_const_zero, add_zero]
    exact Finset.sum_congr rfl fun q _ => congrArg (_ * ·) (hXP (ValueIdx.ix2 q e))
  have e529 : ∀ (c : Fin 640) (e : Fin 960), k0_pay529 (F := Ideal) (k0_pay527 (F := Ideal) XP (plane AT 0) (plane AT 1)) (plane AT 2) XP (ValueIdx.ix2 c e) = S (ValueIdx.ix2 c e) := by
    intro c e
    unfold k0_pay529
    rw [shapeCast_self]
    show (k0_pay527 (F := Ideal) XP (plane AT 0) (plane AT 1) (ValueIdx.ix2 c e) + matmul (F := Ideal) (φ₁ := .bf16) (φ₂ := .bf16) dot_S640x640_S640x960_S640x960_1_0_0_1_n_n none _ XP _ (ValueIdx.ix2 c e) : EReal) = _
    rw [product_at, e527]
    simp only [p2, zero_mul, Finset.sum_const_zero, add_zero]
  have e1 : ∀ Y : S640x960.Idx → EReal, k0_pay1 (F := Ideal) Y x = Y (ValueIdx.ix2 (⟨(x 1).val, (x 1).isLt⟩ : Fin 640) (⟨(x 2).val, (x 2).isLt⟩ : Fin 960)) := by
    intro Y
    unfold k0_pay1
    refine (shapeCast_apply _ _ x (ValueIdx.ix2 (⟨(x 1).val, (x 1).isLt⟩ : Fin 640) (⟨(x 2).val, (x 2).isLt⟩ : Fin 960)) ?_).trans rfl
    rw [Shape.rowMajor_val_two, Shape.rowMajor_val_three]
    have h0 : (x 0).val < 1 := (x 0).isLt
    show (x 1).val * 960 + (x 2).val = ((x 0).val * 640 + (x 1).val) * 960 + (x 2).val
    have : (x 0).val = 0 := by omega
    rw [this]; simp
  rcases hd with hd | hd
  · rw [hd, e1]; exact e527 _ _
  · rw [hd, e1]; exact e529 _ _

end Cert.KernelIdeal.Hand
end
-- ==== Proof.Matrix.lean ====
/- The sparse matrix over the reals, as both programs come to it. -/
module

public import Mathlib.Data.EReal.Operations
public import Idealize.ShloMosaic.Lib.StableHlo.Predicate

@[expose] public section

noncomputable section

namespace Cert.Spec

open Idealize.ShloMosaic Finset

/-- Column `cc`, row `r`: the row's entries that lie in the column, times the row's scale. Entry `j` of row `r` lies in slot
    `P (r / 8) + j`, lane `r % 8`; the row has the entries below its length `RN r`. -/
def matR (P : ℕ → ℕ) (RN : ℕ → BitVec 32) (cn : ℕ → ℕ → BitVec 32) (vr : ℕ → ℕ → ℝ) (sr : ℕ → ℝ) (cc r : ℕ) : ℝ :=
  (∑ j ∈ range 56, if IntOp.cmpi .slt (BitVec.ofNat 32 j) (RN r) = 1#1 ∧ cn (r % 8) (P (r / 8) + j) = BitVec.ofNat 32 cc then vr (r % 8) (P (r / 8) + j) else 0) * sr r

/-- A real sum read in the extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s h ih => rw [sum_insert h, sum_insert h, EReal.coe_add, ih]

end Cert.Spec

end
-- ==== Proof.KernelIdeal.Matrix.lean ====
/- The kernel's matrix over the reals. -/
module

public import proofs.«01_k».proof.Proof.KernelIdeal.Group
public import proofs.«01_k».proof.Proof.Spec
public import Idealize.ShloMosaic.Lib.ValueIdx
public import Idealize.ShloMosaic.PureOps.Ideal.Laws
public import proofs.«01_k».proof.Proof.Matrix

@[expose] public section

set_option maxRecDepth 16384

noncomputable section

namespace Cert.KernelIdeal.Hand

open Idealize.ShloMosaic Idealize.ShloMosaic.TcCoe Cert.KernelIdeal Cert.KernelIdeal.Gen Finset

/-- The accumulator over the reals. -/
theorem colAcc_real (T : ℕ → ℕ → EReal) (TC : ℕ → ℕ → BitVec 32) (tr : ℕ → ℝ) (w : BitVec 32) (l : ℕ) (hT : ∀ j, T j l = (tr j : EReal)) :
    ∀ n, colAcc (F := Ideal) T TC w l n = ((∑ j ∈ range n, if Scalar.cmpi .eq w (TC j l) = 1#1 then tr j else 0 : ℝ) : EReal)
  | 0 => Ideal.ofBits_zero_f32
  | n + 1 => by
    show (colAcc (F := Ideal) T TC w l n + (if Scalar.cmpi .eq w (TC n l) = 1#1 then T n l else Ideal.ofBits .f32 0x00000000#32) : EReal) = _
    rw [colAcc_real T TC tr w l hT n, sum_range_succ, EReal.coe_add, Ideal.ofBits_zero_f32, hT]
    congr 1
    split <;> rfl

theorem slice_row (q : ℕ) (hq : q < 640) : sliceOf (q / 128) (q % 128 / 8) = Cert.Spec.rowOf q / 8 := by
  unfold sliceOf Cert.Spec.rowOf
  have e : q / 128 * 8 + q % 128 / 8 / 2 = q / 16 := by omega
  rw [e]; omega

theorem mat_real (P : ℕ → ℕ) (W : ℕ → ℕ → EReal) (cn : ℕ → ℕ → BitVec 32) (RL : ℕ → BitVec 32) (SC : ℕ → EReal) (hP : Starts P) (hF : Fits P RL)
    (RN : ℕ → BitVec 32) (vr : ℕ → ℕ → ℝ) (sr : ℕ → ℝ) (cc q : ℕ) (hq : q < 640)
    (hRN : RL q = RN (Cert.Spec.rowOf q)) (hvr : ∀ j l, W j l = (vr j l : EReal)) (hsr : SC q = (sr (Cert.Spec.rowOf q) : EReal)) :
    matAt (F := Ideal) P W cn RL SC cc q = ((Cert.Spec.matR P RN cn vr sr cc (Cert.Spec.rowOf q) : ℝ) : EReal) := by
  have hs := slice_row q hq
  have h8 : q % 8 = Cert.Spec.rowOf q % 8 := by unfold Cert.Spec.rowOf; omega
  have hg : q / 128 < 5 := by omega
  have hqq : 128 * (q / 128) + q % 128 = q := by omega
  let tr : ℕ → ℝ := fun j => if Scalar.cmpi .slt (BitVec.ofNat 32 j) (RL q) = 1#1 then vr (Cert.Spec.rowOf q % 8) (P (Cert.Spec.rowOf q / 8) + j) else 0
  have hT : ∀ j, entry (α := EReal) (Ideal.ofBits .f32 0x00000000#32) P W RL (128 * (q / 128) + q % 128) j = (tr j : EReal) := by
    intro j
    rw [hqq]
    unfold entry
    show _ = (((if Scalar.cmpi .slt (BitVec.ofNat 32 j) (RL q) = 1#1 then vr (Cert.Spec.rowOf q % 8) (P (Cert.Spec.rowOf q / 8) + j) else 0 : ℝ)) : EReal)
    split
    · rw [hvr, hs, h8]
    · exact Ideal.ofBits_zero_f32
  unfold matAt Cert.Spec.matR
  rw [EReal.coe_mul]
  refine congrArg₂ (· * ·) ((colAcc_real _ _ tr _ _ hT _).trans (congrArg Real.toEReal ?_)) hsr
  rw [hqq]
  have hw : widest P (q / 128) 16 ≤ 56 := widest_le hP hg 16 (le_refl _)
  have hd := depth_fin ⟨widest P (q / 128) 16, by omega⟩
  have hN : depth P (q / 128) ≤ 56 := hd.2
  have hN' : widest P (q / 128) 16 ≤ depth P (q / 128) := hd.1
  have step : ∀ j, (if Scalar.cmpi .eq (BitVec.ofNat 32 cc) (entry 0#32 P cn RL q j) = 1#1 then tr j else 0)
      = if IntOp.cmpi .slt (BitVec.ofNat 32 j) (RN (Cert.Spec.rowOf q)) = 1#1 ∧ cn (Cert.Spec.rowOf q % 8) (P (Cert.Spec.rowOf q / 8) + j) = BitVec.ofNat 32 cc then vr (Cert.Spec.rowOf q % 8) (P (Cert.Spec.rowOf q / 8) + j) else 0 := by
    intro j
    show (if Scalar.cmpi .eq (BitVec.ofNat 32 cc) (entry 0#32 P cn RL q j) = 1#1 then (if Scalar.cmpi .slt (BitVec.ofNat 32 j) (RL q) = 1#1 then vr (Cert.Spec.rowOf q % 8) (P (Cert.Spec.rowOf q / 8) + j) else 0 : ℝ) else 0) = _
    unfold entry
    rw [← hRN, hs, h8]
    by_cases ho : Scalar.cmpi .slt (BitVec.ofNat 32 j) (RL q) = 1#1
    · have ho' : IntOp.cmpi .slt (BitVec.ofNat 32 j) (RL q) = 1#1 := ho
      rw [if_pos ho, if_pos ho]
      by_cases hc : cn (Cert.Spec.rowOf q % 8) (P (Cert.Spec.rowOf q / 8) + j) = BitVec.ofNat 32 cc
      · rw [if_pos (show Scalar.cmpi .eq _ _ = 1#1 from StableHlo.Predicate.cmpi_eq_iff.mpr hc.symm), if_pos ⟨ho', hc⟩]
      · rw [if_neg (fun h : Scalar.cmpi .eq _ _ = 1#1 => hc (StableHlo.Predicate.cmpi_eq_iff.mp h).symm), if_neg fun h => hc h.2]
    · have ho' : ¬ IntOp.cmpi .slt (BitVec.ofNat 32 j) (RL q) = 1#1 := ho
      rw [if_neg ho, if_neg ho, ite_self]
      exact (if_neg fun h => ho' h.1).symm
  rw [sum_congr rfl fun j _ => step j]
  refine sum_subset (range_subset_range.mpr hN) fun j hj hn => ?_
  rw [mem_range] at hj hn
  refine if_neg fun h => ?_
  have ho : Scalar.cmpi .slt (BitVec.ofNat 32 j) (RL q) = 1#1 := by rw [hRN]; exact h.1
  have hf := hF q j hq hj ho
  have hk := width_le_widest P (q / 128) 16 (q % 128 / 8) (by omega)
  omega

end Cert.KernelIdeal.Hand

end
-- ==== Proof.Ref.Index.lean ====
/- The reference read at an index: which slots, rows and entries it takes. -/
module

public import proofs.«01_k».proof.Proof.Gen.ReferenceIdeal
public import Idealize.ShloMosaic.Lib.Pointwise
public import Idealize.ShloMosaic.Lib.Pipeline.Value
public import Idealize.ShloMosaic.Lib.Routing.Ops
public import Idealize.ShloMosaic.Lib.StackMember

@[expose] public section

noncomputable section

namespace Cert.ReferenceIdeal.Hand

open Idealize.ShloMosaic Idealize.ShloMosaic.TcCoe Cert.ReferenceIdeal Cert.ReferenceIdeal.Gen

/-- The slot of entry `j` of the rows of slice `s`. -/
def slots (a5 : IVec S3x81 32) : IVec S3x80x56 32 :=
  minsi (addi (broadcastInDim S3x80x56 ![0, 1, 2] bcast_S3x80x1_S3x80x56_0_1_2 (broadcastInDim S3x80x1 ![0, 1] bcast_S3x80_S3x80x1_0_1 (extractStridedSlice S3x80 ![0, 0] a5 slices_S3x81_S3x80_0_0)))
      (broadcastInDim S3x80x56 ![0, 1, 2] bcast_S1x1x56_S3x80x56_0_1_2 (broadcastInDim S1x1x56 ![2] bcast_S56_S1x1x56_2 (iotaInDim S56 32 0))))
    (broadcastInDim S3x80x56 ![] bcast_S_S3x80x56 (constantI S_ 32 4479#32))

/-- The slots of all the batches, one after another. -/
def flat (a5 : IVec S3x81 32) : IVec S13440x1 32 :=
  broadcastInDim S13440x1 ![0] bcast_S13440_S13440x1_0 (shapeCast S13440 (addi (broadcastInDim S3x80x56 ![0, 1, 2] bcast_S3x1x1_S3x80x56_0_1_2
    (muli (shapeCast S3x1x1 (iotaInDim S3 32 0) shapeCasts_S3_S3x1x1) (broadcastInDim S3x1x1 ![] bcast_S_S3x1x1 (constantI S_ 32 4480#32)))) (slots a5)) shapeCasts_S3x80x56_S13440)

/-- A table of slots read at the entries. -/
def taken {α : Type} (t : S3x4480x8.Idx → α) (a5 : IVec S3x81 32) : S3x80x56x8.Idx → α :=
  shapeCast S3x80x56x8 (Host.gather gather_S13440x8_S13440x1_S13440x8_1_0_n_n_0_1_18 (shapeCast S13440x8 t shapeCasts_S3x4480x8_S13440x8) (flat a5)) shapeCasts_S13440x8_S3x80x56x8

/-- The entries, scaled, and zero past the end of a row. -/
def weights (vf : FVec Ideal S3x4480x8 .f32) (a3 : FVec Ideal S3x640 .f32) (a4 : IVec S3x640 32) (a5 : IVec S3x81 32) : FVec Ideal S3x80x56x8 .f32 :=
  select (cmpi .slt (broadcastInDim S3x80x56x8 ![0, 1, 2, 3] bcast_S1x1x56x1_S3x80x56x8_0_1_2_3 (broadcastInDim S1x1x56x1 ![2, 3] bcast_S56x1_S1x1x56x1_2_3 (broadcastInDim S56x1 ![0] bcast_S56_S56x1_0 (iotaInDim S56 32 0))))
      (broadcastInDim S3x80x56x8 ![0, 1, 2, 3] bcast_S3x80x1x8_S3x80x56x8_0_1_2_3 (shapeCast S3x80x1x8 a4 shapeCasts_S3x640_S3x80x1x8)))
    (mulf (broadcastInDim S3x80x56x8 ![0, 1, 2, 3] bcast_S3x80x1x8_S3x80x56x8_0_1_2_3 (shapeCast S3x80x1x8 a3 shapeCasts_S3x640_S3x80x1x8)) (taken vf a5))
    (broadcastInDim S3x80x56x8 ![] bcast_S_S3x80x56x8 (constant S_ .f32 0x00000000#32))

/-- The matrix, by columns. -/
def dense (vf : FVec Ideal S3x4480x8 .f32) (a2 : IVec S3x4480x8 32) (a3 : FVec Ideal S3x640 .f32) (a4 : IVec S3x640 32) (a5 : IVec S3x81 32) : FVec Ideal S3x640x640 .f32 :=
  shapeCast S3x640x640 (Host.reduceAdd (select (cmpi .eq (broadcastInDim S3x640x80x56x8 ![0, 1, 2, 3, 4] bcast_S3x1x80x56x8_S3x640x80x56x8_0_1_2_3_4 (broadcastInDim S3x1x80x56x8 ![0, 2, 3, 4] bcast_S3x80x56x8_S3x1x80x56x8_0_2_3_4 (taken a2 a5)))
        (broadcastInDim S3x640x80x56x8 ![0, 1, 2, 3, 4] bcast_S1x640x1x1x1_S3x640x80x56x8_0_1_2_3_4 (broadcastInDim S1x640x1x1x1 ![1, 2, 3, 4] bcast_S640x1x1x1_S1x640x1x1x1_1_2_3_4 (broadcastInDim S640x1x1x1 ![0] bcast_S640_S640x1x1x1_0 (iotaInDim S640 32 0)))))
      (broadcastInDim S3x640x80x56x8 ![0, 1, 2, 3, 4] bcast_S3x1x80x56x8_S3x640x80x56x8_0_1_2_3_4 (broadcastInDim S3x1x80x56x8 ![0, 2, 3, 4] bcast_S3x80x56x8_S3x1x80x56x8_0_2_3_4 (weights vf a3 a4 a5)))
      (broadcastInDim S3x640x80x56x8 ![] bcast_S_S3x640x80x56x8 (constant S_ .f32 0x00000000#32)))
    (constant S_ .f32 0x00000000#32) reducesTo_S3x640x80x56x8_S3x640x80x8_d3 h_S_) shapeCasts_S3x640x80x8_S3x640x640

/-- The rows of `x` in the order of the matrix's rows. -/
def permuted (a0 : FVec Ideal S3x640x960 .bf16) (a6 : IVec S3x640 32) : FVec Ideal S3x640x960 .f32 :=
  extf .f32 (shapeCast S3x640x960 (Host.gather gather_S1920x960_S1920x1_S1920x960_1_0_n_n_0_1_1960 (shapeCast S1920x960 a0 shapeCasts_S3x640x960_S1920x960)
    (broadcastInDim S1920x1 ![0] bcast_S1920_S1920x1_0 (shapeCast S1920 (addi (broadcastInDim S3x640 ![0, 1] bcast_S3x1_S3x640_0_1 (muli (shapeCast S3x1 (iotaInDim S3 32 0) shapeCasts_S3_S3x1) (broadcastInDim S3x1 ![] bcast_S_S3x1 (constantI S_ 32 640#32)))) a6) shapeCasts_S3x640_S1920))) shapeCasts_S1920x960_S3x640x960) bitsLt_bf16_f32

/-- The result. -/
def result (a0 : FVec Ideal S3x640x960 .bf16) (vf : FVec Ideal S3x4480x8 .f32) (a2 : IVec S3x4480x8 32) (a3 : FVec Ideal S3x640 .f32) (a4 : IVec S3x640 32) (a5 : IVec S3x81 32) (a6 : IVec S3x640 32) : FVec Ideal S3x640x960 .bf16 :=
  truncf .bf16 (Host.dotGeneral dot_S3x640x640_S3x640x960_S3x640x960_2_1_1_2_0_0 (some .fp32) (dense vf a2 a3 a4 a5) (permuted a0 a6)) bitsLt_bf16_f32

/-- A small word read signed. -/
theorem toInt_small (n : ℕ) (h : n < 2147483648) : (BitVec.ofNat 32 n).toInt = (n : ℤ) := by
  rw [BitVec.toInt_eq_toNat_cond, BitVec.toNat_ofNat, Nat.mod_eq_of_lt (by omega)]
  rw [if_pos (by omega)]

theorem slots_at (a5 : IVec S3x81 32) (b : Fin 3) (s : Fin 80) (j : Fin 56) (p : ℕ) (hp : p ≤ 4480) (h : a5 (ix2 b ⟨s.val, by omega⟩) = BitVec.ofNat 32 p) :
    slots a5 (ix3 b s j) = BitVec.ofNat 32 (min (p + j.val) 4479) := by
  have e : slots a5 (ix3 b s j) = IntOp.minsi (a5 (ix2 b ⟨s.val, by omega⟩) + BitVec.ofNat 32 j.val) 4479#32 := by
    unfold slots
    pointwise
    rfl
  rw [e, h]
  have hj := j.isLt
  unfold IntOp.minsi
  rw [← BitVec.ofNat_add]
  have h1 := toInt_small (p + j.val) (by omega)
  have h2 : (4479#32).toInt = 4479 := by decide
  simp only [BitVec.slt, h1, h2, decide_eq_true_eq]
  split
  · rw [Nat.min_eq_left (by omega)]
  · rw [Nat.min_eq_right (by omega)]

theorem flat_at (a5 : IVec S3x81 32) (b : Fin 3) (s : Fin 80) (j : Fin 56) (n : Fin 13440) (hn : n.val = (b.val * 80 + s.val) * 56 + j.val) (t : ℕ) (h : slots a5 (ix3 b s j) = BitVec.ofNat 32 t) :
    flat a5 (ix2 n (0 : Fin 1)) = BitVec.ofNat 32 (4480 * b.val + t) := by
  have e : flat a5 (ix2 n (0 : Fin 1)) = BitVec.ofNat 32 b.val * 4480#32 + slots a5 (ix3 b s j) := by
    unfold flat
    rw [broadcastInDim_apply _ _ _ _ (ix1 n) (by intro a; rw [Subsingleton.elim a 0]; rfl), shapeCast_apply _ _ _ (ix3 b s j) (by rw [Shape.rowMajor_val_three, Shape.rowMajor_val_one]; exact hn.symm)]
    refine congrArg (· + slots a5 (ix3 b s j)) ?_
    pointwise
    rfl
  rw [e, h, BitVec.ofNat_add, Nat.mul_comm, BitVec.ofNat_mul]

theorem taken_at {α : Type} (x : S3x4480x8.Idx → α) (a5 : IVec S3x81 32) (b : Fin 3) (s : Fin 80) (j : Fin 56) (l : Fin 8) (t : Fin 4480) (h : slots a5 (ix3 b s j) = BitVec.ofNat 32 t.val) :
    taken x a5 (ix4 b s j l) = x (ix3 b t l) := by
  have hb := b.isLt; have hs := s.isLt; have hj := j.isLt; have ht := t.isLt
  let n : Fin 13440 := ⟨(b.val * 80 + s.val) * 56 + j.val, by omega⟩
  let q : Fin 13440 := ⟨4480 * b.val + t.val, by omega⟩
  unfold taken
  rw [shapeCast_apply _ _ _ (ix2 n l) (by rw [Shape.rowMajor_val_two, Shape.rowMajor_val_four]; rfl)]
  refine (Routing.gather_row gather_S13440x8_S13440x1_S13440x8_1_0_n_n_0_1_18 rfl rfl rfl rfl rfl _ _ n l q (flat_at a5 b s j n rfl t.val h) (by decide)).trans ?_
  refine (shapeCast_apply _ _ _ (ix3 b t l) (by rw [Shape.rowMajor_val_two, Shape.rowMajor_val_three]; show (b.val * 4480 + t.val) * 8 + l.val = (4480 * b.val + t.val) * 8 + l.val; omega))

theorem weights_at (vf : FVec Ideal S3x4480x8 .f32) (a3 : FVec Ideal S3x640 .f32) (a4 : IVec S3x640 32) (a5 : IVec S3x81 32) (b : Fin 3) (s : Fin 80) (j : Fin 56) (l : Fin 8) (r : Fin 640) (hr : r.val = s.val * 8 + l.val) :
    weights vf a3 a4 a5 (ix4 b s j l) = if IntOp.cmpi .slt (BitVec.ofNat 32 j.val) (a4 (ix2 b r)) = 1#1 then (a3 (ix2 b r) * taken vf a5 (ix4 b s j l) : EReal) else 0 := by
  have e4 : shapeCast S3x80x1x8 a4 shapeCasts_S3x640_S3x80x1x8 (ix4 b s (0 : Fin 1) l) = a4 (ix2 b r) :=
    shapeCast_apply _ _ _ _ (by rw [Shape.rowMajor_val_two, Shape.rowMajor_val_four]; show b.val * 640 + r.val = ((b.val * 80 + s.val) * 1 + 0) * 8 + l.val; omega)
  have e3 : shapeCast S3x80x1x8 a3 shapeCasts_S3x640_S3x80x1x8 (ix4 b s (0 : Fin 1) l) = a3 (ix2 b r) :=
    shapeCast_apply _ _ _ _ (by rw [Shape.rowMajor_val_two, Shape.rowMajor_val_four]; show b.val * 640 + r.val = ((b.val * 80 + s.val) * 1 + 0) * 8 + l.val; omega)
  clear e3 e4
  unfold weights
  generalize taken vf a5 = T
  pointwise
  rw [show (⟨s.val * 8 + l.val, by omega⟩ : Fin 640) = r from Fin.ext hr.symm]
  rfl

theorem dense_at (vf : FVec Ideal S3x4480x8 .f32) (a2 : IVec S3x4480x8 32) (a3 : FVec Ideal S3x640 .f32) (a4 : IVec S3x640 32) (a5 : IVec S3x81 32) (b : Fin 3) (c : Fin 640) (r : Fin 640) :
    dense vf a2 a3 a4 a5 (ix3 b c r) = ∑ j : Fin 56, if IntOp.cmpi .eq (taken a2 a5 (ix4 b ⟨r.val / 8, by omega⟩ j ⟨r.val % 8, by omega⟩)) (BitVec.ofNat 32 c.val) = 1#1 then
      weights vf a3 a4 a5 (ix4 b ⟨r.val / 8, by omega⟩ j ⟨r.val % 8, by omega⟩) else 0 := by
  unfold dense
  generalize taken a2 a5 = T
  generalize weights vf a3 a4 a5 = W
  rw [shapeCast_apply _ _ _ (ix4 b c ⟨r.val / 8, by omega⟩ ⟨r.val % 8, by omega⟩) (by rw [Shape.rowMajor_val_three, Shape.rowMajor_val_four]; show ((b.val * 640 + c.val) * 80 + r.val / 8) * 8 + r.val % 8 = (b.val * 640 + c.val) * 640 + r.val; omega)]
  pointwise
  rfl

theorem extf_id {s : Shape} (x : FVec Ideal s .bf16) : extf .f32 x bitsLt_bf16_f32 = x := rfl
theorem truncf_id {s : Shape} (x : FVec Ideal s .f32) : truncf .bf16 x bitsLt_bf16_f32 = x := rfl

theorem permuted_at (a0 : FVec Ideal S3x640x960 .bf16) (a6 : IVec S3x640 32) (b : Fin 3) (r : Fin 640) (d : Fin 960) (p : Fin 640) (h : a6 (ix2 b r) = BitVec.ofNat 32 p.val) :
    permuted a0 a6 (ix3 b r d) = a0 (ix3 b p d) := by
  have hb := b.isLt; have hr := r.isLt; have hp := p.isLt
  let n : Fin 1920 := ⟨b.val * 640 + r.val, by omega⟩
  let q : Fin 1920 := ⟨640 * b.val + p.val, by omega⟩
  unfold permuted
  rw [extf_id]
  rw [shapeCast_apply _ _ _ (ix2 n d) (by rw [Shape.rowMajor_val_two, Shape.rowMajor_val_three]; rfl)]
  refine (Routing.gather_row gather_S1920x960_S1920x1_S1920x960_1_0_n_n_0_1_1960 rfl rfl rfl rfl rfl _ _ n d q ?_ (by decide)).trans ?_
  · rw [broadcastInDim_apply _ _ _ _ (ix1 n) (by intro a; rw [Subsingleton.elim a 0]; rfl), shapeCast_apply _ _ _ (ix2 b r) (by rw [Shape.rowMajor_val_two, Shape.rowMajor_val_one]; rfl)]
    show IntOp.addi _ (a6 (ix2 b r)) = _
    rw [h, BitVec.ofNat_add, Nat.mul_comm, BitVec.ofNat_mul]
    refine congrArg (· + BitVec.ofNat 32 p.val) ?_
    pointwise
    rfl
  · exact shapeCast_apply _ _ _ (ix3 b p d) (by rw [Shape.rowMajor_val_two, Shape.rowMajor_val_three]; show (b.val * 640 + p.val) * 960 + d.val = (640 * b.val + p.val) * 960 + d.val; omega)

theorem result_at (a0 : FVec Ideal S3x640x960 .bf16) (vf : FVec Ideal S3x4480x8 .f32) (a2 : IVec S3x4480x8 32) (a3 : FVec Ideal S3x640 .f32) (a4 : IVec S3x640 32) (a5 : IVec S3x81 32) (a6 : IVec S3x640 32) (b : Fin 3) (c : Fin 640) (d : Fin 960) :
    result a0 vf a2 a3 a4 a5 a6 (ix3 b c d) = ∑ r : Fin 640, (dense vf a2 a3 a4 a5 (ix3 b c r) * permuted a0 a6 (ix3 b r d) : EReal) := by
  unfold result
  rw [truncf_id]
  generalize dense vf a2 a3 a4 a5 = A
  generalize permuted a0 a6 = B
  exact StackMember.dotGeneral_stack_apply _ (some .fp32) A B b c d

end Cert.ReferenceIdeal.Hand

end
-- ==== Proof.Ref.Dense.lean ====
/- The reference's matrix over the reals. -/
module

public import proofs.«01_k».proof.Proof.Ref.Index
public import proofs.«01_k».proof.Proof.Matrix

@[expose] public section

noncomputable section

namespace Cert.ReferenceIdeal.Hand

open Idealize.ShloMosaic Idealize.ShloMosaic.TcCoe Cert.ReferenceIdeal Cert.ReferenceIdeal.Gen Finset

theorem dense_real (vf : FVec Ideal S3x4480x8 .f32) (a2 : IVec S3x4480x8 32) (a3 : FVec Ideal S3x640 .f32) (a4 : IVec S3x640 32) (a5 : IVec S3x81 32) (b : Fin 3) (c : Fin 640) (r : Fin 640)
    (P : ℕ → ℕ) (hle : ∀ s, s ≤ 80 → P s ≤ 4480) (hv : ∀ s : Fin 81, a5 (ix2 b s) = BitVec.ofNat 32 (P s.val)) (RN : ℕ → BitVec 32) (cn : ℕ → ℕ → BitVec 32) (vr : ℕ → ℕ → ℝ) (sr : ℕ → ℝ)
    (hfit : ∀ j, j < 56 → IntOp.cmpi .slt (BitVec.ofNat 32 j) (RN r.val) = 1#1 → P (r.val / 8) + j < P (r.val / 8 + 1))
    (hRN : a4 (ix2 b r) = RN r.val) (hcn : ∀ (t : Fin 4480) (l : Fin 8), a2 (ix3 b t l) = cn l.val t.val) (hvr : ∀ (t : Fin 4480) (l : Fin 8), vf (ix3 b t l) = (vr l.val t.val : EReal))
    (hsr : a3 (ix2 b r) = (sr r.val : EReal)) :
    dense vf a2 a3 a4 a5 (ix3 b c r) = ((Cert.Spec.matR P RN cn vr sr c.val r.val : ℝ) : EReal) := by
  rw [dense_at]
  unfold Cert.Spec.matR
  rw [sum_mul, Cert.Spec.coe_sum, ← Fin.sum_univ_eq_sum_range (fun j => (((if IntOp.cmpi .slt (BitVec.ofNat 32 j) (RN r.val) = 1#1 ∧ cn (r.val % 8) (P (r.val / 8) + j) = BitVec.ofNat 32 c.val then vr (r.val % 8) (P (r.val / 8) + j) else 0) * sr r.val : ℝ) : EReal))]
  refine sum_congr rfl fun j _ => ?_
  rw [weights_at vf a3 a4 a5 b ⟨r.val / 8, by omega⟩ j ⟨r.val % 8, by omega⟩ r (by show r.val = r.val / 8 * 8 + r.val % 8; omega), hRN]
  by_cases ho : IntOp.cmpi .slt (BitVec.ofNat 32 j.val) (RN r.val) = 1#1
  · have hf := hfit j.val j.isLt ho
    have h1 := hle (r.val / 8 + 1) (by omega)
    have hs := slots_at a5 b ⟨r.val / 8, by omega⟩ j (P (r.val / 8)) (hle _ (by omega)) (hv ⟨r.val / 8, by omega⟩)
    rw [show min (P (r.val / 8) + j.val) 4479 = P (r.val / 8) + j.val by omega] at hs
    rw [taken_at a2 a5 b ⟨r.val / 8, by omega⟩ j ⟨r.val % 8, by omega⟩ ⟨P (r.val / 8) + j.val, by omega⟩ hs, taken_at vf a5 b ⟨r.val / 8, by omega⟩ j ⟨r.val % 8, by omega⟩ ⟨P (r.val / 8) + j.val, by omega⟩ hs, hcn, hvr, hsr, if_pos ho]
    simp only [StableHlo.Predicate.cmpi_eq_iff]
    by_cases hc : cn (r.val % 8) (P (r.val / 8) + j.val) = BitVec.ofNat 32 c.val
    · rw [if_pos hc, if_pos ⟨ho, hc⟩, ← EReal.coe_mul, mul_comm]
    · rw [if_neg hc, if_neg fun h => hc h.2, zero_mul]; rfl
  · rw [if_neg ho, ite_self]
    have hn : ¬ (IntOp.cmpi .slt (BitVec.ofNat 32 j.val) (RN r.val) = 1#1 ∧ cn (r.val % 8) (P (r.val / 8) + j.val) = BitVec.ofNat 32 c.val) := fun h => ho h.1
    rw [if_neg hn, zero_mul]; rfl

end Cert.ReferenceIdeal.Hand

end
-- ==== Proof.Ref.Run.lean ====
/- The reference's run: what its result array holds at the end. -/
module

public import proofs.«01_k».proof.Proof.Ref.Index
public import proofs.«01_k».proof.Proof.Gen.ReferenceIdeal.Frame
public import Idealize.ShloMosaic.Lib.StableHlo.RunRead
public import Idealize.ShloMosaic.Lib.Pipeline.ValueKit

@[expose] public section

set_option maxRecDepth 16384

noncomputable section

namespace Cert.ReferenceIdeal.Hand

open Idealize.ShloMosaic Idealize.ShloMosaic.TcCoe Idealize.ShloMosaic.Tactic Idealize.SL.Sem
open Cert.ReferenceIdeal Cert.ReferenceIdeal.Gen

set_option maxHeartbeats 1000000 in
/-- The host's operations after the decode, read at the result. -/
theorem host_value (V : Valuation τ sig (Elt Ideal)) :
    StableHlo.after ([hostOps1, hostOps1_1, hostOps1_2, hostOps1_3, hostOps1_4] : List (List (HloOp τ sig (Elt Ideal)))).flatten V (Proc.devRef .tc main_v67)
      = result (V (Proc.devRef .tc main_arg0)) (V (Proc.devRef .tc main_v1)) (V (Proc.devRef .tc main_arg2)) (V (Proc.devRef .tc main_arg3)) (V (Proc.devRef .tc main_arg4)) (V (Proc.devRef .tc main_arg5)) (V (Proc.devRef .tc main_arg6)) := by
  simp only [List.flatten_cons, List.flatten_nil, List.append_nil, hostOps1, hostOps1_1, hostOps1_2, hostOps1_3, hostOps1_4, List.cons_append, List.nil_append]
  after_reads_simp
  rfl

variable (m : (ℓ : Loc nD τ sig) → Buf (Elt Ideal) ℓ) (ρ : Dev nD → PrngReg)

/-- The values the argument's bytes denote. -/
abbrev decoded (a1 : IVec S3x4480x8 8) : FVec Ideal S3x4480x8 .f32 := (bitcastToFloat .fp8e4m3 a1 : FVec Ideal S3x4480x8 .fp8e4m3)

set_option backward.isDefEq.respectTransparency.types false in
/-- The decode writes each value unchanged. -/
theorem decode (c : Dev nD) : (dats m 0 c).arrAt 1 (cfgs 0).N = decoded (m ((c.tc : Thread nD τ).loc main_arg1)) := by
  refine (dats m 0 c).arrAt_eq_of_covers 1 _ (by decide +kernel) fun t hf y => ?_
  blk_simp
  rw [after0_1]
  frame_out
  unfold k0_pay1
  rw [shapeCast_self]
  have hv : V m c main_v0 = (bitcastToFloat .fp8e4m3 (m ((c.tc : Thread nD τ).loc main_arg1)) : FVec Ideal S3x4480x8 .fp8e4m3) := rfl
  exact congrFun hv _

set_option backward.isDefEq.respectTransparency.types false in
theorem value (c : Dev nD) : Pipeline.afterTail₀ cfgs (dats m) 0 (V0 m) [hostOps1, hostOps1_1, hostOps1_2, hostOps1_3, hostOps1_4] c main_v67
    = result (m ((c.tc : Thread nD τ).loc main_arg0)) (decoded (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀
  rw [host_value]
  have k (b : Ref sig .tc) (hb : ∀ w, Pipeline.arrRef spec0 w ≠ b) := Pipeline.withArrays_of_ne (cfgs 0).spec c (V0 m c) (fun w => (dats m 0 c).arrAt w (cfgs 0).N) b hb
  rw [k main_arg0 (by decide), k main_arg2 (by decide), k main_arg3 (by decide), k main_arg4 (by decide), k main_arg5 (by decide), k main_arg6 (by decide)]
  have e1 : Pipeline.withArrays (cfgs 0).spec c (V0 m c) (fun w => (dats m 0 c).arrAt w (cfgs 0).N) (Proc.devRef .tc main_v1) = decoded (m ((c.tc : Thread nD τ).loc main_arg1)) :=
    (Pipeline.withArrays_arr (cfgs 0).spec (by decide) c (V0 m c) (fun w => (dats m 0 c).arrAt w (cfgs 0).N) 1).trans (decode m c)
  rw [e1]
  rw [show V0 m c (Proc.devRef .tc main_arg0) = _ from V_main_arg0 m c, show V0 m c (Proc.devRef .tc main_arg2) = _ from V_main_arg2 m c, show V0 m c (Proc.devRef .tc main_arg3) = _ from V_main_arg3 m c,
    show V0 m c (Proc.devRef .tc main_arg4) = _ from V_main_arg4 m c, show V0 m c (Proc.devRef .tc main_arg5) = _ from V_main_arg5 m c, show V0 m c (Proc.devRef .tc main_arg6) = _ from V_main_arg6 m c]

/-- Every run ends with the result array at the reference's result and the arguments as they were. -/
theorem run_value : θ_run defs (onTc (τ := τ) (main (F := Ideal))) (s₀ m ρ) (fun r => ∀ c : Dev nD,
      r.2.mem ((c.tc : Thread nD τ).loc main_v67) = result (m ((c.tc : Thread nD τ).loc main_arg0)) (decoded (m ((c.tc : Thread nD τ).loc main_arg1))) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :=
  (θ_run defs _ _).mono (fun _ h c => ((h c).2 main_v67 (Pipeline.mem_restRefs_of main_v67 (by decide) (by decide))).trans (value m c)) (run_main m ρ)

end Cert.ReferenceIdeal.Hand
end
-- ==== Proof.KernelIdeal.Result.lean ====
/- What the kernel leaves in its result array, in exact arithmetic: the reference's result. -/
module

public import proofs.«01_k».proof.Proof.PreValues
public import proofs.«01_k».proof.Proof.KernelIdeal.Frame
public import proofs.«01_k».proof.Proof.KernelIdeal.Values
public import proofs.«01_k».proof.Proof.KernelIdeal.Matrix
public import proofs.«01_k».proof.Proof.Ref.Dense
public import proofs.«01_k».proof.Proof.Ref.Run

@[expose] public section

noncomputable section

namespace Cert.KernelIdeal.Hand

open Idealize.ShloMosaic Idealize.ShloMosaic.TcCoe Cert.KernelIdeal Cert.KernelIdeal.Gen Finset

theorem ofNat_val (n : ℕ) [NeZero n] (i : Fin n) : Fin.ofNat n i.val = i := Fin.ext (Nat.mod_eq_of_lt i.isLt)

variable [Cert.Pre_well_formed.Facts]

/-- The reference's result from the kernel's arguments on core `c`. -/
abbrev answer (m : (ℓ : Loc nD τ sig) → Buf (Elt Ideal) ℓ) (c : Dev nD) : S3x640x960.Idx → EReal :=
  Cert.ReferenceIdeal.Hand.result (m ((c.tc : Thread nD τ).loc main_arg0)) (Cert.ReferenceIdeal.Hand.decoded (m ((c.tc : Thread nD τ).loc main_arg1))) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

set_option maxHeartbeats 1000000 in
/-- Under the precondition every grid point leaves its batch of the reference's result. -/
theorem good (m : (ℓ : Loc nD τ sig) → Buf (Elt Ideal) ℓ) (hO : Ok m) (c : Dev nD) (t : Fin (cfgM m hO).N)
    (a0 : S3x640x960.Idx → EReal) (a1 : S3x4480x8.Idx → BitVec 8) (a2 : S3x4480x8.Idx → BitVec 32) (a3 : S3x640.Idx → EReal) (a4 : S3x640.Idx → BitVec 32) (a5 : S3x81.Idx → BitVec 32) (a6 : S3x640.Idx → BitVec 32)
    (m0 : m ((c.tc : Thread nD τ).loc main_arg0) = a0) (m1 : m ((c.tc : Thread nD τ).loc main_arg1) = a1) (m2 : m ((c.tc : Thread nD τ).loc main_arg2) = a2) (m3 : m ((c.tc : Thread nD τ).loc main_arg3) = a3)
    (m4 : m ((c.tc : Thread nD τ).loc main_arg4) = a4) (m5 : m ((c.tc : Thread nD τ).loc main_arg5) = a5) (m6 : m ((c.tc : Thread nD τ).loc main_arg6) = a6)
    (h0 : (Cert.Pre_well_formed.fn (F := Ideal) a0 a1 a2 a3 a4 a5 a6).1 = fun _ => 1#1)
    (h1 : (Cert.Pre_well_formed.fn (F := Ideal) a0 a1 a2 a3 a4 a5 a6).2.1 = fun _ => 1#1)
    (h2 : (Cert.Pre_well_formed.fn (F := Ideal) a0 a1 a2 a3 a4 a5 a6).2.2.1 = fun _ => 1#1)
    (h3 : (Cert.Pre_well_formed.fn (F := Ideal) a0 a1 a2 a3 a4 a5 a6).2.2.2.1 = fun _ => 1#1)
    (h4 : (Cert.Pre_well_formed.fn (F := Ideal) a0 a1 a2 a3 a4 a5 a6).2.2.2.2.1 = fun _ => 1#1)
    (h5 : (Cert.Pre_well_formed.fn (F := Ideal) a0 a1 a2 a3 a4 a5 a6).2.2.2.2.2 = fun _ => 1#1) :
    Good (F := Ideal) m hO c t (fun y => Cert.ReferenceIdeal.Hand.result a0 (Cert.ReferenceIdeal.Hand.decoded a1) a2 a3 a4 a5 a6 (ValueIdx.ix3 (grid0.coords t 0) (y 1) (y 2))) := by
  obtain rfl : c = 0 := Subsingleton.elim _ _
  let b : Fin 3 := grid0.coords t 0
  have eb : Fin.ofNat 3 b.val = b := ofNat_val 3 b
  obtain ⟨P, hz, hle, hmono, hw, hv⟩ := Cert.Pre_well_formed.Hand.starts (F := Ideal) a0 a1 a2 a3 a4 a5 a6 h0 h1 b
  have hval : ∀ x : S3x4480x8.Idx, ∃ r : ℝ, (FloatOps.ofBits .fp8e4m3 (a1 x) : Ideal .fp8e4m3) = (r : EReal) := fun x => Cert.Pre_well_formed.Hand.real_of_bits (a1 x) (Cert.Pre_well_formed.Hand.value_bits (F := Ideal) a0 a1 a2 a3 a4 a5 a6 h4 x)
  choose vr0 hvr0 using hval
  have hsc : ∀ x : S3x640.Idx, ∃ r : ℝ, a3 x = (r : EReal) := fun x => Cert.Pre_well_formed.Hand.scale_real a0 a1 a2 a3 a4 a5 a6 h5 x
  choose sr0 hsr0 using hsc
  have hpw : ∀ q : Fin 640, ∃ p : ℕ, a6 (ValueIdx.ix2 b q) = BitVec.ofNat 32 p ∧ 128 * (q.val / 128) ≤ p ∧ p < 128 * (q.val / 128) + 128 := fun q => Cert.Pre_well_formed.Hand.perm_window (F := Ideal) a0 a1 a2 a3 a4 a5 a6 h3 b q
  choose p0 hp0 using hpw
  let x0 : S1x640x960.Idx → EReal := iblk m hO 0 0 t
  let x1 : S1x4480x8.Idx → EReal := iblk m hO 0 1 t
  let x2 : S1x4480x8.Idx → BitVec 32 := iblk m hO 0 2 t
  let x3 : S3x640.Idx → EReal := iblk m hO 0 3 t
  let x4 : S3x640.Idx → BitVec 32 := iblk m hO 0 4 t
  let x5 : S3x640.Idx → BitVec 32 := iblk m hO 0 5 t
  have e0 : ∀ (r : Fin 640) (d : Fin 960), x0 (ValueIdx.ix3 (0 : Fin 1) r d) = a0 (ValueIdx.ix3 b r d) := fun r d => (iblk0_at m hO 0 t r d).trans (congrFun m0 _)
  have e1 : ∀ (r : Fin 4480) (d : Fin 8), x1 (ValueIdx.ix3 (0 : Fin 1) r d) = (FloatOps.ofBits .fp8e4m3 (a1 (ValueIdx.ix3 b r d)) : Ideal .fp8e4m3) := fun r d => (iblk1_at m hO 0 t r d).trans (congrArg (fun f : S3x4480x8.Idx → BitVec 8 => (FloatOps.ofBits .fp8e4m3 (f (ValueIdx.ix3 b r d)) : Ideal .fp8e4m3)) m1)
  have e2 : ∀ (r : Fin 4480) (d : Fin 8), x2 (ValueIdx.ix3 (0 : Fin 1) r d) = a2 (ValueIdx.ix3 b r d) := fun r d => (iblk2_at m hO 0 t r d).trans (congrFun m2 _)
  have e3 : x3 = a3 := (iblk3_eq m hO 0 t).trans m3
  have e4 : x4 = a4 := (iblk4_eq m hO 0 t).trans m4
  have e5 : x5 = a6 := (iblk5_eq m hO 0 t).trans m6
  let RN : ℕ → BitVec 32 := fun r => x4 (ValueIdx.ix2 (Fin.ofNat 3 b.val) (Fin.ofNat 640 r))
  let cn : ℕ → ℕ → BitVec 32 := fun j l => slotV (α := BitVec 32) x2 (j % 8) (l % 4480)
  let vr : ℕ → ℕ → ℝ := fun j l => vr0 (ValueIdx.ix3 b (Fin.ofNat 4480 (l % 4480)) (Fin.ofNat 8 (j % 8)))
  let sr : ℕ → ℝ := fun r => sr0 (ValueIdx.ix2 (Fin.ofNat 3 b.val) (Fin.ofNat 640 r))
  let pn : ℕ → ℕ := fun q => p0 (Fin.ofNat 640 q)
  have hpn : ∀ q, q < 640 → x5 (ValueIdx.ix2 (Fin.ofNat 3 b.val) (Fin.ofNat 640 q)) = BitVec.ofNat 32 (pn q) ∧ 128 * (q / 128) ≤ pn q ∧ pn q < 128 * (q / 128) + 128 := by
    intro q hq
    have h := hp0 (Fin.ofNat 640 q)
    have eq : (Fin.ofNat 640 q).val = q := Nat.mod_eq_of_lt hq
    rw [eq] at h
    rw [e5, eb]
    exact h
  have hRN : ∀ r : Fin 640, RN r.val = a4 (ValueIdx.ix2 b r) := by
    intro r
    show x4 (ValueIdx.ix2 (Fin.ofNat 3 b.val) (Fin.ofNat 640 r.val)) = _
    rw [e4, eb, ofNat_val]
  have hfit : ∀ (r : Fin 640) (j : ℕ), j < 56 → IntOp.cmpi .slt (BitVec.ofNat 32 j) (RN r.val) = 1#1 → P (r.val / 8) + j < P (r.val / 8 + 1) := by
    intro r j hj h
    rw [hRN] at h
    exact Cert.Pre_well_formed.Hand.row_fits (F := Ideal) a0 a1 a2 a3 a4 a5 a6 h2 b P hle hmono hw hv r j hj h
  have hF : Fits P (laneV x4 b.val) := by
    intro q j hq hj ho
    rw [slice_row q hq]
    exact hfit ⟨Cert.Spec.rowOf q, Cert.Spec.rowOf_lt hq⟩ j hj ho
  refine ⟨P, slotV (α := EReal) x1, slotV (α := BitVec 32) x2, takenV (α := EReal) x0 pn, ⟨hle, hmono, hw⟩, hF, fun _ hm k x => values_of hm x1 k x, fun _ hm k x => columns_of hm x2 k x,
    fun _ hm2 _ hm7 k x => operand_of hm2 hm7 x0 x5 b.val b.isLt pn hpn k x, ?_, ?_⟩
  · intro ι hι
    have e : tbl m 0 = m (((0 : Dev nD).tc : Thread nD τ).loc main_arg5) := V_main_arg5 m 0
    rw [e, m5]
    refine Eq.trans ?_ (hv (ι 1))
    have hb : ι 0 = b := Fin.ext hι
    rw [← hb]
    exact congrArg a5 (ValueIdx.eq_ix2 ι)
  intro d hd
  funext y
  have hmat : ∀ cc q, q < 640 → matAt (F := Ideal) P (fun j l => slotV (α := EReal) x1 (j % 8) (l % 4480)) (fun j l => slotV (α := BitVec 32) x2 (j % 8) (l % 4480)) (laneV x4 b.val) (laneV x3 b.val) cc q
      = ((Cert.Spec.matR P RN cn vr sr cc (Cert.Spec.rowOf q) : ℝ) : EReal) := by
    intro cc q hq
    refine mat_real P _ cn _ _ ⟨hle, hmono, hw⟩ hF RN vr sr cc q hq rfl (fun j l => ?_) ?_
    · exact (e1 _ _).trans (hvr0 _)
    · exact (congrFun e3 _).trans (hsr0 _)
  refine (out_value _ _ d (fun cc q _ hq => ⟨_, hmat cc q hq⟩) hd y).trans ?_
  let cc : Fin 640 := y 1
  let dd : Fin 960 := y 2
  let f : ℕ → EReal := fun r => ((Cert.Spec.matR P RN cn vr sr cc.val r : ℝ) : EReal) * a0 (ValueIdx.ix3 b (Fin.ofNat 640 (pn r)) dd)
  have hl : ∀ q : Fin 640, matAt (F := Ideal) P (fun j l => slotV (α := EReal) x1 (j % 8) (l % 4480)) (fun j l => slotV (α := BitVec 32) x2 (j % 8) (l % 4480)) (laneV x4 b.val) (laneV x3 b.val) cc.val q.val
      * takenV (α := EReal) x0 pn (q.val / 16 % 5) (16 * (q.val / 80) + q.val % 16) dd.val = f (Cert.Spec.rowOf q.val) := by
    intro q
    rw [hmat _ _ q.isLt]
    refine congrArg (_ * ·) ?_
    unfold takenV
    rw [show 128 * (q.val / 16 % 5) + (16 * (q.val / 80) + q.val % 16) = Cert.Spec.rowOf q.val by unfold Cert.Spec.rowOf; omega, e0, ofNat_val]
  refine (Finset.sum_congr rfl fun q _ => hl q).trans ?_
  refine (Fin.sum_univ_eq_sum_range (fun q => f (Cert.Spec.rowOf q)) 640).trans ((Cert.Spec.sum_rowOf f).trans ((Fin.sum_univ_eq_sum_range f 640).symm.trans ?_))
  refine Eq.symm ((Cert.ReferenceIdeal.Hand.result_at a0 (Cert.ReferenceIdeal.Hand.decoded a1) a2 a3 a4 a5 a6 b cc dd).trans (Finset.sum_congr rfl fun r _ => congrArg₂ (· * ·) ?_ ?_))
  · refine Cert.ReferenceIdeal.Hand.dense_real (Cert.ReferenceIdeal.Hand.decoded a1) a2 a3 a4 a5 b cc r P hle hv RN cn vr sr (hfit r) (hRN r).symm ?_ ?_ ?_
    · intro t' l
      show a2 (ValueIdx.ix3 b t' l) = x2 (ValueIdx.ix3 (0 : Fin 1) (Fin.ofNat 4480 (t'.val % 4480)) (Fin.ofNat 8 (l.val % 8)))
      rw [Nat.mod_eq_of_lt t'.isLt, Nat.mod_eq_of_lt l.isLt, ofNat_val, ofNat_val, e2]
    · intro t' l
      show (FloatOps.ofBits .fp8e4m3 (a1 (ValueIdx.ix3 b t' l)) : Ideal .fp8e4m3) = ((vr0 (ValueIdx.ix3 b (Fin.ofNat 4480 (t'.val % 4480)) (Fin.ofNat 8 (l.val % 8))) : ℝ) : EReal)
      rw [Nat.mod_eq_of_lt t'.isLt, Nat.mod_eq_of_lt l.isLt, ofNat_val, ofNat_val]
      exact hvr0 _
    · show a3 (ValueIdx.ix2 b r) = ((sr0 (ValueIdx.ix2 (Fin.ofNat 3 b.val) (Fin.ofNat 640 r.val)) : ℝ) : EReal)
      rw [eb, ofNat_val]
      exact hsr0 _
  · have hq := hp0 r
    have er : pn r.val = p0 r := congrArg p0 (ofNat_val 640 r)
    have hlt : p0 r < 640 := by have := r.isLt; omega
    rw [er]
    refine (Cert.ReferenceIdeal.Hand.permuted_at a0 a6 b r dd ⟨p0 r, hlt⟩ hq.1).trans ?_
    exact congrArg (fun p : Fin 640 => a0 (ValueIdx.ix3 b p dd)) (Fin.ext (Nat.mod_eq_of_lt hlt).symm)

end Cert.KernelIdeal.Hand

end
-- ==== Proof.lean ====
/- The proof of the claims: the frames of the kernel, of its idealization and of the reference, and the equality of the two results in
   exact arithmetic. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_well_formed
public import proofs.«01_k».proof.Proof.Gen.ReferenceIdeal.Frame
public import proofs.«01_k».proof.Proof.Kernel.Table
public import proofs.«01_k».proof.Proof.KernelIdeal.Result

@[expose] public section

noncomputable section

namespace Cert.Proof

open Idealize.ShloMosaic Idealize.SL.Sem

/-- The kernel terminates without a fault and keeps its arguments, at the machine's formats. -/
theorem kernel_frame : Cert.quiescent_Kernel := fun m g h =>
  Cert.Kernel.Hand.frame m g (Cert.Kernel.Hand.ok_all m) (Cert.Kernel.Hand.tableOk_of m _ _ _ _ _ _ (h 0).1 (h 0).2.1)

/-- The idealization terminates without a fault, keeps its arguments and leaves the reference's result. -/
theorem kernelIdeal_value (m : (ℓ : Loc Cert.KernelIdeal.nD Cert.KernelIdeal.τ Cert.KernelIdeal.sig) → Buf (Elt Ideal) ℓ) (g : Dev Cert.KernelIdeal.nD → PrngReg) (h : Cert.Pre_KernelIdeal m) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_v1) = Cert.KernelIdeal.Hand.answer m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  Cert.KernelIdeal.Hand.run_value (F := Ideal) m g (fun hO c t y => Cert.KernelIdeal.Hand.answer m c (ValueIdx.ix3 (Cert.KernelIdeal.grid0.coords t 0) (y 1) (y 2))) trivial
    (fun c t => Cert.KernelIdeal.Hand.good m trivial c t _ _ _ _ _ _ _ rfl rfl rfl rfl rfl rfl rfl (h c).1 (h c).2.1 (h c).2.2.1 (h c).2.2.2.1 (h c).2.2.2.2.1 (h c).2.2.2.2.2)
    (Cert.KernelIdeal.Hand.answer m) (fun _ _ _ => rfl)

/-- The frame of the idealization. -/
theorem kernelIdeal_frame : Cert.quiescent_KernelIdeal := fun m g h =>
  (θ_run _ _ _).mono (fun _ hr => ⟨fun c => (hr.1 c).2, hr.2⟩) (kernelIdeal_value m g h)

/-- The reference terminates without a fault and keeps its arguments. -/
theorem reference_frame : Cert.quiescent_ReferenceIdeal := fun m g _ => Cert.ReferenceIdeal.Gen.frame m g

/-- The same under the precondition. -/
theorem reference_frame_pre : Cert.quiescent_ReferenceIdeal_pre_well_formed := fun m g _ => Cert.ReferenceIdeal.Gen.frame m g

/-- From equal arguments the two programs end with equal results. -/
theorem algebraic : Cert.algebraic_KernelIdeal_ReferenceIdeal := fun m g m' g' h ha =>
  ⟨Cert.KernelIdeal.Hand.answer m, (θ_run _ _ _).mono (fun _ hr c => hr.1 c) (kernelIdeal_value m g h),
    (θ_run _ _ _).mono (fun _ hr c => ⟨(hr.1 c).trans (by
      obtain ⟨e0, e1, e2, e3, e4, e5, e6⟩ := ha c
      rw [e0, e1, e2, e3, e4, e5, e6]), hr.2 c⟩)
      (θ_run_and (Cert.ReferenceIdeal.Hand.run_value m' g') (Cert.ReferenceIdeal.Gen.unchanged m' g'))⟩

theorem claim : Cert.Claim := ⟨Cert.Kernel.Gen.facts, Cert.KernelIdeal.Gen.facts, Cert.ReferenceIdeal.Gen.facts, Cert.Pre_well_formed.Gen.facts,
  kernel_frame, kernelIdeal_frame, reference_frame, reference_frame_pre, trivial, algebraic⟩

end Cert.Proof

end
